-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v49_0)) (v1 : (c : Dev Cert.Kernel2Ideal.nD) → Buf (Elt Ideal) ((c.tc : Thread Cert.Kernel2Ideal.nD Cert.Kernel2Ideal.τ).loc Cert.Kernel2Ideal.main_v49_1)) (v2 : (c : Dev Cert.Kernel2Ideal.nD) → Buf (Elt Ideal) ((c.tc : Thread Cert.Kernel2Ideal.nD Cert.Kernel2Ideal.τ).loc Cert.Kernel2Ideal.main_v49_2)) (v3 : (c : Dev Cert.Kernel2Ideal.nD) → Buf (Elt Ideal) ((c.tc : Thread Cert.Kernel2Ideal.nD Cert.Kernel2Ideal.τ).loc Cert.Kernel2Ideal.main_v49_3)) (v4 : (c : Dev Cert.Kernel2Ideal.nD) → Buf (Elt Ideal) ((c.tc : Thread Cert.Kernel2Ideal.nD Cert.Kernel2Ideal.τ).loc Cert.Kernel2Ideal.main_v49_4)) (v5 : (c : Dev Cert.Kernel2Ideal.nD) → Buf (Elt Ideal) ((c.tc : Thread Cert.Kernel2Ideal.nD Cert.Kernel2Ideal.τ).loc Cert.Kernel2Ideal.main_v49_5)) (v6 : (c : Dev Cert.Kernel2Ideal.nD) → Buf (Elt Ideal) ((c.tc : Thread Cert.Kernel2Ideal.nD Cert.Kernel2Ideal.τ).loc Cert.Kernel2Ideal.main_v49_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49_0) = v0 c
          ∧ r.2.mem ((c.tc : Thread Cert.Kernel2Ideal.nD Cert.Kernel2Ideal.τ).loc Cert.Kernel2Ideal.main_v49_1) = v1 c
          ∧ r.2.mem ((c.tc : Thread Cert.Kernel2Ideal.nD Cert.Kernel2Ideal.τ).loc Cert.Kernel2Ideal.main_v49_2) = v2 c
          ∧ r.2.mem ((c.tc : Thread Cert.Kernel2Ideal.nD Cert.Kernel2Ideal.τ).loc Cert.Kernel2Ideal.main_v49_3) = v3 c
          ∧ r.2.mem ((c.tc : Thread Cert.Kernel2Ideal.nD Cert.Kernel2Ideal.τ).loc Cert.Kernel2Ideal.main_v49_4) = v4 c
          ∧ r.2.mem ((c.tc : Thread Cert.Kernel2Ideal.nD Cert.Kernel2Ideal.τ).loc Cert.Kernel2Ideal.main_v49_5) = v5 c
          ∧ r.2.mem ((c.tc : Thread Cert.Kernel2Ideal.nD Cert.Kernel2Ideal.τ).loc Cert.Kernel2Ideal.main_v49_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v174) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_v97) = v2 c
          ∧ r.2.mem ((c.tc : Thread Cert.Reference2Ideal.nD Cert.Reference2Ideal.τ).loc Cert.Reference2Ideal.main_v98) = v3 c
          ∧ r.2.mem ((c.tc : Thread Cert.Reference2Ideal.nD Cert.Reference2Ideal.τ).loc Cert.Reference2Ideal.main_v175) = v4 c
          ∧ r.2.mem ((c.tc : Thread Cert.Reference2Ideal.nD Cert.Reference2Ideal.τ).loc Cert.Reference2Ideal.main_v176) = v5 c
          ∧ r.2.mem ((c.tc : Thread Cert.Reference2Ideal.nD Cert.Reference2Ideal.τ).loc Cert.Reference2Ideal.main_v166) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v59_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v59_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x8x128 : Shape := ⟨4, ![2, 8192, 8, 128]⟩
abbrev S2x8192x8x64 : Shape := ⟨4, ![2, 8192, 8, 64]⟩
abbrev S2x256x8x128 : Shape := ⟨4, ![2, 256, 8, 128]⟩
abbrev S2x8192x64 : Shape := ⟨3, ![2, 8192, 64]⟩
abbrev S2x256x64 : Shape := ⟨3, ![2, 256, 64]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  bcast_S_S2x256x8x128 : S_.BroadcastsInDim S2x256x8x128 (![] : Fin 0 → Fin S2x256x8x128.rank)
  reducesTo_S2x256x8x128_S_d0_1_2_3 : S2x256x8x128.ReducesTo [0, 1, 2, 3] S_
  bcast_S_S2x8192x64 : S_.BroadcastsInDim S2x8192x64 (![] : Fin 0 → Fin S2x8192x64.rank)
  reducesTo_S2x8192x64_S_d0_1_2 : S2x8192x64.ReducesTo [0, 1, 2] S_
  bcast_S_S2x256x64 : S_.BroadcastsInDim S2x256x64 (![] : Fin 0 → Fin S2x256x64.rank)
  reducesTo_S2x256x64_S_d0_1_2 : S2x256x64.ReducesTo [0, 1, 2] S_

variable [Facts]

def fn_part1 {F : FTy → Type} [FloatOps F] (main_arg4 : FVec F S2x8192x64 .f32) (main_arg5 : FVec F S2x256x64 .f32) (main_v13 : IVec S_ 1) (main_v16 : IVec S2x256x8x128 1) : IVec S_ 1 :=
  let main_c_5 : IVec S_ 1 := constantI S_ 1 1#1
  let main_v17 : IVec S_ 1 := (fun x v => Host.reduce IntOp.andi x v reducesTo_S2x256x8x128_S_d0_1_2_3 h_S_) main_v16 main_c_5
  let main_v18 : IVec S_ 1 := andi main_v13 main_v17
  let main_v19 : FVec F S2x8192x64 .f32 := Host.absf main_arg4
  let main_cst_6 : FVec F S_ .f32 := constant S_ .f32 0x7F800000#32
  let main_v20 : FVec F S2x8192x64 .f32 := broadcastInDim S2x8192x64 ![] bcast_S_S2x8192x64 main_cst_6
  let main_v21 : IVec S2x8192x64 1 := cmpf .olt main_v19 main_v20
  let main_c_7 : IVec S_ 1 := constantI S_ 1 1#1
  let main_v22 : IVec S_ 1 := (fun x v => Host.reduce IntOp.andi x v reducesTo_S2x8192x64_S_d0_1_2 h_S_) main_v21 main_c_7
  let main_v23 : IVec S_ 1 := andi main_v18 main_v22
  let main_v24 : FVec F S2x256x64 .f32 := Host.absf main_arg5
  let main_cst_8 : FVec F S_ .f32 := constant S_ .f32 0x7F800000#32
  let main_v25 : FVec F S2x256x64 .f32 := broadcastInDim S2x256x64 ![] bcast_S_S2x256x64 main_cst_8
  let main_v26 : IVec S2x256x64 1 := cmpf .olt main_v24 main_v25
  let main_c_9 : IVec S_ 1 := constantI S_ 1 1#1
  let main_v27 : IVec S_ 1 := (fun x v => Host.reduce IntOp.andi x v reducesTo_S2x256x64_S_d0_1_2 h_S_) main_v26 main_c_9
  let main_v28 : IVec S_ 1 := andi main_v23 main_v27
  main_v28

def fn {F : FTy → Type} [FloatOps F] (main_arg0 : FVec F S2x8192x8x128 .f32) (main_arg1 : FVec F S2x8192x8x64 .f32) (main_arg2 : FVec F S2x8192x8x128 .f32) (main_arg3 : FVec F S2x256x8x128 .f32) (main_arg4 : FVec F S2x8192x64 .f32) (main_arg5 : FVec F S2x256x64 .f32) (main_arg6 : FVec F S2x8192x8x128 .f32) (main_arg7 : FVec F S2x256x8x128 .f32) : IVec S_ 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  let main_v9 : FVec F S2x8192x8x128 .f32 := Host.absf main_arg2
  let main_cst_2 : FVec F S_ .f32 := constant S_ .f32 0x7F800000#32
  let main_v10 : FVec F S2x8192x8x128 .f32 := broadcastInDim S2x8192x8x128 ![] bcast_S_S2x8192x8x128 main_cst_2
  let main_v11 : IVec S2x8192x8x128 1 := cmpf .olt main_v9 main_v10
  let main_c_3 : IVec S_ 1 := constantI S_ 1 1#1
  let main_v12 : IVec S_ 1 := (fun x v => Host.reduce IntOp.andi x v reducesTo_S2x8192x8x128_S_d0_1_2_3 h_S_) main_v11 main_c_3
  let main_v13 : IVec S_ 1 := andi main_v8 main_v12
  let main_v14 : FVec F S2x256x8x128 .f32 := Host.absf main_arg3
  let main_cst_4 : FVec F S_ .f32 := constant S_ .f32 0x7F800000#32
  let main_v15 : FVec F S2x256x8x128 .f32 := broadcastInDim S2x256x8x128 ![] bcast_S_S2x256x8x128 main_cst_4
  let main_v16 : IVec S2x256x8x128 1 := cmpf .olt main_v14 main_v15
  fn_part1 (F := F) main_arg4 main_arg5 main_v13 main_v16
-- ==== Kernel.lean ====
abbrev S2x8192x8x128 : Shape := ⟨4, ![2, 8192, 8, 128]⟩
abbrev S2x8192x8x64 : Shape := ⟨4, ![2, 8192, 8, 64]⟩
abbrev S2x256x8x128 : Shape := ⟨4, ![2, 256, 8, 128]⟩
abbrev S2x8192x64 : Shape := ⟨3, ![2, 8192, 64]⟩
abbrev S2x256x64 : Shape := ⟨3, ![2, 256, 64]⟩
abbrev S_ : Shape := ⟨0, ![]⟩
abbrev S2x8192x8x256 : Shape := ⟨4, ![2, 8192, 8, 256]⟩
abbrev S2x256x8x256 : Shape := ⟨4, ![2, 256, 8, 256]⟩
abbrev S2x8448x8x256 : Shape := ⟨4, ![2, 8448, 8, 256]⟩
abbrev S16896x2048 : Shape := ⟨2, ![16896, 2048]⟩
abbrev S2x8448x64 : Shape := ⟨3, ![2, 8448, 64]⟩
abbrev S2x8448x1x64 : Shape := ⟨4, ![2, 8448, 1, 64]⟩
abbrev S2x8448x8x64 : Shape := ⟨4, ![2, 8448, 8, 64]⟩
abbrev S2x8448x8x128 : Shape := ⟨4, ![2, 8448, 8, 128]⟩
abbrev S2x8x128x8448 : Shape := ⟨4, ![2, 8, 128, 8448]⟩
abbrev S2x8x16x8448 : Shape := ⟨4, ![2, 8, 16, 8448]⟩
abbrev S2x8x144x8448 : Shape := ⟨4, ![2, 8, 144, 8448]⟩
abbrev S2x8448x2048 : Shape := ⟨3, ![2, 8448, 2048]⟩
abbrev S16384x1024 : Shape := ⟨2, ![16384, 1024]⟩
abbrev S256x256 : Shape := ⟨2, ![256, 256]⟩
abbrev S1x8448x256 : Shape := ⟨3, ![1, 8448, 256]⟩
abbrev S1x1x144x8448 : Shape := ⟨4, ![1, 1, 144, 8448]⟩
abbrev S2048x128 : Shape := ⟨2, ![2048, 128]⟩
abbrev S1x256 : Shape := ⟨2, ![1, 256]⟩
abbrev S144x256 : Shape := ⟨2, ![144, 256]⟩
abbrev S1x768x256 : Shape := ⟨3, ![1, 768, 256]⟩
abbrev S768x256 : Shape := ⟨2, ![768, 256]⟩
abbrev S1x1x144x768 : Shape := ⟨4, ![1, 1, 144, 768]⟩
abbrev S144x768 : Shape := ⟨2, ![144, 768]⟩
abbrev S256 : Shape := ⟨1, ![256]⟩
abbrev S128x256 : Shape := ⟨2, ![128, 256]⟩
abbrev S256x128 : Shape := ⟨2, ![256, 128]⟩

abbrev nBuf : Space → Nat
  | .hbm => 42
  | .vmem => 22
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8192x8x128, .f32⟩
  | .hbm, ⟨3, _⟩ => ⟨S2x256x8x128, .f32⟩
  | .hbm, ⟨4, _⟩ => ⟨S2x8192x64, .f32⟩
  | .hbm, ⟨5, _⟩ => ⟨S2x256x64, .f32⟩
  | .hbm, ⟨6, _⟩ => ⟨S2x8192x8x128, .f32⟩
  | .hbm, ⟨7, _⟩ => ⟨S2x256x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x8192x8x64, .f32⟩
  | .hbm, ⟨17, _⟩ => ⟨S2x8192x8x256, .f32⟩
  | .hbm, ⟨18, _⟩ => ⟨S2x8192x8x256, .f32⟩
  | .hbm, ⟨19, _⟩ => ⟨S2x8192x8x256, .f32⟩
  | .hbm, ⟨20, _⟩ => ⟨S_, .f32⟩
  | .hbm, ⟨21, _⟩ => ⟨S2x256x8x256, .f32⟩
  | .hbm, ⟨22, _⟩ => ⟨S2x8448x8x256, .f32⟩
  | .hbm, ⟨23, _⟩ => ⟨S16896x2048, .f32⟩
  | .hbm, ⟨24, _⟩ => ⟨S16896x2048, .bf16⟩
  | .hbm, ⟨25, _⟩ => ⟨S2x8448x64, .f32⟩
  | .hbm, ⟨26, _⟩ => ⟨S2x8448x1x64, .f32⟩
  | .hbm, ⟨27, _⟩ => ⟨S2x8448x8x64, .f32⟩
  | .hbm, ⟨28, _⟩ => ⟨S2x8448x8x128, .f32⟩
  | .hbm, ⟨29, _⟩ => ⟨S_, .f32⟩
  | .hbm, ⟨30, _⟩ => ⟨S2x8448x8x64, .f32⟩
  | .hbm, ⟨31, _⟩ => ⟨S2x8448x8x256, .f32⟩
  | .hbm, ⟨32, _⟩ => ⟨S16896x2048, .f32⟩
  | .hbm, ⟨33, _⟩ => ⟨S16896x2048, .bf16⟩
  | .hbm, ⟨34, _⟩ => ⟨S2x8448x8x128, .f32⟩
  | .hbm, ⟨35, _⟩ => ⟨S2x8x128x8448, .f32⟩
  | .hbm, ⟨36, _⟩ => ⟨S_, .f32⟩
  | .hbm, ⟨37, _⟩ => ⟨S2x8x16x8448, .f32⟩
  | .hbm, ⟨38, _⟩ => ⟨S2x8x144x8448, .f32⟩
  | .hbm, ⟨39, _⟩ => ⟨S2x8x144x8448, .bf16⟩
  | .hbm, ⟨40, _⟩ => ⟨S2x8448x2048, .bf16⟩
  | .hbm, ⟨41, _⟩ => ⟨S16384x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S1x8448x256, .bf16⟩
  | .local _ .vmem, ⟨17, _⟩ => ⟨S1x8448x256, .bf16⟩
  | .local _ .vmem, ⟨18, _⟩ => ⟨S1x1x144x8448, .bf16⟩
  | .local _ .vmem, ⟨19, _⟩ => ⟨S1x1x144x8448, .bf16⟩
  | .local _ .vmem, ⟨20, _⟩ => ⟨S2048x128, .bf16⟩
  | .local _ .vmem, ⟨21, _⟩ => ⟨S2048x128, .bf16⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c0_i32 : BitVec 32 := 0#32
  let v4 : BitVec 32 := Scalar.addi v3 c0_i32
  let c0_i32_0 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c1_i32_0 : BitVec 32 := 1#32
  let v4 : BitVec 32 := Scalar.addi v3 c1_i32_0
  let c0_i32 : BitVec 32 := 0#32
  ![v4.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c2_i32 : BitVec 32 := 2#32
  let v4 : BitVec 32 := Scalar.addi v3 c2_i32
  let c0_i32 : BitVec 32 := 0#32
  ![v4.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c3_i32 : BitVec 32 := 3#32
  let v4 : BitVec 32 := Scalar.addi v3 c3_i32
  let c0_i32 : BitVec 32 := 0#32
  ![v4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c4_i32 : BitVec 32 := 4#32
  let v4 : BitVec 32 := Scalar.addi v3 c4_i32
  let c0_i32 : BitVec 32 := 0#32
  ![v4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c5_i32 : BitVec 32 := 5#32
  let v4 : BitVec 32 := Scalar.addi v3 c5_i32
  let c0_i32 : BitVec 32 := 0#32
  ![v4.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c6_i32 : BitVec 32 := 6#32
  let v4 : BitVec 32 := Scalar.addi v3 c6_i32
  let c0_i32 : BitVec 32 := 0#32
  ![v4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let c1_i32 : BitVec 32 := 1#32
  let v1 : BitVec 32 := Scalar.addi v0 c1_i32
  let c8_i32 : BitVec 32 := 8#32
  let v2 : BitVec 32 := Scalar.muli arg2 c8_i32
  let v3 : BitVec 32 := Scalar.addi v1 v2
  let c7_i32 : BitVec 32 := 7#32
  let v4 : BitVec 32 := Scalar.addi v3 c7_i32
  let c0_i32 : BitVec 32 := 0#32
  ![v4.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8448x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x144x8448 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S2x8192x8x128 : Shape := ⟨4, ![2, 8192, 8, 128]⟩
abbrev S2x8192x8x64 : Shape := ⟨4, ![2, 8192, 8, 64]⟩
abbrev S2x256x8x128 : Shape := ⟨4, ![2, 256, 8, 128]⟩
abbrev S2x8192x64 : Shape := ⟨3, ![2, 8192, 64]⟩
abbrev S2x256x64 : Shape := ⟨3, ![2, 256, 64]⟩
abbrev S2x8448x8x128 : Shape := ⟨4, ![2, 8448, 8, 128]⟩
abbrev S2x8448x64 : Shape := ⟨3, ![2, 8448, 64]⟩
abbrev S2x8x8192x8448 : Shape := ⟨4, ![2, 8, 8192, 8448]⟩
abbrev S2x8448x8192x8 : Shape := ⟨4, ![2, 8448, 8192, 8]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8192x8x128, .f32⟩
  | .hbm, ⟨3, _⟩ => ⟨S2x256x8x128, .f32⟩
  | .hbm, ⟨4, _⟩ => ⟨S2x8192x64, .f32⟩
  | .hbm, ⟨5, _⟩ => ⟨S2x256x64, .f32⟩
  | .hbm, ⟨6, _⟩ => ⟨S2x8192x8x128, .f32⟩
  | .hbm, ⟨7, _⟩ => ⟨S2x256x8x128, .f32⟩
  | .hbm, ⟨8, _⟩ => ⟨S2x8448x8x128, .f32⟩
  | .hbm, ⟨9, _⟩ => ⟨S2x8448x64, .f32⟩
  | .hbm, ⟨10, _⟩ => ⟨S2x8448x8x128, .f32⟩
  | .hbm, ⟨11, _⟩ => ⟨S2x8x8192x8448, .f32⟩
  | .hbm, ⟨12, _⟩ => ⟨S2x8448x8192x8, .f32⟩
  | .hbm, ⟨13, _⟩ => ⟨S2x8x8192x8448, .f32⟩
  | .hbm, ⟨14, _⟩ => ⟨S2x8x8192x8448, .f32⟩
  | .hbm, ⟨15, _⟩ => ⟨S_, .f32⟩
  | .hbm, ⟨16, _⟩ => ⟨S_, .f32⟩
  | .hbm, ⟨17, _⟩ => ⟨S2x8x8192x8448, .f32⟩
  | .hbm, ⟨18, _⟩ => ⟨S2x8x8192x8448, .f32⟩
  | .hbm, ⟨19, _⟩ => ⟨S_, .f32⟩
  | .hbm, ⟨20, _⟩ => ⟨S2x8x8192, .f32⟩
  | .hbm, ⟨21, _⟩ => ⟨S_, .f32⟩
  | .hbm, ⟨22, _⟩ => ⟨S2x8x8192, .f32⟩
  | .hbm, ⟨23, _⟩ => ⟨S2x8x8192, .f32⟩
  | .hbm, ⟨24, _⟩ => ⟨S2x8x8192x1, .f32⟩
  | .hbm, ⟨25, _⟩ => ⟨S2x8x8192x8448, .f32⟩
  | .hbm, ⟨26, _⟩ => ⟨S2x8x8192x8448, .f32⟩
  | .hbm, ⟨27, _⟩ => ⟨S2x8x8192x8448, .f32⟩
  | .hbm, ⟨28, _⟩ => ⟨S_, .f32⟩
  | .hbm, ⟨29, _⟩ => ⟨S2x8x8192, .f32⟩
  | .hbm, ⟨30, _⟩ => ⟨S2x8x8192x1, .f32⟩
  | .hbm, ⟨31, _⟩ => ⟨S2x8x8192x8448, .f32⟩
  | .hbm, ⟨32, _⟩ => ⟨S2x8x8192x8448, .f32⟩
  | .hbm, ⟨33, _⟩ => ⟨S2x8x128x8192, .f32⟩
  | .hbm, ⟨34, _⟩ => ⟨S2x8192x8x128, .f32⟩
  | .hbm, ⟨35, _⟩ => ⟨S16384x1024, .f32⟩
  | .hbm, ⟨36, _⟩ => ⟨S16384x1024, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel2.lean ====
abbrev S2x8192x2048 : Shape := ⟨3, ![2, 8192, 2048]⟩
abbrev S2x256x2048 : Shape := ⟨3, ![2, 256, 2048]⟩
abbrev S2x12288 : Shape := ⟨2, ![2, 12288]⟩
abbrev S12288 : Shape := ⟨1, ![12288]⟩
abbrev S2048 : Shape := ⟨1, ![2048]⟩
abbrev S2048x4192 : Shape := ⟨2, ![2048, 4192]⟩
abbrev S2x3360 : Shape := ⟨2, ![2, 3360]⟩
abbrev S2x1024 : Shape := ⟨2, ![2, 1024]⟩
abbrev S2x64x1024 : Shape := ⟨3, ![2, 64, 1024]⟩
abbrev S160x1024 : Shape := ⟨2, ![160, 1024]⟩
abbrev S64 : Shape := ⟨1, ![64]⟩
abbrev S1x12288 : Shape := ⟨2, ![1, 12288]⟩
abbrev S_ : Shape := ⟨0, ![]⟩
abbrev S5x12288 : Shape := ⟨2, ![5, 12288]⟩
abbrev S8x12288 : Shape := ⟨2, ![8, 12288]⟩
abbrev S48x1x2048 : Shape := ⟨3, ![48, 1, 2048]⟩
abbrev S2048x64 : Shape := ⟨2, ![2048, 64]⟩
abbrev S2048x768 : Shape := ⟨2, ![2048, 768]⟩
abbrev S2048x128 : Shape := ⟨2, ![2048, 128]⟩
abbrev S64x1 : Shape := ⟨2, ![64, 1]⟩
abbrev S2048x3072 : Shape := ⟨2, ![2048, 3072]⟩
abbrev S2048x160 : Shape := ⟨2, ![2048, 160]⟩
abbrev S2048x256 : Shape := ⟨2, ![2048, 256]⟩
abbrev S2048x4608 : Shape := ⟨2, ![2048, 4608]⟩
abbrev S2x3072 : Shape := ⟨2, ![2, 3072]⟩
abbrev S2x64 : Shape := ⟨2, ![2, 64]⟩
abbrev S2x128 : Shape := ⟨2, ![2, 128]⟩
abbrev S2x160 : Shape := ⟨2, ![2, 160]⟩
abbrev S2x256 : Shape := ⟨2, ![2, 256]⟩
abbrev S2x512 : Shape := ⟨2, ![2, 512]⟩
abbrev S256x1024 : Shape := ⟨2, ![256, 1024]⟩
abbrev S1x64x1024 : Shape := ⟨3, ![1, 64, 1024]⟩
abbrev S64x1024 : Shape := ⟨2, ![64, 1024]⟩
abbrev S64x2048 : Shape := ⟨2, ![64, 2048]⟩
abbrev S128x2048 : Shape := ⟨2, ![128, 2048]⟩
abbrev S1x2048 : Shape := ⟨2, ![1, 2048]⟩
abbrev S16896x1024 : Shape := ⟨2, ![16896, 1024]⟩
abbrev S16896x2048 : Shape := ⟨2, ![16896, 2048]⟩
abbrev S1x256x2048 : Shape := ⟨3, ![1, 256, 2048]⟩
abbrev S1x8x2048 : Shape := ⟨3, ![1, 8, 2048]⟩
abbrev S1x1x2048 : Shape := ⟨3, ![1, 1, 2048]⟩
abbrev S256x2048 : Shape := ⟨2, ![256, 2048]⟩
abbrev S8x2048 : Shape := ⟨2, ![8, 2048]⟩
abbrev S272x2048 : Shape := ⟨2, ![272, 2048]⟩
abbrev S272 : Shape := ⟨1, ![272]⟩
abbrev S272x1 : Shape := ⟨2, ![272, 1]⟩
abbrev S2048x1024 : Shape := ⟨2, ![2048, 1024]⟩
abbrev S272x1024 : Shape := ⟨2, ![272, 1024]⟩
abbrev S1x1024 : Shape := ⟨2, ![1, 1024]⟩
abbrev S2048x512 : Shape := ⟨2, ![2048, 512]⟩
abbrev S272x512 : Shape := ⟨2, ![272, 512]⟩
abbrev S256x512 : Shape := ⟨2, ![256, 512]⟩
abbrev S1x512 : Shape := ⟨2, ![1, 512]⟩
abbrev S256x128 : Shape := ⟨2, ![256, 128]⟩
abbrev S256x256 : Shape := ⟨2, ![256, 256]⟩

abbrev nBuf : Space → Nat
  | .hbm => 94
  | .vmem => 35
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x12288, .f32⟩
  | .hbm, ⟨3, _⟩ => ⟨S12288, .f32⟩
  | .hbm, ⟨4, _⟩ => ⟨S2048, .f32⟩
  | .hbm, ⟨5, _⟩ => ⟨S2048x4192, .f32⟩
  | .hbm, ⟨6, _⟩ => ⟨S2x3360, .f32⟩
  | .hbm, ⟨7, _⟩ => ⟨S2x1024, .f32⟩
  | .hbm, ⟨8, _⟩ => ⟨S2x64x1024, .f32⟩
  | .hbm, ⟨9, _⟩ => ⟨S2x1024, .f32⟩
  | .hbm, ⟨10, _⟩ => ⟨S2x64x1024, .f32⟩
  | .hbm, ⟨11, _⟩ => ⟨S160x1024, .f32⟩
  | .hbm, ⟨12, _⟩ => ⟨S64, .i32⟩
  | .hbm, ⟨13, _⟩ => ⟨S64, .i1⟩
  | .hbm, ⟨14, _⟩ => ⟨S1x12288, .f32⟩
  | .hbm, ⟨15, _⟩ => ⟨S_, .f32⟩
  | .hbm, ⟨16, _⟩ => ⟨S5x12288, .f32⟩
  | .hbm, ⟨17, _⟩ => ⟨S8x12288, .f32⟩
  | .hbm, ⟨18, _⟩ => ⟨S48x1x2048, .f32⟩
  | .hbm, ⟨19, _⟩ => ⟨S2048x64, .f32⟩
  | .hbm, ⟨20, _⟩ => ⟨S2048x768, .f32⟩
  | .hbm, ⟨21, _⟩ => ⟨S_, .i32⟩
  | .hbm, ⟨22, _⟩ => ⟨S_, .f32⟩
  | .hbm, ⟨23, _⟩ => ⟨S2048x128, .f32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S2048x64, .f32⟩
  | .hbm, ⟨30, _⟩ => ⟨S_, .i32⟩
  | .hbm, ⟨31, _⟩ => ⟨S_, .f32⟩
  | .hbm, ⟨32, _⟩ => ⟨S2048x128, .f32⟩
  | .hbm, ⟨33, _⟩ => ⟨S2048x3072, .f32⟩
  | .hbm, ⟨34, _⟩ => ⟨S2048x64, .f32⟩
  | .hbm, ⟨35, _⟩ => ⟨S_, .i32⟩
  | .hbm, ⟨36, _⟩ => ⟨S_, .f32⟩
  | .hbm, ⟨37, _⟩ => ⟨S2048x128, .f32⟩
  | .hbm, ⟨38, _⟩ => ⟨S2048x64, .f32⟩
  | .hbm, ⟨39, _⟩ => ⟨S_, .i32⟩
  | .hbm, ⟨40, _⟩ => ⟨S_, .f32⟩
  | .hbm, ⟨41, _⟩ => ⟨S2048x128, .f32⟩
  | .hbm, ⟨42, _⟩ => ⟨S2048x160, .f32⟩
  | .hbm, ⟨43, _⟩ => ⟨S_, .i32⟩
  | .hbm, ⟨44, _⟩ => ⟨S_, .f32⟩
  | .hbm, ⟨45, _⟩ => ⟨S2048x256, .f32⟩
  | .hbm, ⟨46, _⟩ => ⟨S2048x4608, .f32⟩
  | .hbm, ⟨47, _⟩ => ⟨S2048x4608, .bf16⟩
  | .hbm, ⟨48, _⟩ => ⟨S2x3072, .f32⟩
  | .hbm, ⟨49, _⟩ => ⟨S2x64, .f32⟩
  | .hbm, ⟨50, _⟩ => ⟨S_, .i32⟩
  | .hbm, ⟨51, _⟩ => ⟨S_, .f32⟩
  | .hbm, ⟨52, _⟩ => ⟨S2x128, .f32⟩
  | .hbm, ⟨53, _⟩ => ⟨S2x64, .f32⟩
  | .hbm, ⟨54, _⟩ => ⟨S_, .i32⟩
  | .hbm, ⟨55, _⟩ => ⟨S_, .f32⟩
  | .hbm, ⟨56, _⟩ => ⟨S2x128, .f32⟩
  | .hbm, ⟨57, _⟩ => ⟨S2x160, .f32⟩
  | .hbm, ⟨58, _⟩ => ⟨S_, .i32⟩
  | .hbm, ⟨59, _⟩ => ⟨S_, .f32⟩
  | .hbm, ⟨60, _⟩ => ⟨S2x256, .f32⟩
  | .hbm, ⟨61, _⟩ => ⟨S2x512, .f32⟩
  | .hbm, ⟨62, _⟩ => ⟨S_, .i32⟩
  | .hbm, ⟨63, _⟩ => ⟨S_, .f32⟩
  | .hbm, ⟨64, _⟩ => ⟨S256x1024, .f32⟩
  | .hbm, ⟨65, _⟩ => ⟨S256x1024, .bf16⟩
  | .hbm, ⟨66, _⟩ => ⟨S1x64x1024, .f32⟩
  | .hbm, ⟨67, _⟩ => ⟨S64x1024, .f32⟩
  | .hbm, ⟨68, _⟩ => ⟨S1x64x1024, .f32⟩
  | .hbm, ⟨69, _⟩ => ⟨S64x1024, .f32⟩
  | .hbm, ⟨70, _⟩ => ⟨S64x2048, .f32⟩
  | .hbm, ⟨71, _⟩ => ⟨S_, .i32⟩
  | .hbm, ⟨72, _⟩ => ⟨S_, .f32⟩
  | .hbm, ⟨73, _⟩ => ⟨S128x2048, .f32⟩
  | .hbm, ⟨74, _⟩ => ⟨S128x2048, .bf16⟩
  | .hbm, ⟨75, _⟩ => ⟨S1x64x1024, .f32⟩
  | .hbm, ⟨76, _⟩ => ⟨S64x1024, .f32⟩
  | .hbm, ⟨77, _⟩ => ⟨S1x64x1024, .f32⟩
  | .hbm, ⟨78, _⟩ => ⟨S64x1024, .f32⟩
  | .hbm, ⟨79, _⟩ => ⟨S64x2048, .f32⟩
  | .hbm, ⟨80, _⟩ => ⟨S_, .i32⟩
  | .hbm, ⟨81, _⟩ => ⟨S_, .f32⟩
  | .hbm, ⟨82, _⟩ => ⟨S128x2048, .f32⟩
  | .hbm, ⟨83, _⟩ => ⟨S128x2048, .bf16⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S16896x1024, .f32⟩
  | .hbm, ⟨88, _⟩ => ⟨S16896x1024, .f32⟩
  | .hbm, ⟨89, _⟩ => ⟨S16896x1024, .f32⟩
  | .hbm, ⟨90, _⟩ => ⟨S16896x1024, .f32⟩
  | .hbm, ⟨91, _⟩ => ⟨S16896x2048, .f32⟩
  | .hbm, ⟨92, _⟩ => ⟨S16896x2048, .f32⟩
  | .hbm, ⟨93, _⟩ => ⟨S16896x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S2048x4608, .bf16⟩
  | .local _ .vmem, ⟨14, _⟩ => ⟨S2x3072, .f32⟩
  | .local _ .vmem, ⟨15, _⟩ => ⟨S2x512, .f32⟩
  | .local _ .vmem, ⟨16, _⟩ => ⟨S128x2048, .bf16⟩
  | .local _ .vmem, ⟨17, _⟩ => ⟨S128x2048, .bf16⟩
  | .local _ .vmem, ⟨18, _⟩ => ⟨S256x1024, .bf16⟩
  | .local _ .vmem, ⟨19, _⟩ => ⟨S1x2048, .f32⟩
  | .local _ .vmem, ⟨20, _⟩ => ⟨S1x2048, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x1024, .f32⟩
  | .local _ .vmem, ⟨34, _⟩ => ⟨S256x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_call0_v0 : Ref sig .tc := ⟨.hbm, 22, rfl⟩
abbrev main_v6 : Ref sig .tc := ⟨.hbm, 23, rfl⟩
abbrev main_c_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_call2_v0 : Ref sig .tc := ⟨.hbm, 36, rfl⟩
abbrev main_v15 : Ref sig .tc := ⟨.hbm, 37, rfl⟩
abbrev main_v16 : Ref sig .tc := ⟨.hbm, 38, rfl⟩
abbrev main_c_5 : Ref sig .tc := ⟨.hbm, 39, rfl⟩
abbrev main_call3_v0 : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_call4_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_call5_v0 : Ref sig .tc := ⟨.hbm, 51, rfl⟩
abbrev main_v24 : Ref sig .tc := ⟨.hbm, 52, rfl⟩
abbrev main_v25 : Ref sig .tc := ⟨.hbm, 53, rfl⟩
abbrev main_c_8 : Ref sig .tc := ⟨.hbm, 54, rfl⟩
abbrev main_call6_v0 : Ref sig .tc := ⟨.hbm, 55, rfl⟩
abbrev main_v26 : Ref sig .tc := ⟨.hbm, 56, rfl⟩
abbrev main_v27 : Ref sig .tc := ⟨.hbm, 57, rfl⟩
abbrev main_c_9 : Ref sig .tc := ⟨.hbm, 58, rfl⟩
abbrev main_call7_v0 : Ref sig .tc := ⟨.hbm, 59, rfl⟩
abbrev main_v28 : Ref sig .tc := ⟨.hbm, 60, rfl⟩
abbrev main_v29 : Ref sig .tc := ⟨.hbm, 61, rfl⟩
abbrev main_c_10 : Ref sig .tc := ⟨.hbm, 62, rfl⟩
abbrev main_call8_v0 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_11 : Ref sig .tc := ⟨.hbm, 71, rfl⟩
abbrev main_call9_v0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_12 : Ref sig .tc := ⟨.hbm, 80, rfl⟩
abbrev main_call10_v0 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49_0 : Ref sig .tc := ⟨.hbm, 87, rfl⟩
abbrev main_v49_1 : Ref sig .tc := ⟨.hbm, 88, rfl⟩
abbrev main_v49_2 : Ref sig .tc := ⟨.hbm, 89, rfl⟩
abbrev main_v49_3 : Ref sig .tc := ⟨.hbm, 90, rfl⟩
abbrev main_v49_4 : Ref sig .tc := ⟨.hbm, 91, rfl⟩
abbrev main_v49_5 : Ref sig .tc := ⟨.hbm, 92, rfl⟩
abbrev main_v49_6 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![66], ![false]⟩

def cc0_transform_0 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi v26 c1_i32_10
  let c0_i32_11 : BitVec 32 := 0#32
  let v28 : BitVec 32 := Scalar.maxsi v27 c0_i32_11
  let c0_i32_12 : BitVec 32 := 0#32
  let c0_i32_13 : BitVec 32 := 0#32
  ![v16.toNat, v28.toNat, c0_i32_12.toNat]

def cc0_transform_1 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi v26 c1_i32_10
  let c0_i32_11 : BitVec 32 := 0#32
  let v28 : BitVec 32 := Scalar.maxsi v27 c0_i32_11
  let c32_i32 : BitVec 32 := 32#32
  let v29 : BitVec 32 := Scalar.muli v28 c32_i32
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v16.toNat, v31.toNat, c0_i32_14.toNat]

def cc0_transform_2 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi v26 c1_i32_10
  let c0_i32_11 : BitVec 32 := 0#32
  let v28 : BitVec 32 := Scalar.maxsi v27 c0_i32_11
  let c1_i32_12 : BitVec 32 := 1#32
  let v29 : BitVec 32 := Scalar.addi v28 c1_i32_12
  let c32_i32 : BitVec 32 := 32#32
  let v30 : BitVec 32 := Scalar.muli v29 c32_i32
  let c1023_i32 : BitVec 32 := 1023#32
  let v31 : BitVec 32 := Scalar.minsi v30 c1023_i32
  let c0_i32_13 : BitVec 32 := 0#32
  let c0_i32_14 : BitVec 32 := 0#32
  ![v16.toNat, v31.toNat, c0_i32_13.toNat]

def cc0_transform_3 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c0_i32_11 : BitVec 32 := 0#32
  let v30 : BitVec 32 := Scalar.addi v29 c0_i32_11
  let c0_i32_12 : BitVec 32 := 0#32
  let c0_i32_13 : BitVec 32 := 0#32
  let c0_i32_14 : BitVec 32 := 0#32
  ![v30.toNat, c0_i32_12.toNat, c0_i32_13.toNat]

def cc0_transform_5 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c6_i32 : BitVec 32 := 6#32
  let v29 : BitVec 32 := Scalar.muli v28 c6_i32
  let c1_i32_11 : BitVec 32 := 1#32
  let v30 : BitVec 32 := Scalar.addi v29 c1_i32_11
  let c0_i32_12 : BitVec 32 := 0#32
  let c0_i32_13 : BitVec 32 := 0#32
  let c0_i32_14 : BitVec 32 := 0#32
  ![v30.toNat, c0_i32_12.toNat, c0_i32_13.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S2x8192x2048 : Shape := ⟨3, ![2, 8192, 2048]⟩
abbrev S2x256x2048 : Shape := ⟨3, ![2, 256, 2048]⟩
abbrev S2x12288 : Shape := ⟨2, ![2, 12288]⟩
abbrev S12288 : Shape := ⟨1, ![12288]⟩
abbrev S2048 : Shape := ⟨1, ![2048]⟩
abbrev S2048x4192 : Shape := ⟨2, ![2048, 4192]⟩
abbrev S2x3360 : Shape := ⟨2, ![2, 3360]⟩
abbrev S2x1024 : Shape := ⟨2, ![2, 1024]⟩
abbrev S2x64x1024 : Shape := ⟨3, ![2, 64, 1024]⟩
abbrev S160x1024 : Shape := ⟨2, ![160, 1024]⟩
abbrev S2x2048 : Shape := ⟨2, ![2, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x256 : Shape := ⟨2, ![2, 256]⟩
abbrev S2x256x1 : Shape := ⟨3, ![2, 256, 1]⟩
abbrev S2x8192x4192 : Shape := ⟨3, ![2, 8192, 4192]⟩
abbrev S2x256x4192 : Shape := ⟨3, ![2, 256, 4192]⟩
abbrev S2x8192x3360 : Shape := ⟨3, ![2, 8192, 3360]⟩
abbrev S2x1x3360 : Shape := ⟨3, ![2, 1, 3360]⟩
abbrev S2x8191x3360 : Shape := ⟨3, ![2, 8191, 3360]⟩
abbrev S1x3360 : Shape := ⟨2, ![1, 3360]⟩
abbrev S3360 : Shape := ⟨1, ![3360]⟩
abbrev S1x1x3360 : Shape := ⟨3, ![1, 1, 3360]⟩
abbrev S2x256x3360 : Shape := ⟨3, ![2, 256, 3360]⟩
abbrev S2x255x3360 : Shape := ⟨3, ![2, 255, 3360]⟩
abbrev S2x256x832 : Shape := ⟨3, ![2, 256, 832]⟩
abbrev S2x8192x832 : Shape := ⟨3, ![2, 8192, 832]⟩
abbrev S2x8448x832 : Shape := ⟨3, ![2, 8448, 832]⟩
abbrev S16896x832 : Shape := ⟨2, ![16896, 832]⟩
abbrev S2x8448x3360 : Shape := ⟨3, ![2, 8448, 3360]⟩
abbrev S16896x3360 : Shape := ⟨2, ![16896, 3360]⟩
abbrev S16896x1024 : Shape := ⟨2, ![16896, 1024]⟩
abbrev S16896x64 : Shape := ⟨2, ![16896, 64]⟩
abbrev S16896x160 : Shape := ⟨2, ![16896, 160]⟩
abbrev S1x1024 : Shape := ⟨2, ![1, 1024]⟩
abbrev S1024 : Shape := ⟨1, ![1024]⟩
abbrev S1x64x1024 : Shape := ⟨3, ![1, 64, 1024]⟩
abbrev S64x1024 : Shape := ⟨2, ![64, 1024]⟩
abbrev S16896x16 : Shape := ⟨2, ![16896, 16]⟩
abbrev S16896x2048 : Shape := ⟨2, ![16896, 2048]⟩

abbrev nBuf : Space → Nat
  | .hbm => 234
  | .vmem => 0
  | .smem => 0
  | _ => 0

abbrev hbmTy0_0 (i : Nat) : BufTy := match i % 128 with
  | 0 => ⟨S2x8192x2048, .f32⟩
  | 1 => ⟨S2x256x2048, .f32⟩
  | 2 => ⟨S2x12288, .f32⟩
  | 3 => ⟨S12288, .f32⟩
  | 4 => ⟨S2048, .f32⟩
  | 5 => ⟨S2048x4192, .f32⟩
  | 6 => ⟨S2x3360, .f32⟩
  | 7 => ⟨S2x1024, .f32⟩
  | 8 => ⟨S2x64x1024, .f32⟩
  | 9 => ⟨S2x1024, .f32⟩
  | 10 => ⟨S2x64x1024, .f32⟩
  | 11 => ⟨S160x1024, .f32⟩
  | 12 => ⟨S2x2048, .f32⟩
  | 13 => ⟨S2x1x2048, .f32⟩
  | 14 => ⟨S2x2048, .f32⟩
  | 15 => ⟨S2x1x2048, .f32⟩
  | 16 => ⟨S2x8192x2048, .f32⟩
  | 17 => ⟨S_, .f32⟩
  | 18 => ⟨S2x8192, .f32⟩
  | 19 => ⟨S2x8192x1, .f32⟩
  | 20 => ⟨S_, .f32⟩
  | 21 => ⟨S2x8192x1, .f32⟩
  | 22 => ⟨S2x8192x1, .f32⟩
  | 23 => ⟨S_, .f32⟩
  | 24 => ⟨S2x8192x1, .f32⟩
  | 25 => ⟨S2x8192x1, .f32⟩
  | 26 => ⟨S2x8192x1, .f32⟩
  | 27 => ⟨S2x8192x2048, .f32⟩
  | 28 => ⟨S2x8192x2048, .f32⟩
  | 29 => ⟨S1x1x2048, .f32⟩
  | 30 => ⟨S2x8192x2048, .f32⟩
  | 31 => ⟨S2x8192x2048, .f32⟩
  | 32 => ⟨S_, .f32⟩
  | 33 => ⟨S2x1x2048, .f32⟩
  | 34 => ⟨S2x1x2048, .f32⟩
  | 35 => ⟨S2x8192x2048, .f32⟩
  | 36 => ⟨S2x8192x2048, .f32⟩
  | 37 => ⟨S2x8192x2048, .f32⟩
  | 38 => ⟨S2x8192x2048, .f32⟩
  | 39 => ⟨S2048, .f32⟩
  | 40 => ⟨S2048, .f32⟩
  | 41 => ⟨S2x256x2048, .f32⟩
  | 42 => ⟨S_, .f32⟩
  | 43 => ⟨S2x256, .f32⟩
  | 44 => ⟨S2x256x1, .f32⟩
  | 45 => ⟨S_, .f32⟩
  | 46 => ⟨S2x256x1, .f32⟩
  | 47 => ⟨S2x256x1, .f32⟩
  | 48 => ⟨S_, .f32⟩
  | 49 => ⟨S2x256x1, .f32⟩
  | 50 => ⟨S2x256x1, .f32⟩
  | 51 => ⟨S2x256x1, .f32⟩
  | 52 => ⟨S2x256x2048, .f32⟩
  | 53 => ⟨S2x256x2048, .f32⟩
  | 54 => ⟨S1x1x2048, .f32⟩
  | 55 => ⟨S2x256x2048, .f32⟩
  | 56 => ⟨S2x256x2048, .f32⟩
  | 57 => ⟨S_, .f32⟩
  | 58 => ⟨S2048, .f32⟩
  | 59 => ⟨S2048, .f32⟩
  | 60 => ⟨S1x1x2048, .f32⟩
  | 61 => ⟨S2x256x2048, .f32⟩
  | 62 => ⟨S2x256x2048, .f32⟩
  | 63 => ⟨S1x1x2048, .f32⟩
  | 64 => ⟨S2x256x2048, .f32⟩
  | 65 => ⟨S2x256x2048, .f32⟩
  | 66 => ⟨S2x8192x4192, .f32⟩
  | 67 => ⟨S2x256x4192, .f32⟩
  | 68 => ⟨S2x8192x3360, .f32⟩
  | 69 => ⟨S2x1x3360, .f32⟩
  | 70 => ⟨S_, .f32⟩
  | 71 => ⟨S2x1x3360, .f32⟩
  | 72 => ⟨S2x8191x3360, .f32⟩
  | 73 => ⟨S2x8192x3360, .f32⟩
  | 74 => ⟨S2x8191x3360, .f32⟩
  | 75 => ⟨S2x8192x3360, .f32⟩
  | 76 => ⟨S1x3360, .f32⟩
  | 77 => ⟨S3360, .f32⟩
  | 78 => ⟨S2x8192x3360, .f32⟩
  | 79 => ⟨S1x1x3360, .f32⟩
  | 80 => ⟨S2x8192x3360, .f32⟩
  | 81 => ⟨S2x8192x3360, .f32⟩
  | 82 => ⟨S2x8192x3360, .f32⟩
  | 83 => ⟨S1x3360, .f32⟩
  | 84 => ⟨S3360, .f32⟩
  | 85 => ⟨S2x8192x3360, .f32⟩
  | 86 => ⟨S1x1x3360, .f32⟩
  | 87 => ⟨S2x8192x3360, .f32⟩
  | 88 => ⟨S2x8192x3360, .f32⟩
  | 89 => ⟨S2x8192x3360, .f32⟩
  | 90 => ⟨S2x256x3360, .f32⟩
  | 91 => ⟨S2x1x3360, .f32⟩
  | 92 => ⟨S_, .f32⟩
  | 93 => ⟨S2x1x3360, .f32⟩
  | 94 => ⟨S2x255x3360, .f32⟩
  | 95 => ⟨S2x256x3360, .f32⟩
  | 96 => ⟨S2x255x3360, .f32⟩
  | 97 => ⟨S2x256x3360, .f32⟩
  | 98 => ⟨S1x3360, .f32⟩
  | 99 => ⟨S3360, .f32⟩
  | 100 => ⟨S2x256x3360, .f32⟩
  | 101 => ⟨S1x1x3360, .f32⟩
  | 102 => ⟨S2x256x3360, .f32⟩
  | 103 => ⟨S2x256x3360, .f32⟩
  | 104 => ⟨S2x256x3360, .f32⟩
  | 105 => ⟨S1x3360, .f32⟩
  | 106 => ⟨S3360, .f32⟩
  | 107 => ⟨S2x256x3360, .f32⟩
  | 108 => ⟨S1x1x3360, .f32⟩
  | 109 => ⟨S2x256x3360, .f32⟩
  | 110 => ⟨S2x256x3360, .f32⟩
  | 111 => ⟨S2x256x3360, .f32⟩
  | 112 => ⟨S2x256x832, .f32⟩
  | 113 => ⟨S2x8192x832, .f32⟩
  | 114 => ⟨S2x8448x832, .f32⟩
  | 115 => ⟨S16896x832, .f32⟩
  | 116 => ⟨S2x8448x3360, .f32⟩
  | 117 => ⟨S16896x3360, .f32⟩
  | 118 => ⟨S16896x1024, .f32⟩
  | 119 => ⟨S16896x1024, .f32⟩
  | 120 => ⟨S16896x1024, .f32⟩
  | 121 => ⟨S16896x64, .f32⟩
  | 122 => ⟨S16896x64, .f32⟩
  | 123 => ⟨S16896x160, .f32⟩
  | 124 => ⟨S1x1024, .f32⟩
  | 125 => ⟨S1024, .f32⟩
  | 126 => ⟨S16896x64, .f32⟩
  | 127 => ⟨S1x64x1024, .f32⟩
  | _ => ⟨S2x8192x2048, .f32⟩

abbrev hbmTy0_1 (i : Nat) : BufTy := match i % 128 with
  | 0 => ⟨S64x1024, .f32⟩
  | 1 => ⟨S16896x1024, .f32⟩
  | 2 => ⟨S1x1024, .f32⟩
  | 3 => ⟨S16896x1024, .f32⟩
  | 4 => ⟨S16896x1024, .f32⟩
  | 5 => ⟨S16896x1024, .f32⟩
  | 6 => ⟨S_, .f32⟩
  | 7 => ⟨S16896x1024, .f32⟩
  | 8 => ⟨S16896x1024, .f32⟩
  | 9 => ⟨S16896x1024, .f32⟩
  | 10 => ⟨S16896x1024, .f32⟩
  | 11 => ⟨S16896x1024, .i1⟩
  | 12 => ⟨S16896x1024, .f32⟩
  | 13 => ⟨S16896x1024, .f32⟩
  | 14 => ⟨S16896x1024, .f32⟩
  | 15 => ⟨S16896x1024, .f32⟩
  | 16 => ⟨S16896x1024, .f32⟩
  | 17 => ⟨S16896x1024, .f32⟩
  | 18 => ⟨S16896x1024, .f32⟩
  | 19 => ⟨S16896x1024, .f32⟩
  | 20 => ⟨S16896x1024, .f32⟩
  | 21 => ⟨S16896x1024, .f32⟩
  | 22 => ⟨S_, .f32⟩
  | 23 => ⟨S16896x1024, .f32⟩
  | 24 => ⟨S16896x1024, .f32⟩
  | 25 => ⟨S1x1024, .f32⟩
  | 26 => ⟨S1024, .f32⟩
  | 27 => ⟨S1x64x1024, .f32⟩
  | 28 => ⟨S64x1024, .f32⟩
  | 29 => ⟨S16896x1024, .f32⟩
  | 30 => ⟨S1x1024, .f32⟩
  | 31 => ⟨S16896x1024, .f32⟩
  | 32 => ⟨S16896x1024, .f32⟩
  | 33 => ⟨S16896x1024, .f32⟩
  | 34 => ⟨S16896x1024, .f32⟩
  | 35 => ⟨S_, .f32⟩
  | 36 => ⟨S16896x1024, .f32⟩
  | 37 => ⟨S16896x1024, .f32⟩
  | 38 => ⟨S_, .f32⟩
  | 39 => ⟨S16896x1024, .f32⟩
  | 40 => ⟨S16896x1024, .f32⟩
  | 41 => ⟨S1x1024, .f32⟩
  | 42 => ⟨S1024, .f32⟩
  | 43 => ⟨S16896x64, .f32⟩
  | 44 => ⟨S1x64x1024, .f32⟩
  | 45 => ⟨S64x1024, .f32⟩
  | 46 => ⟨S16896x1024, .f32⟩
  | 47 => ⟨S1x1024, .f32⟩
  | 48 => ⟨S16896x1024, .f32⟩
  | 49 => ⟨S16896x1024, .f32⟩
  | 50 => ⟨S16896x1024, .f32⟩
  | 51 => ⟨S_, .f32⟩
  | 52 => ⟨S16896x1024, .f32⟩
  | 53 => ⟨S16896x1024, .f32⟩
  | 54 => ⟨S16896x1024, .f32⟩
  | 55 => ⟨S16896x1024, .f32⟩
  | 56 => ⟨S16896x1024, .i1⟩
  | 57 => ⟨S16896x1024, .f32⟩
  | 58 => ⟨S16896x1024, .f32⟩
  | 59 => ⟨S16896x1024, .f32⟩
  | 60 => ⟨S16896x1024, .f32⟩
  | 61 => ⟨S16896x1024, .f32⟩
  | 62 => ⟨S16896x1024, .f32⟩
  | 63 => ⟨S16896x1024, .f32⟩
  | 64 => ⟨S16896x1024, .f32⟩
  | 65 => ⟨S16896x1024, .f32⟩
  | 66 => ⟨S16896x1024, .f32⟩
  | 67 => ⟨S_, .f32⟩
  | 68 => ⟨S16896x1024, .f32⟩
  | 69 => ⟨S16896x1024, .f32⟩
  | 70 => ⟨S1x1024, .f32⟩
  | 71 => ⟨S1024, .f32⟩
  | 72 => ⟨S1x64x1024, .f32⟩
  | 73 => ⟨S64x1024, .f32⟩
  | 74 => ⟨S16896x1024, .f32⟩
  | 75 => ⟨S1x1024, .f32⟩
  | 76 => ⟨S16896x1024, .f32⟩
  | 77 => ⟨S16896x1024, .f32⟩
  | 78 => ⟨S16896x1024, .f32⟩
  | 79 => ⟨S16896x1024, .f32⟩
  | 80 => ⟨S_, .f32⟩
  | 81 => ⟨S16896x1024, .f32⟩
  | 82 => ⟨S16896x1024, .f32⟩
  | 83 => ⟨S_, .f32⟩
  | 84 => ⟨S16896x1024, .f32⟩
  | 85 => ⟨S16896x1024, .f32⟩
  | 86 => ⟨S16896x160, .f32⟩
  | 87 => ⟨S16896x160, .f32⟩
  | 88 => ⟨S_, .f32⟩
  | 89 => ⟨S16896x160, .f32⟩
  | 90 => ⟨S16896x160, .f32⟩
  | 91 => ⟨S_, .f32⟩
  | 92 => ⟨S16896x160, .f32⟩
  | 93 => ⟨S16896x160, .f32⟩
  | 94 => ⟨S16896x1024, .f32⟩
  | 95 => ⟨S16896x64, .f32⟩
  | 96 => ⟨S_, .f32⟩
  | 97 => ⟨S16896x64, .f32⟩
  | 98 => ⟨S16896x16, .f32⟩
  | 99 => ⟨S16896x16, .f32⟩
  | 100 => ⟨S16896x16, .f32⟩
  | 101 => ⟨S16896x16, .f32⟩
  | 102 => ⟨S16896x64, .f32⟩
  | 103 => ⟨S16896x1024, .f32⟩
  | 104 => ⟨S16896x2048, .f32⟩
  | 105 => ⟨S16896x2048, .f32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_call0_cst : Ref sig .tc := ⟨.hbm, 134, rfl⟩
abbrev main_call0_v0 : Ref sig .tc := ⟨.hbm, 135, rfl⟩
abbrev main_call0_v1 : Ref sig .tc := ⟨.hbm, 136, rfl⟩
abbrev main_call0_v2 : Ref sig .tc := ⟨.hbm, 137, rfl⟩
abbrev main_call0_v3 : Ref sig .tc := ⟨.hbm, 138, rfl⟩
abbrev main_call0_v4 : Ref sig .tc := ⟨.hbm, 139, rfl⟩
abbrev main_call0_v5 : Ref sig .tc := ⟨.hbm, 140, rfl⟩
abbrev main_call0_v6 : Ref sig .tc := ⟨.hbm, 141, rfl⟩
abbrev main_call0_v7 : Ref sig .tc := ⟨.hbm, 142, rfl⟩
abbrev main_call0_v8 : Ref sig .tc := ⟨.hbm, 143, rfl⟩
abbrev main_call0_v9 : Ref sig .tc := ⟨.hbm, 144, rfl⟩
abbrev main_call0_v10 : Ref sig .tc := ⟨.hbm, 145, rfl⟩
abbrev main_call0_v11 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_9 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_10 : Ref sig .tc := ⟨.hbm, 163, rfl⟩
abbrev main_v127 : Ref sig .tc := ⟨.hbm, 164, rfl⟩
abbrev main_v128 : Ref sig .tc := ⟨.hbm, 165, rfl⟩
abbrev main_cst_11 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_call1_cst : Ref sig .tc := ⟨.hbm, 179, rfl⟩
abbrev main_call1_v0 : Ref sig .tc := ⟨.hbm, 180, rfl⟩
abbrev main_call1_v1 : Ref sig .tc := ⟨.hbm, 181, rfl⟩
abbrev main_call1_v2 : Ref sig .tc := ⟨.hbm, 182, rfl⟩
abbrev main_call1_v3 : Ref sig .tc := ⟨.hbm, 183, rfl⟩
abbrev main_call1_v4 : Ref sig .tc := ⟨.hbm, 184, rfl⟩
abbrev main_call1_v5 : Ref sig .tc := ⟨.hbm, 185, rfl⟩
abbrev main_call1_v6 : Ref sig .tc := ⟨.hbm, 186, rfl⟩
abbrev main_call1_v7 : Ref sig .tc := ⟨.hbm, 187, rfl⟩
abbrev main_call1_v8 : Ref sig .tc := ⟨.hbm, 188, rfl⟩
abbrev main_call1_v9 : Ref sig .tc := ⟨.hbm, 189, rfl⟩
abbrev main_call1_v10 : Ref sig .tc := ⟨.hbm, 190, rfl⟩
abbrev main_call1_v11 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_12 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_13 : Ref sig .tc := ⟨.hbm, 208, rfl⟩
abbrev main_v156 : Ref sig .tc := ⟨.hbm, 209, rfl⟩
abbrev main_v157 : Ref sig .tc := ⟨.hbm, 210, rfl⟩
abbrev main_cst_14 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_15 : Ref sig .tc := ⟨.hbm, 216, rfl⟩
abbrev main_v162 : Ref sig .tc := ⟨.hbm, 217, rfl⟩
abbrev main_v163 : Ref sig .tc := ⟨.hbm, 218, rfl⟩
abbrev main_cst_16 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_cst_17 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩

abbrev nD : Nat := 1
abbrev τ : Topo := Topo.v7x

variable {F : FTy → Type} [FloatOps F]
-- ==== Kernel3.lean ====
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1 : Shape := ⟨1, ![1]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S1x12288, .f32⟩
  | .hbm, ⟨13, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S_ : Shape := ⟨0, ![]⟩
abbrev S2x12288 : Shape := ⟨2, ![2, 12288]⟩
abbrev S1x12288 : Shape := ⟨2, ![1, 12288]⟩
abbrev S5x12288 : Shape := ⟨2, ![5, 12288]⟩
abbrev S8x12288 : Shape := ⟨2, ![8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S2x2048, .f32⟩
  | .hbm, ⟨5, _⟩ => ⟨S2x2048, .f32⟩
  | .hbm, ⟨6, _⟩ => ⟨S_, .f32⟩
  | .hbm, ⟨7, _⟩ => ⟨S2x2048, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x12288, .f32⟩
  | .hbm, ⟨14, _⟩ => ⟨S1x12288, .f32⟩
  | .hbm, ⟨15, _⟩ => ⟨S2x12288, .f32⟩
  | .hbm, ⟨16, _⟩ => ⟨S2x12288, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S12288, .f32⟩
  | .hbm, ⟨27, _⟩ => ⟨S12288, .f32⟩
  | .hbm, ⟨28, _⟩ => ⟨S1x12288, .f32⟩
  | .hbm, ⟨29, _⟩ => ⟨S5x12288, .f32⟩
  | .hbm, ⟨30, _⟩ => ⟨S8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel4.lean ====
abbrev S16896x832 : Shape := ⟨2, ![16896, 832]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S8192x16 : Shape := ⟨2, ![8192, 16]⟩
abbrev S64 : Shape := ⟨1, ![64]⟩
abbrev S16896x768 : Shape := ⟨2, ![16896, 768]⟩
abbrev S16896x64 : Shape := ⟨2, ![16896, 64]⟩
abbrev S_ : Shape := ⟨0, ![]⟩
abbrev S16896x128 : Shape := ⟨2, ![16896, 128]⟩
abbrev S64x1 : Shape := ⟨2, ![64, 1]⟩
abbrev S16896x1024 : Shape := ⟨2, ![16896, 1024]⟩
abbrev S8192x64 : Shape := ⟨2, ![8192, 64]⟩
abbrev S256x64 : Shape := ⟨2, ![256, 64]⟩
abbrev S8448x64 : Shape := ⟨2, ![8448, 64]⟩
abbrev S8448x128 : Shape := ⟨2, ![8448, 128]⟩
abbrev S8448x256 : Shape := ⟨2, ![8448, 256]⟩
abbrev S512x8x192 : Shape := ⟨3, ![512, 8, 192]⟩
abbrev S512x8x64 : Shape := ⟨3, ![512, 8, 64]⟩
abbrev S512x8x256 : Shape := ⟨3, ![512, 8, 256]⟩
abbrev S512x2048 : Shape := ⟨2, ![512, 2048]⟩
abbrev S512x8x128 : Shape := ⟨3, ![512, 8, 128]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S1x512 : Shape := ⟨2, ![1, 512]⟩
abbrev S1x256 : Shape := ⟨2, ![1, 256]⟩
abbrev S16896x2048 : Shape := ⟨2, ![16896, 2048]⟩
abbrev S2x8x144x8448 : Shape := ⟨4, ![2, 8, 144, 8448]⟩
abbrev S256x128 : Shape := ⟨2, ![256, 128]⟩
abbrev S256x256 : Shape := ⟨2, ![256, 256]⟩
abbrev S1x8x144x256 : Shape := ⟨4, ![1, 8, 144, 256]⟩
abbrev S256x512 : Shape := ⟨2, ![256, 512]⟩
abbrev S256x1 : Shape := ⟨2, ![256, 1]⟩
abbrev S512x256 : Shape := ⟨2, ![512, 256]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩

abbrev nBuf : Space → Nat
  | .hbm => 90
  | .vmem => 22
  | .smem => 0
  | _ => 0

abbrev bufTy : (tb : Table) → Fin (tcTables nBuf tb) → BufTy
  | .hbm, ⟨0, _⟩ => ⟨S16896x832, .f32⟩
  | .hbm, ⟨1, _⟩ => ⟨S512, .f32⟩
  | .hbm, ⟨2, _⟩ => ⟨S512x1536, .f32⟩
  | .hbm, ⟨3, _⟩ => ⟨S256, .f32⟩
  | .hbm, ⟨4, _⟩ => ⟨S256x2048, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S64, .i32⟩
  | .hbm, ⟨10, _⟩ => ⟨S64, .i1⟩
  | .hbm, ⟨11, _⟩ => ⟨S64, .i1⟩
  | .hbm, ⟨12, _⟩ => ⟨S16896x768, .f32⟩
  | .hbm, ⟨13, _⟩ => ⟨S16896x64, .f32⟩
  | .hbm, ⟨14, _⟩ => ⟨S_, .i32⟩
  | .hbm, ⟨15, _⟩ => ⟨S_, .f32⟩
  | .hbm, ⟨16, _⟩ => ⟨S16896x128, .f32⟩
  | .hbm, ⟨17, _⟩ => ⟨S16896x64, .f32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S16896x64, .f32⟩
  | .hbm, ⟨24, _⟩ => ⟨S_, .i32⟩
  | .hbm, ⟨25, _⟩ => ⟨S_, .f32⟩
  | .hbm, ⟨26, _⟩ => ⟨S16896x128, .f32⟩
  | .hbm, ⟨27, _⟩ => ⟨S16896x1024, .f32⟩
  | .hbm, ⟨28, _⟩ => ⟨S8192x64, .f32⟩
  | .hbm, ⟨29, _⟩ => ⟨S8192x16, .f32⟩
  | .hbm, ⟨30, _⟩ => ⟨S8192x16, .f32⟩
  | .hbm, ⟨31, _⟩ => ⟨S8192x64, .f32⟩
  | .hbm, ⟨32, _⟩ => ⟨S_, .f32⟩
  | .hbm, ⟨33, _⟩ => ⟨S256x64, .f32⟩
  | .hbm, ⟨34, _⟩ => ⟨S8448x64, .f32⟩
  | .hbm, ⟨35, _⟩ => ⟨S_, .f32⟩
  | .hbm, ⟨36, _⟩ => ⟨S256x64, .f32⟩
  | .hbm, ⟨37, _⟩ => ⟨S8448x64, .f32⟩
  | .hbm, ⟨38, _⟩ => ⟨S_, .f32⟩
  | .hbm, ⟨39, _⟩ => ⟨S8448x64, .f32⟩
  | .hbm, ⟨40, _⟩ => ⟨S8448x128, .f32⟩
  | .hbm, ⟨41, _⟩ => ⟨S8448x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8448x128, .f32⟩
  | .hbm, ⟨51, _⟩ => ⟨S8448x256, .f32⟩
  | .hbm, ⟨52, _⟩ => ⟨S8448x256, .f32⟩
  | .hbm, ⟨53, _⟩ => ⟨S8448x256, .f32⟩
  | .hbm, ⟨54, _⟩ => ⟨S_, .f32⟩
  | .hbm, ⟨55, _⟩ => ⟨S8448x128, .f32⟩
  | .hbm, ⟨56, _⟩ => ⟨S8448x256, .f32⟩
  | .hbm, ⟨57, _⟩ => ⟨S8448x256, .f32⟩
  | .hbm, ⟨58, _⟩ => ⟨S8448x256, .f32⟩
  | .hbm, ⟨59, _⟩ => ⟨S512x8x192, .f32⟩
  | .hbm, ⟨60, _⟩ => ⟨S_, .f32⟩
  | .hbm, ⟨61, _⟩ => ⟨S512x8x64, .f32⟩
  | .hbm, ⟨62, _⟩ => ⟨S512x8x256, .f32⟩
  | .hbm, ⟨63, _⟩ => ⟨S512x2048, .f32⟩
  | .hbm, ⟨64, _⟩ => ⟨S512x2048, .bf16⟩
  | .hbm, ⟨65, _⟩ => ⟨S_, .f32⟩
  | .hbm, ⟨66, _⟩ => ⟨S512x8x128, .f32⟩
  | .hbm, ⟨67, _⟩ => ⟨S512x8x64, .f32⟩
  | .hbm, ⟨68, _⟩ => ⟨S_, .i32⟩
  | .hbm, ⟨69, _⟩ => ⟨S64, .i32⟩
  | .hbm, ⟨70, _⟩ => ⟨S64, .i32⟩
  | .hbm, ⟨71, _⟩ => ⟨S64, .i32⟩
  | .hbm, ⟨72, _⟩ => ⟨S64x1, .i32⟩
  | .hbm, ⟨73, _⟩ => ⟨S512x8x64, .f32⟩
  | .hbm, ⟨74, _⟩ => ⟨S512x8x256, .f32⟩
  | .hbm, ⟨75, _⟩ => ⟨S512x2048, .f32⟩
  | .hbm, ⟨76, _⟩ => ⟨S512x2048, .bf16⟩
  | .hbm, ⟨77, _⟩ => ⟨S256x8x256, .f32⟩
  | .hbm, ⟨78, _⟩ => ⟨S256x8x128, .f32⟩
  | .hbm, ⟨79, _⟩ => ⟨S256x1024, .f32⟩
  | .hbm, ⟨80, _⟩ => ⟨S256x1024, .bf16⟩
  | .hbm, ⟨81, _⟩ => ⟨S256x8x128, .f32⟩
  | .hbm, ⟨82, _⟩ => ⟨S256x1024, .f32⟩
  | .hbm, ⟨83, _⟩ => ⟨S1024x256, .f32⟩
  | .hbm, ⟨84, _⟩ => ⟨S1024x256, .bf16⟩
  | .hbm, ⟨85, _⟩ => ⟨S1x512, .f32⟩
  | .hbm, ⟨86, _⟩ => ⟨S1x256, .f32⟩
  | .hbm, ⟨87, _⟩ => ⟨S16896x2048, .bf16⟩
  | .hbm, ⟨88, _⟩ => ⟨S16896x2048, .bf16⟩
  | .hbm, ⟨89, _⟩ => ⟨S2x8x144x8448, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x512, .f32⟩
  | .local _ .vmem, ⟨11, _⟩ => ⟨S1x256, .f32⟩
  | .local _ .vmem, ⟨12, _⟩ => ⟨S512x2048, .bf16⟩
  | .local _ .vmem, ⟨13, _⟩ => ⟨S512x2048, .bf16⟩
  | .local _ .vmem, ⟨14, _⟩ => ⟨S256x1024, .bf16⟩
  | .local _ .vmem, ⟨15, _⟩ => ⟨S1024x256, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1x8x144x256, .bf16⟩
  | .local _ .vmem, ⟨21, _⟩ => ⟨S1x8x144x256, .bf16⟩
  | _, _ => ⟨S16896x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_c_2 : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_c_3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_v40 : Ref sig .tc := ⟨.hbm, 67, rfl⟩
abbrev main_c_14 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59_0 : Ref sig .tc := ⟨.hbm, 87, rfl⟩
abbrev main_v59_1 : Ref sig .tc := ⟨.hbm, 88, rfl⟩
abbrev main_v59_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32_4 : BitVec 32 := 33#32
  let c0_i32_5 : BitVec 32 := 0#32
  let v17 : BitVec 1 := Scalar.cmpi .eq c33_i32_4 c0_i32_5
  let c1_i32_6 : BitVec 32 := 1#32
  let v18 : BitVec 32 := Scalar.select v17 c1_i32_6 c33_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x144x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16896x832 : Shape := ⟨2, ![16896, 832]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S8192x16 : Shape := ⟨2, ![8192, 16]⟩
abbrev S2x8448x832 : Shape := ⟨3, ![2, 8448, 832]⟩
abbrev S2x8448x256 : Shape := ⟨3, ![2, 8448, 256]⟩
abbrev S_ : Shape := ⟨0, ![]⟩
abbrev S2x8448 : Shape := ⟨2, ![2, 8448]⟩
abbrev S2x8448x1 : Shape := ⟨3, ![2, 8448, 1]⟩
abbrev S1x1x256 : Shape := ⟨3, ![1, 1, 256]⟩
abbrev S2x8448x2048 : Shape := ⟨3, ![2, 8448, 2048]⟩
abbrev S2x8448x8x256 : Shape := ⟨4, ![2, 8448, 8, 256]⟩
abbrev S2x8448x8x128 : Shape := ⟨4, ![2, 8448, 8, 128]⟩
abbrev S2x8448x8x16 : Shape := ⟨4, ![2, 8448, 8, 16]⟩
abbrev S2x8448x8x144 : Shape := ⟨4, ![2, 8448, 8, 144]⟩
abbrev S2x8x144x8448 : Shape := ⟨4, ![2, 8, 144, 8448]⟩

abbrev nBuf : Space → Nat
  | .hbm => 35
  | .vmem => 0
  | .smem => 0
  | _ => 0

abbrev bufTy : (tb : Table) → Fin (tcTables nBuf tb) → BufTy
  | .hbm, ⟨0, _⟩ => ⟨S16896x832, .f32⟩
  | .hbm, ⟨1, _⟩ => ⟨S512, .f32⟩
  | .hbm, ⟨2, _⟩ => ⟨S512x1536, .f32⟩
  | .hbm, ⟨3, _⟩ => ⟨S256, .f32⟩
  | .hbm, ⟨4, _⟩ => ⟨S256x2048, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S2x8448x832, .f32⟩
  | .hbm, ⟨10, _⟩ => ⟨S2x8448x256, .f32⟩
  | .hbm, ⟨11, _⟩ => ⟨S2x8448x256, .f32⟩
  | .hbm, ⟨12, _⟩ => ⟨S_, .f32⟩
  | .hbm, ⟨13, _⟩ => ⟨S2x8448, .f32⟩
  | .hbm, ⟨14, _⟩ => ⟨S2x8448x1, .f32⟩
  | .hbm, ⟨15, _⟩ => ⟨S_, .f32⟩
  | .hbm, ⟨16, _⟩ => ⟨S2x8448x1, .f32⟩
  | .hbm, ⟨17, _⟩ => ⟨S2x8448x1, .f32⟩
  | .hbm, ⟨18, _⟩ => ⟨S_, .f32⟩
  | .hbm, ⟨19, _⟩ => ⟨S2x8448x1, .f32⟩
  | .hbm, ⟨20, _⟩ => ⟨S2x8448x1, .f32⟩
  | .hbm, ⟨21, _⟩ => ⟨S2x8448x1, .f32⟩
  | .hbm, ⟨22, _⟩ => ⟨S2x8448x256, .f32⟩
  | .hbm, ⟨23, _⟩ => ⟨S2x8448x256, .f32⟩
  | .hbm, ⟨24, _⟩ => ⟨S1x1x256, .f32⟩
  | .hbm, ⟨25, _⟩ => ⟨S2x8448x256, .f32⟩
  | .hbm, ⟨26, _⟩ => ⟨S2x8448x256, .f32⟩
  | .hbm, ⟨27, _⟩ => ⟨S2x8448x2048, .f32⟩
  | .hbm, ⟨28, _⟩ => ⟨S2x8448x8x256, .f32⟩
  | .hbm, ⟨29, _⟩ => ⟨S2x8448x8x128, .f32⟩
  | .hbm, ⟨30, _⟩ => ⟨S_, .f32⟩
  | .hbm, ⟨31, _⟩ => ⟨S2x8448x8x16, .f32⟩
  | .hbm, ⟨32, _⟩ => ⟨S2x8448x8x144, .f32⟩
  | .hbm, ⟨33, _⟩ => ⟨S2x8x144x8448, .f32⟩
  | .hbm, ⟨34, _⟩ => ⟨S2x8x144x8448, .bf16⟩
  | _, _ => ⟨S16896x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.Finite.lean ====
/- What the precondition gives: every element of the queries and of the keys is a real number. -/
module

public import proofs.«01_k».proof.Defs
public import Idealize.ShloMosaic.Lib.ReduceAll
public import Idealize.ShloMosaic.Lib.Pointwise
public import Idealize.ShloMosaic.Lib.Claim

@[expose] public section

set_option maxRecDepth 16384

noncomputable section

namespace Cert.Attn

open Idealize.ShloMosaic Idealize.ShloMosaic.TcCoe Idealize.SL.Sem

/-- A value whose absolute value is less than the infinity is a real number. -/
theorem real_of_abs_lt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  induction x using EReal.rec with
  | bot => exact absurd h' (by simp [Ideal.cmp])
  | coe r => exact ⟨r, rfl⟩
  | top => exact absurd h' (by simp [Ideal.cmp])

/-- The same of a whole array, from the conjunction over its elements. -/
theorem real_of_all {s u t : Shape} {axes : List (Fin s.rank)} [Subsingleton t.Idx] (x y : FVec Ideal s .f32) (init : u.Idx → BitVec 1)
    (hr : s.ReducesTo axes t) (hu : 0 < u.numel) (j : t.Idx) (hy : ∀ i, y i = FloatOps.ofBits (F := Ideal) .f32 0x7F800000#32)
    (e : Host.reduce IntOp.andi (cmpf .olt (Host.absf x) y) init hr hu j = 1#1) (i : s.Idx) : ∃ r : ℝ, (x i : EReal) = (r : EReal) := by
  have h := Host.reduce_andi_all _ init hr hu j e i
  apply real_of_abs_lt
  rw [← hy i]
  exact h

theorem and_one {a b : BitVec 1} (h : IntOp.andi a b = 1#1) : a = 1#1 ∧ b = 1#1 := by
  revert a b; decide

open Cert.KernelIdeal in
/-- The precondition: the six arrays of queries and keys hold real numbers. -/
theorem finite_args [Cert.Pre_finite.Facts] (x0 : FVec Ideal S2x8192x8x128 .f32) (x1 : FVec Ideal S2x8192x8x64 .f32) (x2 : FVec Ideal S2x8192x8x128 .f32)
    (x3 : FVec Ideal S2x256x8x128 .f32) (x4 : FVec Ideal S2x8192x64 .f32) (x5 : FVec Ideal S2x256x64 .f32)
    (x6 : FVec Ideal S2x8192x8x128 .f32) (x7 : FVec Ideal S2x256x8x128 .f32)
    (h : Cert.Pre_finite.fn (F := Ideal) x0 x1 x2 x3 x4 x5 x6 x7 = fun _ => 1#1) :
    (∀ i, ∃ r : ℝ, (x0 i : EReal) = (r : EReal)) ∧ (∀ i, ∃ r : ℝ, (x1 i : EReal) = (r : EReal)) ∧ (∀ i, ∃ r : ℝ, (x2 i : EReal) = (r : EReal))
    ∧ (∀ i, ∃ r : ℝ, (x3 i : EReal) = (r : EReal)) ∧ (∀ i, ∃ r : ℝ, (x4 i : EReal) = (r : EReal)) ∧ (∀ i, ∃ r : ℝ, (x5 i : EReal) = (r : EReal)) := by
  have h0 := congrFun h ix0
  dsimp only [Cert.Pre_finite.fn, Cert.Pre_finite.fn_part1] at h0
  obtain ⟨h0, e5⟩ := and_one h0
  obtain ⟨h0, e4⟩ := and_one h0
  obtain ⟨h0, e3⟩ := and_one h0
  obtain ⟨h0, e2⟩ := and_one h0
  obtain ⟨e0, e1⟩ := and_one h0
  exact ⟨real_of_all _ _ _ _ _ _ (fun _ => rfl) e0, real_of_all _ _ _ _ _ _ (fun _ => rfl) e1, real_of_all _ _ _ _ _ _ (fun _ => rfl) e2,
    real_of_all _ _ _ _ _ _ (fun _ => rfl) e3, real_of_all _ _ _ _ _ _ (fun _ => rfl) e4, real_of_all _ _ _ _ _ _ (fun _ => rfl) e5⟩

end Cert.Attn
end
-- ==== Proof.Flash.lean ====
/- The kernel's online softmax of one query group, written once as a fold over key tiles,
   and the statement that each of the eight pieces the kernel's body stores is that fold. -/
module

public import proofs.«01_k».proof.Proof.Gen.KernelIdeal.Frame

@[expose] public section

noncomputable section

namespace Cert.Attn

open Cert.KernelIdeal Cert.KernelIdeal.Gen Idealize.ShloMosaic

variable {F : FTy → Type} [FloatOps F]

/-- The scores of one tile: keys along the rows, queries along the columns. -/
def scores (q : Vec F S256x256 .bf16) (k : Vec F S1x768x256 .bf16) : FVec F S768x256 .f32 :=
  matmul dot_S768x256_S256x256_S768x256_1_1_0_0_n_n none
    (shapeCast S768x256 k shapeCasts_S1x768x256_S768x256 : FVec F S768x256 .bf16)
    (shapeCast S256x256 q shapeCasts_S256x256_S256x256 : FVec F S256x256 .bf16)
    (constant S768x256 .f32 0x00000000#32)

/-- The running maximum after a tile with scores `s`. -/
def newMax (m : FVec F S1x256 .f32) (s : FVec F S768x256 .f32) : FVec F S1x256 .f32 :=
  maximumf m (shapeCast S1x256
    (multiReduction .maximumf [0] S256 s 0xFF800000#32 reduces_S768x256_S256 (.inl rfl) rfl : FVec F S256 .f32)
    shapeCasts_S256_S1x256)

/-- The accumulator after a tile: the old one rescaled from the old maximum `m` to the new one `m'`,
    plus the tile's values weighted by the exponentials of its scores. -/
def newAcc (m m' : FVec F S1x256 .f32) (a : FVec F S144x256 .f32) (s : FVec F S768x256 .f32)
    (v : Vec F S1x1x144x768 .bf16) : FVec F S144x256 .f32 :=
  addf (mulf (broadcastTo S144x256 (exp2 (subf m m')) broadcasts_S1x256_S144x256) a)
    (matmul dot_S144x768_S768x256_S144x256_1_0_0_1_n_n none
      (shapeCast S144x768 v shapeCasts_S1x1x144x768_S144x768 : FVec F S144x768 .bf16)
      (exp2 (truncf .bf16 (subf s (broadcastTo S768x256 m' broadcasts_S1x256_S768x256)) bitsLt_bf16_f32))
      (constant S144x256 .f32 0x00000000#32))

/-- One tile's step of the running pair (maximum, accumulator). -/
def step (q : Vec F S256x256 .bf16) (st : FVec F S1x256 .f32 × FVec F S144x256 .f32)
    (kv : Vec F S1x768x256 .bf16 × Vec F S1x1x144x768 .bf16) : FVec F S1x256 .f32 × FVec F S144x256 .f32 :=
  (newMax st.1 (scores q kv.1),
    newAcc st.1 (newMax st.1 (scores q kv.1)) st.2 (scores q kv.1) kv.2)

/-- The pair before the first tile. -/
def start : FVec F S1x256 .f32 × FVec F S144x256 .f32 :=
  (broadcast S1x256 (Scalar.ofBits .f32 0xFF800000#32), broadcast S144x256 (Scalar.ofBits .f32 0x00000000#32))

/-- The stored piece: the weighted values divided by the sum of the weights, queries along the rows. -/
def finish (a : FVec F S144x256 .f32) : FVec F S256x128 .bf16 :=
  truncf .bf16 (transpose S256x128 [1, 0]
    (divf (extractStridedSlice S128x256 ![0, 0] a slices_S144x256_o0_0_S128x256 : FVec F S128x256 .f32)
      (broadcastTo S128x256 (extractStridedSlice S1x256 ![128, 0] a slices_S144x256_o128_0_S1x256 : FVec F S1x256 .f32)
        broadcasts_S1x256_S128x256))
    transposes_S128x256_p1_0_S256x128) bitsLt_bf16_f32

/-- The eleven tiles of keys and values the body reads. -/
def tiles (x8 : Vec F S1x8448x256 .bf16) (x9 : Vec F S1x1x144x8448 .bf16) :
    List (Vec F S1x768x256 .bf16 × Vec F S1x1x144x768 .bf16) :=
  [(View.ld x8 r0_1, View.ld x9 r0_2), (View.ld x8 r0_3, View.ld x9 r0_4), (View.ld x8 r0_5, View.ld x9 r0_6),
    (View.ld x8 r0_7, View.ld x9 r0_8), (View.ld x8 r0_9, View.ld x9 r0_10), (View.ld x8 r0_11, View.ld x9 r0_12),
    (View.ld x8 r0_13, View.ld x9 r0_14), (View.ld x8 r0_15, View.ld x9 r0_16), (View.ld x8 r0_17, View.ld x9 r0_18),
    (View.ld x8 r0_19, View.ld x9 r0_20), (View.ld x8 r0_21, View.ld x9 r0_22)]

/-- One query group against all tiles. -/
def piece (x : Vec F S256x256 .bf16) (x8 : Vec F S1x8448x256 .bf16) (x9 : Vec F S1x1x144x8448 .bf16) :
    FVec F S256x128 .bf16 :=
  finish ((tiles x8 x9).foldl (step (View.ld x r0_0)) start).2

set_option maxHeartbeats 4000000 in
/-- The body's eight stores are the eight query groups' pieces. -/
theorem out_eq (x0 x1 x2 x3 x4 x5 x6 x7 : Vec F S256x256 .bf16) (x8 : Vec F S1x8448x256 .bf16)
    (x9 : Vec F S1x1x144x8448 .bf16) :
    out0_10 x0 x1 x2 x3 x4 x5 x6 x7 x8 x9 = View.canon [⟨r0_30, piece x7 x8 x9⟩, ⟨r0_29, piece x6 x8 x9⟩,
      ⟨r0_28, piece x5 x8 x9⟩, ⟨r0_27, piece x4 x8 x9⟩, ⟨r0_26, piece x3 x8 x9⟩, ⟨r0_25, piece x2 x8 x9⟩,
      ⟨r0_24, piece x1 x8 x9⟩, ⟨r0_23, piece x0 x8 x9⟩] := by
  rfl

end Cert.Attn

end
-- ==== Proof.Online.lean ====
/- What the kernel's online softmax computes over the extended reals: for finite scores, a weighted
   sum of the values, each weight a power of two over the sum of all of them. The values themselves may
   be anything. -/
module

public import proofs.«01_k».proof.Proof.Flash
public import Idealize.ShloMosaic.Lib.Pointwise

@[expose] public section

noncomputable section

namespace Cert.Attn

open Cert.KernelIdeal Cert.KernelIdeal.Gen Idealize.ShloMosaic

/-! ## The fold's operations at an index -/

theorem scores_apply (q : Vec Ideal S256x256 .bf16) (k : Vec Ideal S1x768x256 .bf16) (i : Fin 768) (j : Fin 256) :
    scores q k (ix2 i j) = ∑ e : Fin 256, (k (ix3 0 i e) : EReal) * (q (ix2 j e) : EReal) := by
  pointwise [scores]

/-- The pattern of negative infinity. -/
theorem negInf : Ideal.ofBits .f32 0xFF800000#32 = ⊥ := by
  simp [Ideal.ofBits, Ideal.ieee]

theorem newMax_apply (m : FVec Ideal S1x256 .f32) (s : FVec Ideal S768x256 .f32) (j : Fin 256) :
    (newMax m s (ix2 0 j) : EReal)
      = max (m (ix2 0 j) : EReal) (Finset.fold max (⊥ : EReal) (fun i => s (ix2 i j)) Finset.univ) := by
  pointwise [newMax, negInf]

theorem newAcc_apply (m m' : FVec Ideal S1x256 .f32) (a : FVec Ideal S144x256 .f32) (s : FVec Ideal S768x256 .f32)
    (v : Vec Ideal S1x1x144x768 .bf16) (d : Fin 144) (j : Fin 256) :
    (newAcc m m' a s v (ix2 d j) : EReal)
      = Ideal.exp2 ((m (ix2 0 j) : EReal) - (m' (ix2 0 j) : EReal)) * (a (ix2 d j) : EReal)
        + ∑ i : Fin 768, (v (ix4 0 0 d i) : EReal) * Ideal.exp2 ((s (ix2 i j) : EReal) - (m' (ix2 0 j) : EReal)) := by
  pointwise [newAcc]
  rfl

theorem finish_apply (a : FVec Ideal S144x256 .f32) (r : Fin 256) (d : Fin 128) :
    (finish a (ix2 r d) : EReal)
      = Ideal.div (a (ix2 (d.castLE (by omega) : Fin 144) r) : EReal) (a (ix2 (128 : Fin 144) r) : EReal) := by
  pointwise [finish]
  rfl

theorem start_max (j : Fin 256) : ((start (F := Ideal)).1 (ix2 0 j) : EReal) = ⊥ := by
  pointwise [start, negInf]

theorem start_acc (d : Fin 144) (j : Fin 256) : ((start (F := Ideal)).2 (ix2 d j) : EReal) = 0 := by
  pointwise [start]

/-! ## Extended reals -/

/-- Multiplication by a nonnegative real, as a homomorphism of sums. -/
def scale (c : ℝ) (hc : 0 ≤ c) : EReal →+ EReal where
  toFun x := (c : EReal) * x
  map_zero' := mul_zero _
  map_add' x y := EReal.left_distrib_of_nonneg_of_ne_top (EReal.coe_nonneg.2 hc) (EReal.coe_ne_top c) x y

theorem mul_sum_coe {ι : Type} (s : Finset ι) (f : ι → EReal) (c : ℝ) (hc : 0 ≤ c) :
    (c : EReal) * ∑ i ∈ s, f i = ∑ i ∈ s, (c : EReal) * f i := map_sum (scale c hc) f s

/-- A finite sum of reals, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : ((max x y : ℝ) : EReal) = max (x : EReal) (y : EReal) :=
  EReal.coe_strictMono.monotone.map_max

/-- The greatest of a nonempty family of reals, folded from negative infinity, is a real. -/
theorem fold_max_real {ι : Type} (s : Finset ι) (hs : s.Nonempty) (f : ι → ℝ) :
    ∃ M : ℝ, Finset.fold max (⊥ : EReal) (fun i => (f i : EReal)) s = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM, coe_max]

theorem exp2_sub (x y : ℝ) : Ideal.exp2 ((x : EReal) - (y : EReal)) = (((2 : ℝ) ^ (x - y) : ℝ) : EReal) := by
  rw [← EReal.coe_sub]; rfl

/-- The weights of a query seen from maximum `M`, moved to `M'`. -/
theorem rescale {n : ℕ} (v : Fin n → EReal) (s : Fin n → ℝ) (M M' : ℝ) :
    (((2 : ℝ) ^ (M - M') : ℝ) : EReal) * ∑ i, v i * (((2 : ℝ) ^ (s i - M) : ℝ) : EReal)
      = ∑ i, v i * (((2 : ℝ) ^ (s i - M') : ℝ) : EReal) := by
  rw [mul_sum_coe _ _ _ (by positivity)]
  refine Finset.sum_congr rfl fun i _ => ?_
  rw [mul_left_comm, ← EReal.coe_mul, ← Real.rpow_add (by norm_num)]
  congr 3; ring

theorem sum_pow_pos {ι : Type} [Fintype ι] [Nonempty ι] (s : ι → ℝ) : (0 : ℝ) < ∑ n, (2 : ℝ) ^ s n :=
  Finset.sum_pos (fun _ _ => by positivity) Finset.univ_nonempty

/-- The maximum the scores are counted from cancels. -/
theorem weight_eq {ι : Type} [Fintype ι] [Nonempty ι] (s : ι → ℝ) (M : ℝ) (n : ι) :
    1 / (∑ n, (2 : ℝ) ^ (s n - M)) * (2 : ℝ) ^ (s n - M) = (2 : ℝ) ^ s n / ∑ n, (2 : ℝ) ^ s n := by
  have h : ∀ n, (2 : ℝ) ^ (s n - M) = (2 : ℝ) ^ s n / (2 : ℝ) ^ M := fun n => Real.rpow_sub (by norm_num) _ _
  have h2 : (2 : ℝ) ^ M ≠ 0 := by positivity
  have hZ := (sum_pow_pos s).ne'
  simp only [h, ← Finset.sum_div]
  field_simp

/-! ## The fold -/

/-- The weighted sum of the values of a list of tiles, with the scores `s` counted from `M`. -/
def weighted (s : Vec Ideal S1x768x256 .bf16 × Vec Ideal S1x1x144x768 .bf16 → Fin 768 → ℝ) (M : ℝ) (d : Fin 144)
    (l : List (Vec Ideal S1x768x256 .bf16 × Vec Ideal S1x1x144x768 .bf16)) : EReal :=
  (l.map fun kv => ∑ i : Fin 768, (kv.2 (ix4 0 0 d i) : EReal) * (((2 : ℝ) ^ (s kv i - M) : ℝ) : EReal)).sum

theorem weighted_rescale (s : Vec Ideal S1x768x256 .bf16 × Vec Ideal S1x1x144x768 .bf16 → Fin 768 → ℝ) (M M' : ℝ)
    (d : Fin 144) (l : List (Vec Ideal S1x768x256 .bf16 × Vec Ideal S1x1x144x768 .bf16)) :
    (((2 : ℝ) ^ (M - M') : ℝ) : EReal) * weighted s M d l = weighted s M' d l := by
  unfold weighted
  have h := map_list_sum (scale ((2 : ℝ) ^ (M - M')) (by positivity))
    (l.map fun kv => ∑ i : Fin 768, (kv.2 (ix4 0 0 d i) : EReal) * (((2 : ℝ) ^ (s kv i - M) : ℝ) : EReal))
  rw [List.map_map] at h
  refine h.trans (congrArg List.sum (List.map_congr_left fun kv _ => ?_))
  exact rescale _ _ M M'

/-- After any nonempty list of tiles the running maximum of query `j` is a real `M`, and its accumulator is the
    weighted sum of the values with the scores counted from `M`; before the first tile they are negative infinity and 0. -/
theorem fold_spec (q : Vec Ideal S256x256 .bf16) (j : Fin 256)
    (s : Vec Ideal S1x768x256 .bf16 × Vec Ideal S1x1x144x768 .bf16 → Fin 768 → ℝ)
    (l : List (Vec Ideal S1x768x256 .bf16 × Vec Ideal S1x1x144x768 .bf16))
    (hs : ∀ kv ∈ l, ∀ i, (scores q kv.1 (ix2 i j) : EReal) = (s kv i : EReal)) :
    (l = [] ∧ ((l.foldl (step q) start).1 (ix2 0 j) : EReal) = ⊥
        ∧ ∀ d, ((l.foldl (step q) start).2 (ix2 d j) : EReal) = 0)
    ∨ ∃ M : ℝ, ((l.foldl (step q) start).1 (ix2 0 j) : EReal) = (M : EReal)
        ∧ ∀ d, ((l.foldl (step q) start).2 (ix2 d j) : EReal) = weighted s M d l := by
  induction l using List.reverseRecOn with
  | nil => exact Or.inl ⟨rfl, start_max j, fun d => start_acc d j⟩
  | append_singleton l kv ih =>
    right
    have ih := ih fun kv' h' => hs kv' (List.mem_append_left _ h')
    have hkv := hs kv (List.mem_append_right _ (List.mem_singleton_self kv))
    rw [List.foldl_append, List.foldl_cons, List.foldl_nil]
    generalize hst : l.foldl (step q) start = st at ih ⊢
    obtain ⟨T, hT⟩ := fold_max_real (Finset.univ : Finset (Fin 768)) ⟨0, Finset.mem_univ _⟩ (s kv)
    have hmax : ((step q st kv).1 (ix2 0 j) : EReal) = max (st.1 (ix2 0 j) : EReal) (T : EReal) := by
      show (newMax st.1 (scores q kv.1) (ix2 0 j) : EReal) = _
      rw [newMax_apply]
      simp only [hkv]
      rw [hT]
    have hacc : ∀ M' : ℝ, ((step q st kv).1 (ix2 0 j) : EReal) = (M' : EReal) → ∀ d,
        ((step q st kv).2 (ix2 d j) : EReal) = Ideal.exp2 ((st.1 (ix2 0 j) : EReal) - (M' : EReal)) * (st.2 (ix2 d j) : EReal)
          + ∑ i : Fin 768, (kv.2 (ix4 0 0 d i) : EReal) * (((2 : ℝ) ^ (s kv i - M') : ℝ) : EReal) := by
      intro M' hM' d
      show (newAcc st.1 (step q st kv).1 st.2 (scores q kv.1) kv.2 (ix2 d j) : EReal) = _
      rw [newAcc_apply, hM']
      simp only [hkv, exp2_sub]
    rcases ih with ⟨hl, h1, h2⟩ | ⟨M, h1, h2⟩
    · refine ⟨T, by rw [hmax, h1]; exact max_eq_right bot_le, fun d => ?_⟩
      rw [hacc T (by rw [hmax, h1]; exact max_eq_right bot_le) d, h2 d, mul_zero, zero_add, hl]
      simp [weighted]
    · have hm : ((step q st kv).1 (ix2 0 j) : EReal) = ((max M T : ℝ) : EReal) := by
        rw [hmax, h1, coe_max]
      refine ⟨max M T, hm, fun d => ?_⟩
      rw [hacc _ hm d, h1, h2 d, exp2_sub, weighted_rescale]
      simp [weighted]

/-! ## The tiles -/

/-- The keys of tile `t`. -/
def keyTile (x8 : Vec Ideal S1x8448x256 .bf16) (t : Fin 11) : Vec Ideal S1x768x256 .bf16 :=
  fun y => x8 (ix3 0 (finProdFinEquiv (t, y 1)) (y 2))

/-- The values of tile `t`. -/
def valTile (x9 : Vec Ideal S1x1x144x8448 .bf16) (t : Fin 11) : Vec Ideal S1x1x144x768 .bf16 :=
  fun y => x9 (ix4 0 0 (y 2) (finProdFinEquiv (t, y 3)))

theorem tiles_eq (x8 : Vec Ideal S1x8448x256 .bf16) (x9 : Vec Ideal S1x1x144x8448 .bf16) :
    tiles x8 x9 = (List.finRange 11).map fun t => (keyTile x8 t, valTile x9 t) := by
  have hk : ∀ (x : Vec Ideal S1x768x256 .bf16) (t : Fin 11),
      (∀ i e, x (ix3 0 i e) = x8 (ix3 0 (finProdFinEquiv (t, i)) e)) → x = keyTile x8 t := by
    intro x t h
    funext y
    idx_vars y
    obtain rfl : y0 = 0 := Subsingleton.elim _ _
    exact h y1 y2
  have hv : ∀ (x : Vec Ideal S1x1x144x768 .bf16) (t : Fin 11),
      (∀ d i, x (ix4 0 0 d i) = x9 (ix4 0 0 d (finProdFinEquiv (t, i)))) → x = valTile x9 t := by
    intro x t h
    funext y
    idx_vars y
    obtain rfl : y0 = 0 := Subsingleton.elim _ _
    obtain rfl : y1 = 0 := Subsingleton.elim _ _
    exact h y2 y3
  rw [show List.finRange 11 = [0, 1, 2, 3, 4, 5, 6, 7, 8, 9, 10] from rfl]
  simp only [tiles, List.map_cons, List.map_nil]
  have kt : ∀ (t : Fin 11) (i : Fin 768) (n : Fin 8448) (e : Fin 256), n.val = 768 * t.val + i.val →
      x8 (ix3 0 n e) = x8 (ix3 0 (finProdFinEquiv (t, i)) e) := by
    intro t i n e h
    exact congrArg (fun n => x8 (ix3 0 n e)) (Fin.ext (by rw [h]; simp [finProdFinEquiv]; omega))
  have vt : ∀ (t : Fin 11) (i : Fin 768) (n : Fin 8448) (d : Fin 144), n.val = 768 * t.val + i.val →
      x9 (ix4 0 0 d n) = x9 (ix4 0 0 d (finProdFinEquiv (t, i))) := by
    intro t i n d h
    exact congrArg (fun n => x9 (ix4 0 0 d n)) (Fin.ext (by rw [h]; simp [finProdFinEquiv]; omega))
  have k0 : (View.ld x8 r0_1 : Vec Ideal S1x768x256 .bf16) = keyTile x8 0 := hk _ 0 fun i e => by
    pointwise [r0_1]
    exact kt 0 i _ e (by simp)
  have v0 : (View.ld x9 r0_2 : Vec Ideal S1x1x144x768 .bf16) = valTile x9 0 := hv _ 0 fun d i => by
    pointwise [r0_2]
    exact vt 0 i _ d (by simp)
  have k1 : (View.ld x8 r0_3 : Vec Ideal S1x768x256 .bf16) = keyTile x8 1 := hk _ 1 fun i e => by
    pointwise [r0_3]
    exact kt 1 i _ e (by simp)
  have v1 : (View.ld x9 r0_4 : Vec Ideal S1x1x144x768 .bf16) = valTile x9 1 := hv _ 1 fun d i => by
    pointwise [r0_4]
    exact vt 1 i _ d (by simp)
  have k2 : (View.ld x8 r0_5 : Vec Ideal S1x768x256 .bf16) = keyTile x8 2 := hk _ 2 fun i e => by
    pointwise [r0_5]
    exact kt 2 i _ e (by simp)
  have v2 : (View.ld x9 r0_6 : Vec Ideal S1x1x144x768 .bf16) = valTile x9 2 := hv _ 2 fun d i => by
    pointwise [r0_6]
    exact vt 2 i _ d (by simp)
  have k3 : (View.ld x8 r0_7 : Vec Ideal S1x768x256 .bf16) = keyTile x8 3 := hk _ 3 fun i e => by
    pointwise [r0_7]
    exact kt 3 i _ e (by simp)
  have v3 : (View.ld x9 r0_8 : Vec Ideal S1x1x144x768 .bf16) = valTile x9 3 := hv _ 3 fun d i => by
    pointwise [r0_8]
    exact vt 3 i _ d (by simp)
  have k4 : (View.ld x8 r0_9 : Vec Ideal S1x768x256 .bf16) = keyTile x8 4 := hk _ 4 fun i e => by
    pointwise [r0_9]
    exact kt 4 i _ e (by simp)
  have v4 : (View.ld x9 r0_10 : Vec Ideal S1x1x144x768 .bf16) = valTile x9 4 := hv _ 4 fun d i => by
    pointwise [r0_10]
    exact vt 4 i _ d (by simp)
  have k5 : (View.ld x8 r0_11 : Vec Ideal S1x768x256 .bf16) = keyTile x8 5 := hk _ 5 fun i e => by
    pointwise [r0_11]
    exact kt 5 i _ e (by simp)
  have v5 : (View.ld x9 r0_12 : Vec Ideal S1x1x144x768 .bf16) = valTile x9 5 := hv _ 5 fun d i => by
    pointwise [r0_12]
    exact vt 5 i _ d (by simp)
  have k6 : (View.ld x8 r0_13 : Vec Ideal S1x768x256 .bf16) = keyTile x8 6 := hk _ 6 fun i e => by
    pointwise [r0_13]
    exact kt 6 i _ e (by simp)
  have v6 : (View.ld x9 r0_14 : Vec Ideal S1x1x144x768 .bf16) = valTile x9 6 := hv _ 6 fun d i => by
    pointwise [r0_14]
    exact vt 6 i _ d (by simp)
  have k7 : (View.ld x8 r0_15 : Vec Ideal S1x768x256 .bf16) = keyTile x8 7 := hk _ 7 fun i e => by
    pointwise [r0_15]
    exact kt 7 i _ e (by simp)
  have v7 : (View.ld x9 r0_16 : Vec Ideal S1x1x144x768 .bf16) = valTile x9 7 := hv _ 7 fun d i => by
    pointwise [r0_16]
    exact vt 7 i _ d (by simp)
  have k8 : (View.ld x8 r0_17 : Vec Ideal S1x768x256 .bf16) = keyTile x8 8 := hk _ 8 fun i e => by
    pointwise [r0_17]
    exact kt 8 i _ e (by simp)
  have v8 : (View.ld x9 r0_18 : Vec Ideal S1x1x144x768 .bf16) = valTile x9 8 := hv _ 8 fun d i => by
    pointwise [r0_18]
    exact vt 8 i _ d (by simp)
  have k9 : (View.ld x8 r0_19 : Vec Ideal S1x768x256 .bf16) = keyTile x8 9 := hk _ 9 fun i e => by
    pointwise [r0_19]
    exact kt 9 i _ e (by simp)
  have v9 : (View.ld x9 r0_20 : Vec Ideal S1x1x144x768 .bf16) = valTile x9 9 := hv _ 9 fun d i => by
    pointwise [r0_20]
    exact vt 9 i _ d (by simp)
  have k10 : (View.ld x8 r0_21 : Vec Ideal S1x768x256 .bf16) = keyTile x8 10 := hk _ 10 fun i e => by
    pointwise [r0_21]
    exact kt 10 i _ e (by simp)
  have v10 : (View.ld x9 r0_22 : Vec Ideal S1x1x144x768 .bf16) = valTile x9 10 := hv _ 10 fun d i => by
    pointwise [r0_22]
    exact vt 10 i _ d (by simp)
  rw [k0, v0, k1, v1, k2, v2, k3, v3, k4, v4, k5, v5, k6, v6, k7, v7, k8, v8, k9, v9, k10, v10]

/-- A sum over the keys, tile by tile. -/
theorem sum_tiles {A : Type} [AddCommMonoid A] (f : Fin 8448 → A) :
    ((List.finRange 11).map fun t => ∑ i : Fin 768, f (finProdFinEquiv (t, i))).sum = ∑ n : Fin 8448, f n := by
  rw [← List.ofFn_eq_map, List.sum_ofFn, ← Fintype.sum_prod_type']
  exact Fintype.sum_equiv finProdFinEquiv _ _ fun _ => rfl

/-- One query group's stored piece. For a query `r` whose scores are the reals `σ`, and with row 128 of the values
    holding ones: the values weighted by `2 ^ σ n` over the sum of all these powers. -/
theorem piece_apply (x : Vec Ideal S256x256 .bf16) (x8 : Vec Ideal S1x8448x256 .bf16) (x9 : Vec Ideal S1x1x144x8448 .bf16)
    (r : Fin 256) (d : Fin 128) (σ : Fin 8448 → ℝ)
    (hσ : ∀ n, (∑ e : Fin 256, (x8 (ix3 0 n e) : EReal) * (x (ix2 r e) : EReal)) = (σ n : EReal))
    (hone : ∀ n, (x9 (ix4 0 0 (128 : Fin 144) n) : EReal) = 1) :
    (piece x x8 x9 (ix2 r d) : EReal)
      = ∑ n : Fin 8448, (x9 (ix4 0 0 (d.castLE (by omega) : Fin 144) n) : EReal)
          * (((2 : ℝ) ^ σ n / ∑ n' : Fin 8448, (2 : ℝ) ^ σ n' : ℝ) : EReal) := by
  have hq : (View.ld x r0_0 : Vec Ideal S256x256 .bf16) = x := by
    funext y
    idx_vars y
    pointwise [r0_0]
  -- the scores of a tile, named from the tile itself
  let s : Vec Ideal S1x768x256 .bf16 × Vec Ideal S1x1x144x768 .bf16 → Fin 768 → ℝ :=
    fun kv i => (scores x kv.1 (ix2 i r) : EReal).toReal
  have hsc : ∀ (t : Fin 11) (i : Fin 768), (scores x (keyTile x8 t) (ix2 i r) : EReal) = (σ (finProdFinEquiv (t, i)) : EReal) := by
    intro t i
    rw [scores_apply]
    exact hσ (finProdFinEquiv (t, i))
  have hs : ∀ (t : Fin 11) (i : Fin 768), s (keyTile x8 t, valTile x9 t) i = σ (finProdFinEquiv (t, i)) := by
    intro t i
    show (scores x (keyTile x8 t) (ix2 i r) : EReal).toReal = _
    rw [hsc, EReal.toReal_coe]
  rcases fold_spec x r s (tiles x8 x9) (by
      rw [tiles_eq]
      intro kv hkv i
      obtain ⟨t, -, rfl⟩ := List.mem_map.1 hkv
      rw [hs]
      exact hsc t i) with ⟨h, -⟩ | ⟨M, -, hM⟩
  · exact absurd h (by simp [tiles])
  have hw : ∀ d : Fin 144, ((tiles x8 x9).foldl (step x) start).2 (ix2 d r)
      = ∑ n : Fin 8448, (x9 (ix4 0 0 d n) : EReal) * (((2 : ℝ) ^ (σ n - M) : ℝ) : EReal) := by
    intro d
    rw [hM d, weighted, tiles_eq, List.map_map, ← sum_tiles]
    refine congrArg List.sum (List.map_congr_left fun t _ => Finset.sum_congr rfl fun i _ => ?_)
    rw [hs]
    rfl
  have hZ : (0 : ℝ) < ∑ n : Fin 8448, (2 : ℝ) ^ (σ n - M) :=
    sum_pow_pos _
  have hden : ((tiles x8 x9).foldl (step x) start).2 (ix2 (128 : Fin 144) r)
      = ((∑ n : Fin 8448, (2 : ℝ) ^ (σ n - M) : ℝ) : EReal) := by
    rw [hw, ← coe_sum]
    exact Finset.sum_congr rfl fun n _ => by rw [hone, one_mul]
  unfold piece
  rw [finish_apply, hq, hw, hden, Ideal.div_coe hZ.ne', mul_comm, mul_sum_coe _ _ _ (one_div_pos.2 hZ).le]
  refine Finset.sum_congr rfl fun n _ => ?_
  rw [mul_left_comm, ← EReal.coe_mul, weight_eq σ M n]

end Cert.Attn

end
-- ==== Proof.Layout.lean ====
/- The arrays the kernel's call is given, at an index: what the host lines before the call make of the arguments. -/
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

/-! ## The host lines -/

/-- The factor of the queries. -/
def factorOf : FVec F S_ .f32 :=
  Host.divf (constant S_ .f32 0x3F800000#32)
    (mulf (Host.sqrt (constant S_ .f32 0x43400000#32)) (Host.log (constant S_ .f32 0x40000000#32)))

/-- The queries of a head in 256 columns, times the factor. -/
def queries (a0 : FVec F S2x8192x8x128 .f32) (a1 : FVec F S2x8192x8x64 .f32) : FVec F S2x8192x8x256 .f32 :=
  mulf (concatenate S2x8192x8x256 3 [⟨S2x8192x8x128, a0⟩, ⟨S2x8192x8x64, a1⟩,
      ⟨S2x8192x8x64, broadcastInDim S2x8192x8x64 ![] bcast_S_S2x8192x8x64 (constant (F := F) S_ .f32 0x00000000#32)⟩]
      concatenates_S2x8192x8x128_S2x8192x8x64_S2x8192x8x64_S2x8192x8x256_d3)
    (broadcastInDim S2x8192x8x256 ![] bcast_S_S2x8192x8x256 (factorOf (F := F)))

/-- The same after 256 rows of zeros. -/
def queryRows (x : FVec F S2x8192x8x256 .f32) : FVec F S2x8448x8x256 .f32 :=
  concatenate S2x8448x8x256 1 [⟨S2x256x8x256, broadcastInDim S2x256x8x256 ![] bcast_S_S2x256x8x256
      (constant (F := F) S_ .f32 0x00000000#32)⟩, ⟨S2x8192x8x256, x⟩] concatenates_S2x256x8x256_S2x8192x8x256_S2x8448x8x256_d1

/-- Heads along the columns, batches along the rows. -/
def flat (x : FVec F S2x8448x8x256 .f32) : FVec F S16896x2048 .bf16 :=
  truncf .bf16 (shapeCast S16896x2048 x shapeCasts_S2x8448x8x256_S16896x2048) bitsLt_bf16_f32

/-- The keys of a head in 256 columns, the context's first. -/
def keys (a2 : FVec F S2x8192x8x128 .f32) (a3 : FVec F S2x256x8x128 .f32) (a4 : FVec F S2x8192x64 .f32)
    (a5 : FVec F S2x256x64 .f32) : FVec F S2x8448x8x256 .f32 :=
  concatenate S2x8448x8x256 3
    [⟨S2x8448x8x128, concatenate S2x8448x8x128 1 [⟨S2x256x8x128, a3⟩, ⟨S2x8192x8x128, a2⟩]
        concatenates_S2x256x8x128_S2x8192x8x128_S2x8448x8x128_d1⟩,
      ⟨S2x8448x8x64, broadcastInDim S2x8448x8x64 ![0, 1, 2, 3] bcast_S2x8448x1x64_S2x8448x8x64_0_1_2_3
        (broadcastInDim S2x8448x1x64 ![0, 1, 3] bcast_S2x8448x64_S2x8448x1x64_0_1_3
          (concatenate S2x8448x64 1 [⟨S2x256x64, a5⟩, ⟨S2x8192x64, a4⟩] concatenates_S2x256x64_S2x8192x64_S2x8448x64_d1))⟩,
      ⟨S2x8448x8x64, broadcastInDim S2x8448x8x64 ![] bcast_S_S2x8448x8x64 (constant (F := F) S_ .f32 0x00000000#32)⟩]
    concatenates_S2x8448x8x128_S2x8448x8x64_S2x8448x8x64_S2x8448x8x256_d3

/-- The values of a head, transposed, over 16 rows of ones; the context's first. -/
def values (a6 : FVec F S2x8192x8x128 .f32) (a7 : FVec F S2x256x8x128 .f32) : FVec F S2x8x144x8448 .bf16 :=
  truncf .bf16 (concatenate S2x8x144x8448 2
    [⟨S2x8x128x8448, transpose S2x8x128x8448 [0, 2, 3, 1]
        (concatenate S2x8448x8x128 1 [⟨S2x256x8x128, a7⟩, ⟨S2x8192x8x128, a6⟩]
          concatenates_S2x256x8x128_S2x8192x8x128_S2x8448x8x128_d1) transposes_S2x8448x8x128_S2x8x128x8448_0_2_3_1⟩,
      ⟨S2x8x16x8448, broadcastInDim S2x8x16x8448 ![] bcast_S_S2x8x16x8448 (constant (F := F) S_ .f32 0x3F800000#32)⟩]
    concatenates_S2x8x128x8448_S2x8x16x8448_S2x8x144x8448_d2) bitsLt_bf16_f32

section
variable (m : (ℓ : Loc nD τ sig) → Buf (Elt F) ℓ) (c : Dev nD)

set_option maxHeartbeats 4000000 in
theorem V_queries : V m c main_v11 = flat (queryRows (queries (m ((c : Thread nD τ).loc main_arg0)) (m ((c : Thread nD τ).loc main_arg1)))) := by
  unfold_abbrev_sides
  after_results
  rfl

set_option maxHeartbeats 4000000 in
theorem V_keys : V m c main_v25 = shapeCast S2x8448x2048 (flat (keys (m ((c : Thread nD τ).loc main_arg2)) (m ((c : Thread nD τ).loc main_arg3))
    (m ((c : Thread nD τ).loc main_arg4)) (m ((c : Thread nD τ).loc main_arg5)))) shapeCasts_S16896x2048_S2x8448x2048 := by
  unfold_abbrev_sides
  after_results
  rfl

theorem V_values : V m c main_v24 = values (m ((c : Thread nD τ).loc main_arg6)) (m ((c : Thread nD τ).loc main_arg7)) := by
  unfold_abbrev_sides
  after_results
  rfl

end

/-! ## At an index -/

theorem factor_apply : (factorOf (F := Ideal) ix0 : EReal)
    = Ideal.div 1 (Ideal.sqrt (Ideal.ofBits .f32 0x43400000#32) * Ideal.log (Ideal.ofBits .f32 0x40000000#32)) := by
  pointwise [factorOf]

theorem queries_apply (a0 : FVec Ideal S2x8192x8x128 .f32) (a1 : FVec Ideal S2x8192x8x64 .f32)
    (b : Fin 2) (t : Fin 8192) (h : Fin 8) (e : Fin 256) :
    (queries a0 a1 (ix4 b t h e) : EReal)
      = (if he : e.val < 128 then (a0 (ix4 b t h ⟨e.val, he⟩) : EReal)
          else if he' : e.val - 128 < 64 then (a1 (ix4 b t h ⟨e.val - 128, he'⟩) : EReal) else 0) * (factorOf (F := Ideal) ix0 : EReal) := by
  pointwise [queries]

theorem queryRows_apply (x : FVec Ideal S2x8192x8x256 .f32) (b : Fin 2) (t : Fin 8192) (n : Fin 8448) (h : Fin 8) (e : Fin 256)
    (hn : n.val = 256 + t.val) : queryRows x (ix4 b n h e) = x (ix4 b t h e) := by
  pointwise [queryRows]
  rw [dif_neg (by omega)]
  exact congrArg (fun t => x (ix4 b t h e)) (Fin.ext (by simp only [hn]; omega))

theorem flat_apply (x : FVec Ideal S2x8448x8x256 .f32) (b : Fin 2) (n : Fin 8448) (h : Fin 8) (e : Fin 256)
    (i : Fin 16896) (j : Fin 2048) (hi : i.val = b.val * 8448 + n.val) (hj : j.val = h.val * 256 + e.val) :
    flat x (ix2 i j) = x (ix4 b n h e) := by
  pointwise [flat]
  have h1 : (⟨i.val / 8448, by omega⟩ : Fin 2) = b := Fin.ext (by simp only [hi]; omega)
  have h2 : (⟨i.val % 8448, by omega⟩ : Fin 8448) = n := Fin.ext (by simp only [hi]; omega)
  have h3 : (⟨j.val / 256, by omega⟩ : Fin 8) = h := Fin.ext (by simp only [hj]; omega)
  have h4 : (⟨j.val % 256, by omega⟩ : Fin 256) = e := Fin.ext (by simp only [hj]; omega)
  rw [h1, h2, h3, h4]

theorem keys3_apply (x : FVec Ideal S16896x2048 .bf16) (b : Fin 2) (n : Fin 8448) (j : Fin 2048) :
    shapeCast S2x8448x2048 x shapeCasts_S16896x2048_S2x8448x2048 (ix3 b n j)
      = x (ix2 ⟨b.val * 8448 + n.val, by omega⟩ j) := by
  pointwise []

theorem keys_apply (a2 : FVec Ideal S2x8192x8x128 .f32) (a3 : FVec Ideal S2x256x8x128 .f32) (a4 : FVec Ideal S2x8192x64 .f32)
    (a5 : FVec Ideal S2x256x64 .f32) (b : Fin 2) (n : Fin 8448) (h : Fin 8) (e : Fin 256) :
    (keys a2 a3 a4 a5 (ix4 b n h e) : EReal)
      = if he : e.val < 128 then
          if hn : n.val < 256 then (a3 (ix4 b ⟨n.val, hn⟩ h ⟨e.val, he⟩) : EReal)
          else (a2 (ix4 b ⟨n.val - 256, by omega⟩ h ⟨e.val, he⟩) : EReal)
        else if he' : e.val - 128 < 64 then
          if hn : n.val < 256 then (a5 (ix3 b ⟨n.val, hn⟩ ⟨e.val - 128, he'⟩) : EReal)
          else (a4 (ix3 b ⟨n.val - 256, by omega⟩ ⟨e.val - 128, he'⟩) : EReal)
        else 0 := by
  pointwise [keys]

theorem values_apply (a6 : FVec Ideal S2x8192x8x128 .f32) (a7 : FVec Ideal S2x256x8x128 .f32) (b : Fin 2) (h : Fin 8)
    (d : Fin 144) (n : Fin 8448) :
    (values a6 a7 (ix4 b h d n) : EReal)
      = if hd : d.val < 128 then
          if hn : n.val < 256 then (a7 (ix4 b ⟨n.val, hn⟩ h ⟨d.val, hd⟩) : EReal)
          else (a6 (ix4 b ⟨n.val - 256, by omega⟩ h ⟨d.val, hd⟩) : EReal)
        else 1 := by
  pointwise [values]

end Cert.Attn

end
-- ==== Proof.Answer.lean ====
/- What both programs compute: for a query of a head, the values weighted by the softmax of its scores against the
   context and against the sequence. -/
module

public import proofs.«01_k».proof.Proof.Online
public import proofs.«01_k».proof.Proof.Layout

@[expose] public section

set_option maxRecDepth 16384

noncomputable section

namespace Cert.Attn

open Cert.KernelIdeal Cert.KernelIdeal.Gen Idealize.ShloMosaic Idealize.ShloMosaic.TcCoe Idealize.SL.Sem

/-! ## The definition -/

/-- The score of a query and a key: the product of their first parts plus the product of their rotary parts. -/
def score (q k : Fin 128 → EReal) (qr kr : Fin 64 → EReal) : ℝ :=
  (∑ e, (q e).toReal * (k e).toReal) + ∑ e, (qr e).toReal * (kr e).toReal

/-- The softmax's sum of exponentials. -/
def total (sc : Fin 256 → ℝ) (s : Fin 8192 → ℝ) : ℝ :=
  (∑ n, Real.exp (sc n / Real.sqrt 192)) + ∑ n, Real.exp (s n / Real.sqrt 192)

/-- The values weighted by the softmax of the scores: the context's and the sequence's. -/
def attend (sc : Fin 256 → ℝ) (s : Fin 8192 → ℝ) (vc : Fin 256 → EReal) (v : Fin 8192 → EReal) : EReal :=
  (∑ n, vc n * ((Real.exp (sc n / Real.sqrt 192) / total sc s : ℝ) : EReal))
    + ∑ n, v n * ((Real.exp (s n / Real.sqrt 192) / total sc s : ℝ) : EReal)

section Arrays

variable (a0 : FVec Ideal S2x8192x8x128 .f32) (a1 : FVec Ideal S2x8192x8x64 .f32) (a2 : FVec Ideal S2x8192x8x128 .f32)
  (a3 : FVec Ideal S2x256x8x128 .f32) (a4 : FVec Ideal S2x8192x64 .f32) (a5 : FVec Ideal S2x256x64 .f32)
  (a6 : FVec Ideal S2x8192x8x128 .f32) (a7 : FVec Ideal S2x256x8x128 .f32)

/-- The score of query `t` against key `n` of the context. -/
def contextScore (b : Fin 2) (t : Fin 8192) (h : Fin 8) (n : Fin 256) : ℝ :=
  score (fun e => a0 (ix4 b t h e)) (fun e => a3 (ix4 b n h e)) (fun e => a1 (ix4 b t h e)) (fun e => a5 (ix3 b n e))

/-- The score of query `t` against key `n` of the sequence. -/
def sequenceScore (b : Fin 2) (t : Fin 8192) (h : Fin 8) (n : Fin 8192) : ℝ :=
  score (fun e => a0 (ix4 b t h e)) (fun e => a2 (ix4 b n h e)) (fun e => a1 (ix4 b t h e)) (fun e => a4 (ix3 b n e))

/-- One element of the attention. -/
def answer (b : Fin 2) (t : Fin 8192) (h : Fin 8) (d : Fin 128) : EReal :=
  attend (contextScore a0 a1 a3 a5 b t h) (sequenceScore a0 a1 a2 a4 b t h) (fun n => a7 (ix4 b n h d)) (fun n => a6 (ix4 b n h d))

/-- The attention's array: a row a query, the heads side by side. -/
def result : Vec Ideal S16384x1024 .bf16 := fun y =>
  answer a0 a1 a2 a3 a4 a5 a6 a7 ⟨(y 0).val / 8192, by have : (y 0).val < 16384 := (y 0).isLt; omega⟩ ⟨(y 0).val % 8192, by omega⟩
    ⟨(y 1).val / 128, by have : (y 1).val < 1024 := (y 1).isLt; omega⟩ ⟨(y 1).val % 128, by omega⟩

theorem result_apply (b : Fin 2) (t : Fin 8192) (h : Fin 8) (d : Fin 128) (y : S16384x1024.Idx)
    (h0 : (y 0).val = b.val * 8192 + t.val) (h1 : (y 1).val = h.val * 128 + d.val) :
    result a0 a1 a2 a3 a4 a5 a6 a7 y = answer a0 a1 a2 a3 a4 a5 a6 a7 b t h d := by
  unfold result
  congr 1
  · exact Fin.ext (by simp only [h0]; omega)
  · exact Fin.ext (by simp only [h0]; omega)
  · exact Fin.ext (by simp only [h1]; omega)
  · exact Fin.ext (by simp only [h1]; omega)

end Arrays

/-! ## Sums in parts -/

/-- A sum over `c` terms is the sum over its first `a` and its last `b`. -/
theorem sum_split {M : Type} [AddCommMonoid M] {a b c : ℕ} (h : a + b = c) (f : Fin c → M) :
    ∑ n, f n = (∑ n : Fin a, f ⟨n.val, by omega⟩) + ∑ n : Fin b, f ⟨a + n.val, by omega⟩ := by
  subst h
  exact Fin.sum_univ_add f

theorem eq_toReal {x : EReal} (h : ∃ r : ℝ, x = (r : EReal)) : x = (x.toReal : EReal) := by
  obtain ⟨r, rfl⟩ := h
  rfl

/-- A sum of products of reals is a real. -/
theorem sum_mul_real {n : ℕ} (k q : Fin n → EReal) (hk : ∀ e, ∃ r : ℝ, k e = (r : EReal)) (hq : ∀ e, ∃ r : ℝ, q e = (r : EReal)) :
    ∑ e, k e * q e = ((∑ e, (q e).toReal * (k e).toReal : ℝ) : EReal) := by
  rw [← coe_sum]
  refine Finset.sum_congr rfl fun e _ => ?_
  rw [EReal.coe_mul, ← eq_toReal (hk e), ← eq_toReal (hq e), mul_comm]

/-- A sum of products of reals whose second factors carry a common factor. -/
theorem sum_mul_factor {n : ℕ} (k q : Fin n → EReal) (φ : ℝ) (hk : ∀ e, ∃ r : ℝ, k e = (r : EReal)) (hq : ∀ e, ∃ r : ℝ, q e = (r : EReal)) :
    ∑ e, k e * (q e * (φ : EReal)) = (((∑ e, (q e).toReal * (k e).toReal) * φ : ℝ) : EReal) := by
  rw [Finset.sum_mul, ← coe_sum]
  refine Finset.sum_congr rfl fun e _ => ?_
  rw [EReal.coe_mul, EReal.coe_mul, ← eq_toReal (hk e), ← eq_toReal (hq e), mul_comm, mul_right_comm]

/-! ## The exponents -/

/-- The factor the queries are scaled by. -/
def factor : ℝ := 1 / (Real.sqrt 192 * Real.log 2)

theorem factor_eq : (factorOf (F := Ideal) ix0 : EReal) = (factor : EReal) := by
  rw [factor_apply]
  have h192 : Ideal.ofBits .f32 0x43400000#32 = ((192 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  rw [h192, h2, Ideal.sqrt_coe, Ideal.log_coe, if_neg (by norm_num), if_neg (by norm_num), ← EReal.coe_mul,
    Ideal.div_coe (mul_ne_zero (by positivity) (Real.log_pos (by norm_num)).ne'), one_mul]
  rfl

/-- A power of two of a scaled score is the exponential of the score over the root of 192. -/
theorem two_pow_factor (s : ℝ) : (2 : ℝ) ^ (s * factor) = Real.exp (s / Real.sqrt 192) := by
  have h : Real.log 2 ≠ 0 := (Real.log_pos (by norm_num)).ne'
  have h' : Real.sqrt 192 ≠ 0 := by positivity
  rw [Real.rpow_def_of_pos (by norm_num), factor]
  congr 1
  field_simp

/-! ## The kernel's blocks -/

section Kernel

variable (a0 : FVec Ideal S2x8192x8x128 .f32) (a1 : FVec Ideal S2x8192x8x64 .f32) (a2 : FVec Ideal S2x8192x8x128 .f32)
  (a3 : FVec Ideal S2x256x8x128 .f32) (a4 : FVec Ideal S2x8192x64 .f32) (a5 : FVec Ideal S2x256x64 .f32)
  (a6 : FVec Ideal S2x8192x8x128 .f32) (a7 : FVec Ideal S2x256x8x128 .f32)

/-- The score of the kernel against key `n` of the two parts together: the context's keys are first. -/
def kernelScore (b : Fin 2) (t : Fin 8192) (h : Fin 8) (n : Fin 8448) : ℝ :=
  (if hn : n.val < 256 then contextScore a0 a1 a3 a5 b t h ⟨n.val, hn⟩
    else sequenceScore a0 a1 a2 a4 b t h ⟨n.val - 256, by omega⟩) * factor

theorem kernel_scores (f0 : ∀ i, ∃ r : ℝ, (a0 i : EReal) = (r : EReal)) (f1 : ∀ i, ∃ r : ℝ, (a1 i : EReal) = (r : EReal))
    (f2 : ∀ i, ∃ r : ℝ, (a2 i : EReal) = (r : EReal)) (f3 : ∀ i, ∃ r : ℝ, (a3 i : EReal) = (r : EReal))
    (f4 : ∀ i, ∃ r : ℝ, (a4 i : EReal) = (r : EReal)) (f5 : ∀ i, ∃ r : ℝ, (a5 i : EReal) = (r : EReal))
    (b : Fin 2) (t : Fin 8192) (h : Fin 8) (n : Fin 8448) :
    ∑ e : Fin 256, (keys a2 a3 a4 a5 (ix4 b n h e) : EReal) * (queries a0 a1 (ix4 b t h e) : EReal)
      = ((kernelScore a0 a1 a2 a3 a4 a5 b t h n : ℝ) : EReal) := by
  rw [sum_split (a := 192) (b := 64) rfl, sum_split (a := 128) (b := 64) (c := 192) rfl]
  have h3 : ∀ e : Fin 64, (keys a2 a3 a4 a5 (ix4 b n h ⟨192 + e.val, by omega⟩) : EReal) = 0 := fun e => by
    rw [keys_apply, dif_neg (by simp only []; omega), dif_neg (by simp only []; omega)]
  simp only [h3, zero_mul, Finset.sum_const_zero, add_zero]
  have q1 : ∀ e : Fin 128, (queries a0 a1 (ix4 b t h ⟨e.val, by omega⟩) : EReal) = (a0 (ix4 b t h e) : EReal) * (factor : EReal) := fun e => by
    rw [queries_apply, dif_pos e.isLt, factor_eq]
  have q2 : ∀ e : Fin 64, (queries a0 a1 (ix4 b t h ⟨128 + e.val, by omega⟩) : EReal) = (a1 (ix4 b t h e) : EReal) * (factor : EReal) := fun e => by
    rw [queries_apply, dif_neg (by simp), dif_pos (by simp), factor_eq]
    simp only [Nat.add_sub_cancel_left]
  simp only [q1, q2]
  unfold kernelScore
  by_cases hn : n.val < 256
  · have k1 : ∀ e : Fin 128, (keys a2 a3 a4 a5 (ix4 b n h ⟨e.val, by omega⟩) : EReal) = (a3 (ix4 b ⟨n.val, hn⟩ h e) : EReal) := fun e => by
      rw [keys_apply, dif_pos e.isLt, dif_pos hn]
    have k2 : ∀ e : Fin 64, (keys a2 a3 a4 a5 (ix4 b n h ⟨128 + e.val, by omega⟩) : EReal) = (a5 (ix3 b ⟨n.val, hn⟩ e) : EReal) := fun e => by
      rw [keys_apply, dif_neg (by simp), dif_pos (by simp), dif_pos hn]
      simp only [Nat.add_sub_cancel_left]
    simp only [k1, k2, dif_pos hn]
    rw [sum_mul_factor _ _ _ (fun e => f3 _) (fun e => f0 _), sum_mul_factor _ _ _ (fun e => f5 _) (fun e => f1 _), ← EReal.coe_add, ← add_mul]
    rfl
  · have k1 : ∀ e : Fin 128, (keys a2 a3 a4 a5 (ix4 b n h ⟨e.val, by omega⟩) : EReal) = (a2 (ix4 b ⟨n.val - 256, by omega⟩ h e) : EReal) := fun e => by
      rw [keys_apply, dif_pos e.isLt, dif_neg hn]
    have k2 : ∀ e : Fin 64, (keys a2 a3 a4 a5 (ix4 b n h ⟨128 + e.val, by omega⟩) : EReal) = (a4 (ix3 b ⟨n.val - 256, by omega⟩ e) : EReal) := fun e => by
      rw [keys_apply, dif_neg (by simp), dif_pos (by simp), dif_neg hn]
      simp only [Nat.add_sub_cancel_left]
    simp only [k1, k2, dif_neg hn]
    rw [sum_mul_factor _ _ _ (fun e => f2 _) (fun e => f0 _), sum_mul_factor _ _ _ (fun e => f4 _) (fun e => f1 _), ← EReal.coe_add, ← add_mul]
    rfl

/-- A block of the kernel at an element is the attention there. -/
theorem piece_answer (f0 : ∀ i, ∃ r : ℝ, (a0 i : EReal) = (r : EReal)) (f1 : ∀ i, ∃ r : ℝ, (a1 i : EReal) = (r : EReal))
    (f2 : ∀ i, ∃ r : ℝ, (a2 i : EReal) = (r : EReal)) (f3 : ∀ i, ∃ r : ℝ, (a3 i : EReal) = (r : EReal))
    (f4 : ∀ i, ∃ r : ℝ, (a4 i : EReal) = (r : EReal)) (f5 : ∀ i, ∃ r : ℝ, (a5 i : EReal) = (r : EReal))
    (x : Vec Ideal S256x256 .bf16) (x8 : Vec Ideal S1x8448x256 .bf16) (x9 : Vec Ideal S1x1x144x8448 .bf16)
    (b : Fin 2) (t : Fin 8192) (h : Fin 8) (r : Fin 256) (d : Fin 128)
    (hx : ∀ e, (x (ix2 r e) : EReal) = queries a0 a1 (ix4 b t h e))
    (h8 : ∀ n e, (x8 (ix3 0 n e) : EReal) = keys a2 a3 a4 a5 (ix4 b n h e))
    (h9 : ∀ d n, (x9 (ix4 0 0 d n) : EReal) = values a6 a7 (ix4 b h d n)) :
    (piece x x8 x9 (ix2 r d) : EReal) = answer a0 a1 a2 a3 a4 a5 a6 a7 b t h d := by
  rw [piece_apply x x8 x9 r d (kernelScore a0 a1 a2 a3 a4 a5 b t h)
    (fun n => by simp only [hx, h8]; exact kernel_scores a0 a1 a2 a3 a4 a5 f0 f1 f2 f3 f4 f5 b t h n)
    (fun n => by rw [h9, values_apply, dif_neg (by decide)])]
  have s1 : ∀ n : Fin 256, (2 : ℝ) ^ kernelScore a0 a1 a2 a3 a4 a5 b t h ⟨n.val, by omega⟩
      = Real.exp (contextScore a0 a1 a3 a5 b t h n / Real.sqrt 192) := fun n => by
    rw [kernelScore, dif_pos n.isLt, two_pow_factor]
  have s2 : ∀ n : Fin 8192, (2 : ℝ) ^ kernelScore a0 a1 a2 a3 a4 a5 b t h ⟨256 + n.val, by omega⟩
      = Real.exp (sequenceScore a0 a1 a2 a4 b t h n / Real.sqrt 192) := fun n => by
    rw [kernelScore, dif_neg (by simp), two_pow_factor]
    simp only [Nat.add_sub_cancel_left]
  have v1 : ∀ n : Fin 256, (x9 (ix4 0 0 (d.castLE (by omega) : Fin 144) ⟨n.val, by omega⟩) : EReal) = (a7 (ix4 b n h d) : EReal) := fun n => by
    rw [h9, values_apply, dif_pos (by simp), dif_pos n.isLt]
    rfl
  have v2 : ∀ n : Fin 8192, (x9 (ix4 0 0 (d.castLE (by omega) : Fin 144) ⟨256 + n.val, by omega⟩) : EReal) = (a6 (ix4 b n h d) : EReal) := fun n => by
    rw [h9, values_apply, dif_pos (by simp), dif_neg (by simp)]
    simp only [Nat.add_sub_cancel_left]
    rfl
  rw [sum_split (a := 256) (b := 8192) (c := 8448) rfl (fun n => (2 : ℝ) ^ kernelScore a0 a1 a2 a3 a4 a5 b t h n)]
  rw [sum_split (a := 256) (b := 8192) (c := 8448) rfl]
  simp only [s1, s2, v1, v2]
  rfl

end Kernel

end Cert.Attn
end
-- ==== Proof.Blocks.lean ====
/- The kernel's result: what its blocks hold, read at an element of the program's arguments. -/
module

public import proofs.«01_k».proof.Proof.Answer
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Attn

open Cert.KernelIdeal Cert.KernelIdeal.Gen Idealize.ShloMosaic Idealize.ShloMosaic.TcCoe Idealize.SL.Sem

/-! ## The windows -/

/-- A point's batch, head and tile of queries. -/
def batch (t : Fin cfg0.N) : Fin 2 := (grid0.coords t) 0

@[inherit_doc batch] def head (t : Fin cfg0.N) : Fin 8 := (grid0.coords t) 1

@[inherit_doc batch] def tile (t : Fin cfg0.N) : Fin 4 := (grid0.coords t) 2

/-- The blocks the windows stage at a point. -/
theorem blocks (t : Fin cfg0.N) :
    win0_0.index t = ![(batch t).val * 33 + 1 + (tile t).val * 8 + 0, (head t).val]
    ∧ win0_1.index t = ![(batch t).val * 33 + 1 + (tile t).val * 8 + 1, (head t).val]
    ∧ win0_2.index t = ![(batch t).val * 33 + 1 + (tile t).val * 8 + 2, (head t).val]
    ∧ win0_3.index t = ![(batch t).val * 33 + 1 + (tile t).val * 8 + 3, (head t).val]
    ∧ win0_4.index t = ![(batch t).val * 33 + 1 + (tile t).val * 8 + 4, (head t).val]
    ∧ win0_5.index t = ![(batch t).val * 33 + 1 + (tile t).val * 8 + 5, (head t).val]
    ∧ win0_6.index t = ![(batch t).val * 33 + 1 + (tile t).val * 8 + 6, (head t).val]
    ∧ win0_7.index t = ![(batch t).val * 33 + 1 + (tile t).val * 8 + 7, (head t).val]
    ∧ win0_8.index t = ![(batch t).val, 0, (head t).val]
    ∧ win0_9.index t = ![(batch t).val, (head t).val, 0, 0]
    ∧ win0_10.index t = ![(batch t).val * 4 + (tile t).val, (head t).val] := by
  revert t
  change ∀ t : Fin grid0.N, _
  decide +kernel

/-! ## Where a block's element lies in its array -/

/-- A point's query, by its tile, its block of the tile and its row in the block. -/
def queryOf (t : Fin cfg0.N) (u : Fin 8) (r : Fin 256) : Fin 8192 := ⟨(tile t).val * 2048 + u.val * 256 + r.val, by omega⟩

/-- The row of the scaled queries that holds a point's query. -/
def rowOf (t : Fin cfg0.N) (u : Fin 8) (r : Fin 256) : Fin 16896 :=
  ⟨(batch t).val * 8448 + (256 + ((tile t).val * 2048 + u.val * 256 + r.val)), by omega⟩

/-- The column of a head's element. -/
def colOf (t : Fin cfg0.N) (e : Fin 256) : Fin 2048 := ⟨(head t).val * 256 + e.val, by omega⟩

theorem place0 (t : Fin cfg0.N) (r e : Fin 256) : (win0_0.blk t).view.emb (ix2 r e) = ix2 (rowOf t 0 r) (colOf t e) := by
  have h := (blocks t).1
  unfold rowOf colOf
  blk_ext [h]

theorem place1 (t : Fin cfg0.N) (r e : Fin 256) : (win0_1.blk t).view.emb (ix2 r e) = ix2 (rowOf t 1 r) (colOf t e) := by
  have h := (blocks t).2.1
  unfold rowOf colOf
  blk_ext [h]

theorem place2 (t : Fin cfg0.N) (r e : Fin 256) : (win0_2.blk t).view.emb (ix2 r e) = ix2 (rowOf t 2 r) (colOf t e) := by
  have h := (blocks t).2.2.1
  unfold rowOf colOf
  blk_ext [h]

theorem place3 (t : Fin cfg0.N) (r e : Fin 256) : (win0_3.blk t).view.emb (ix2 r e) = ix2 (rowOf t 3 r) (colOf t e) := by
  have h := (blocks t).2.2.2.1
  unfold rowOf colOf
  blk_ext [h]

theorem place4 (t : Fin cfg0.N) (r e : Fin 256) : (win0_4.blk t).view.emb (ix2 r e) = ix2 (rowOf t 4 r) (colOf t e) := by
  have h := (blocks t).2.2.2.2.1
  unfold rowOf colOf
  blk_ext [h]

theorem place5 (t : Fin cfg0.N) (r e : Fin 256) : (win0_5.blk t).view.emb (ix2 r e) = ix2 (rowOf t 5 r) (colOf t e) := by
  have h := (blocks t).2.2.2.2.2.1
  unfold rowOf colOf
  blk_ext [h]

theorem place6 (t : Fin cfg0.N) (r e : Fin 256) : (win0_6.blk t).view.emb (ix2 r e) = ix2 (rowOf t 6 r) (colOf t e) := by
  have h := (blocks t).2.2.2.2.2.2.1
  unfold rowOf colOf
  blk_ext [h]

theorem place7 (t : Fin cfg0.N) (r e : Fin 256) : (win0_7.blk t).view.emb (ix2 r e) = ix2 (rowOf t 7 r) (colOf t e) := by
  have h := (blocks t).2.2.2.2.2.2.2.1
  unfold rowOf colOf
  blk_ext [h]

theorem place8 (t : Fin cfg0.N) (n : Fin 8448) (e : Fin 256) : (win0_8.blk t).view.emb (ix3 0 n e) = ix3 (batch t) n (colOf t e) := by
  have h := (blocks t).2.2.2.2.2.2.2.2.1
  unfold colOf
  blk_ext [h]

theorem place9 (t : Fin cfg0.N) (d : Fin 144) (n : Fin 8448) : (win0_9.blk t).view.emb (ix4 0 0 d n) = ix4 (batch t) (head t) d n := by
  have h := (blocks t).2.2.2.2.2.2.2.2.2.1
  blk_ext [h]

theorem place10 (t : Fin cfg0.N) (y : S2048x128.Idx) :
    (((win0_10.blk t).view.emb y) 0).val = ((batch t).val * 4 + (tile t).val) * 2048 + (y 0).val
    ∧ (((win0_10.blk t).view.emb y) 1).val = (head t).val * 128 + (y 1).val := by
  have h := (blocks t).2.2.2.2.2.2.2.2.2.2
  blk_simp [h]
  trivial

/-! ## The blocks' elements -/

variable (m : (ℓ : Loc nD τ sig) → Buf (Elt Ideal) ℓ)

/-- The scaled queries at a point's row. -/
theorem query_read (c : Dev nD) (t : Fin cfg0.N) (u : Fin 8) (r e : Fin 256) :
    (V m c main_v11 (ix2 (rowOf t u r) (colOf t e)) : EReal)
      = (queries (F := Ideal) (m ((c : Thread nD τ).loc main_arg0)) (m ((c : Thread nD τ).loc main_arg1)) (ix4 (batch t) (queryOf t u r) (head t) e) : EReal) := by
  rw [V_queries]
  exact (flat_apply _ _ ⟨256 + ((tile t).val * 2048 + u.val * 256 + r.val), by omega⟩ (head t) e _ _ rfl rfl).trans
    (queryRows_apply _ _ (queryOf t u r) _ _ _ rfl)

theorem query_block0 (c : Dev nD) (t : Fin cfg0.N) (r e : Fin 256) : (iblk m c 0 t (ix2 r e) : EReal)
    = (queries (F := Ideal) (m ((c : Thread nD τ).loc main_arg0)) (m ((c : Thread nD τ).loc main_arg1)) (ix4 (batch t) (queryOf t 0 r) (head t) e) : EReal) :=
  (congrArg (V m c main_v11) (place0 t r e)).trans (query_read m c t 0 r e)

theorem query_block1 (c : Dev nD) (t : Fin cfg0.N) (r e : Fin 256) : (iblk m c 1 t (ix2 r e) : EReal)
    = (queries (F := Ideal) (m ((c : Thread nD τ).loc main_arg0)) (m ((c : Thread nD τ).loc main_arg1)) (ix4 (batch t) (queryOf t 1 r) (head t) e) : EReal) :=
  (congrArg (V m c main_v11) (place1 t r e)).trans (query_read m c t 1 r e)

theorem query_block2 (c : Dev nD) (t : Fin cfg0.N) (r e : Fin 256) : (iblk m c 2 t (ix2 r e) : EReal)
    = (queries (F := Ideal) (m ((c : Thread nD τ).loc main_arg0)) (m ((c : Thread nD τ).loc main_arg1)) (ix4 (batch t) (queryOf t 2 r) (head t) e) : EReal) :=
  (congrArg (V m c main_v11) (place2 t r e)).trans (query_read m c t 2 r e)

theorem query_block3 (c : Dev nD) (t : Fin cfg0.N) (r e : Fin 256) : (iblk m c 3 t (ix2 r e) : EReal)
    = (queries (F := Ideal) (m ((c : Thread nD τ).loc main_arg0)) (m ((c : Thread nD τ).loc main_arg1)) (ix4 (batch t) (queryOf t 3 r) (head t) e) : EReal) :=
  (congrArg (V m c main_v11) (place3 t r e)).trans (query_read m c t 3 r e)

theorem query_block4 (c : Dev nD) (t : Fin cfg0.N) (r e : Fin 256) : (iblk m c 4 t (ix2 r e) : EReal)
    = (queries (F := Ideal) (m ((c : Thread nD τ).loc main_arg0)) (m ((c : Thread nD τ).loc main_arg1)) (ix4 (batch t) (queryOf t 4 r) (head t) e) : EReal) :=
  (congrArg (V m c main_v11) (place4 t r e)).trans (query_read m c t 4 r e)

theorem query_block5 (c : Dev nD) (t : Fin cfg0.N) (r e : Fin 256) : (iblk m c 5 t (ix2 r e) : EReal)
    = (queries (F := Ideal) (m ((c : Thread nD τ).loc main_arg0)) (m ((c : Thread nD τ).loc main_arg1)) (ix4 (batch t) (queryOf t 5 r) (head t) e) : EReal) :=
  (congrArg (V m c main_v11) (place5 t r e)).trans (query_read m c t 5 r e)

theorem query_block6 (c : Dev nD) (t : Fin cfg0.N) (r e : Fin 256) : (iblk m c 6 t (ix2 r e) : EReal)
    = (queries (F := Ideal) (m ((c : Thread nD τ).loc main_arg0)) (m ((c : Thread nD τ).loc main_arg1)) (ix4 (batch t) (queryOf t 6 r) (head t) e) : EReal) :=
  (congrArg (V m c main_v11) (place6 t r e)).trans (query_read m c t 6 r e)

theorem query_block7 (c : Dev nD) (t : Fin cfg0.N) (r e : Fin 256) : (iblk m c 7 t (ix2 r e) : EReal)
    = (queries (F := Ideal) (m ((c : Thread nD τ).loc main_arg0)) (m ((c : Thread nD τ).loc main_arg1)) (ix4 (batch t) (queryOf t 7 r) (head t) e) : EReal) :=
  (congrArg (V m c main_v11) (place7 t r e)).trans (query_read m c t 7 r e)

/-- The keys' window, of any contents of the arrays. -/
theorem key_read (c : Dev nD) (f : (r : Ref sig .tc) → Buf (Elt Ideal) ((c : Thread nD τ).loc r)) (t : Fin cfg0.N) (n : Fin 8448) (e : Fin 256) :
    (((cfg0.win 8).blk t).view.read (Elt Ideal) (f (Pipeline.arrRef spec0 8)) (ix3 0 n e) : EReal) = f main_v25 (ix3 (batch t) n (colOf t e)) :=
  congrArg (f main_v25) (place8 t n e)

theorem key_block (c : Dev nD) (t : Fin cfg0.N) (n : Fin 8448) (e : Fin 256) : (iblk m c 8 t (ix3 0 n e) : EReal)
    = (keys (F := Ideal) (m ((c : Thread nD τ).loc main_arg2)) (m ((c : Thread nD τ).loc main_arg3))
      (m ((c : Thread nD τ).loc main_arg4)) (m ((c : Thread nD τ).loc main_arg5)) (ix4 (batch t) n (head t) e) : EReal) := by
  refine (key_read c (V m c) t n e).trans ?_
  rw [V_keys]
  exact (keys3_apply _ _ _ _).trans (flat_apply _ _ _ (head t) e _ _ rfl rfl)

theorem value_block (c : Dev nD) (t : Fin cfg0.N) (d : Fin 144) (n : Fin 8448) : (iblk m c 9 t (ix4 0 0 d n) : EReal)
    = (values (F := Ideal) (m ((c : Thread nD τ).loc main_arg6)) (m ((c : Thread nD τ).loc main_arg7)) (ix4 (batch t) (head t) d n) : EReal) := by
  refine (congrArg (V m c main_v24) (place9 t d n)).trans ?_
  rw [V_values]

/-! ## The result -/

section Result

variable (c : Dev nD)
  (f0 : ∀ i, ∃ r : ℝ, (m ((c : Thread nD τ).loc main_arg0) i : EReal) = (r : EReal)) (f1 : ∀ i, ∃ r : ℝ, (m ((c : Thread nD τ).loc main_arg1) i : EReal) = (r : EReal))
  (f2 : ∀ i, ∃ r : ℝ, (m ((c : Thread nD τ).loc main_arg2) i : EReal) = (r : EReal)) (f3 : ∀ i, ∃ r : ℝ, (m ((c : Thread nD τ).loc main_arg3) i : EReal) = (r : EReal))
  (f4 : ∀ i, ∃ r : ℝ, (m ((c : Thread nD τ).loc main_arg4) i : EReal) = (r : EReal)) (f5 : ∀ i, ∃ r : ℝ, (m ((c : Thread nD τ).loc main_arg5) i : EReal) = (r : EReal))

/-- The attention of the program's arguments. -/
def attention : Vec Ideal S16384x1024 .bf16 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

include f0 f1 f2 f3 f4 f5

/-- A block of a point's result is the attention where the block lies. -/
theorem piece_result (t : Fin cfg0.N) (u : Fin 8) (x : Vec Ideal S256x256 .bf16)
    (hx : ∀ r e, (x (ix2 r e) : EReal) = (queries (F := Ideal) (m ((c : Thread nD τ).loc main_arg0)) (m ((c : Thread nD τ).loc main_arg1))
      (ix4 (batch t) (queryOf t u r) (head t) e) : EReal))
    (z : S256x128.Idx) (y : S2048x128.Idx) (h0 : (y 0).val = u.val * 256 + (z 0).val) (h1 : (y 1).val = (z 1).val) :
    (piece x (iblk m c 8 t) (iblk m c 9 t) z : EReal) = (attention m c ((win0_10.blk t).view.emb y) : EReal) := by
  idx_vars z
  refine (piece_answer _ _ _ _ _ _ _ _ f0 f1 f2 f3 f4 f5 x _ _ (batch t) (queryOf t u z0) (head t) z0 z1 (hx z0) (key_block m c t) (value_block m c t)).trans ?_
  refine (result_apply _ _ _ _ _ _ _ _ _ _ _ _ _ ?_ ?_).symm
  · rw [(place10 t y).1, h0]
    show ((batch t).val * 4 + (tile t).val) * 2048 + (u.val * 256 + z0.val) = (batch t).val * 8192 + ((tile t).val * 2048 + u.val * 256 + z0.val)
    omega
  · rw [(place10 t y).2, h1]

/-- The kernel's array is the attention. -/
theorem kernel_result : (dats m 0 c).arrAt 10 cfg0.N = attention m c := by
  refine (dats m 0 c).arrAt_eq_of_covers 10 _ (by decide +kernel) fun t hf y => ?_
  blk_simp
  rw [after0_10]
  rw [out_eq]
  canon_tiles x h
  · exact piece_result m c f0 f1 f2 f3 f4 f5 t 7 _ (query_block7 m c t) x y (by rw [h0]; rfl) h1
  · exact piece_result m c f0 f1 f2 f3 f4 f5 t 6 _ (query_block6 m c t) x y (by rw [h0]; rfl) h1
  · exact piece_result m c f0 f1 f2 f3 f4 f5 t 5 _ (query_block5 m c t) x y (by rw [h0]; rfl) h1
  · exact piece_result m c f0 f1 f2 f3 f4 f5 t 4 _ (query_block4 m c t) x y (by rw [h0]; rfl) h1
  · exact piece_result m c f0 f1 f2 f3 f4 f5 t 3 _ (query_block3 m c t) x y (by rw [h0]; rfl) h1
  · exact piece_result m c f0 f1 f2 f3 f4 f5 t 2 _ (query_block2 m c t) x y (by rw [h0]; rfl) h1
  · exact piece_result m c f0 f1 f2 f3 f4 f5 t 1 _ (query_block1 m c t) x y (by rw [h0]; rfl) h1
  · exact piece_result m c f0 f1 f2 f3 f4 f5 t 0 _ (query_block0 m c t) x y (by rw [h0]; exact (Nat.zero_add _).symm) h1

end Result

end Cert.Attn

end
-- ==== Proof.RefValue.lean ====
/- The reference at an element: the softmax of its scores weighting the values. -/
module

public import proofs.«01_k».proof.Proof.Answer
public import proofs.«01_k».proof.Proof.Gen.ReferenceIdeal.Run
public import Idealize.ShloMosaic.Lib.Claim

@[expose] public section

set_option maxRecDepth 16384

noncomputable section

namespace Cert.Attn

open Cert.ReferenceIdeal Cert.ReferenceIdeal.Gen Idealize.ShloMosaic Idealize.ShloMosaic.TcCoe Idealize.SL.Sem

/-! ## The reference's stages -/

section Stages

variable {F : FTy → Type} [FloatOps F]

/-- The scores of every query against every key, over the root of 192. -/
def refScores (a0 : FVec F S2x8192x8x128 .f32) (a1 : FVec F S2x8192x8x64 .f32) (a2 : FVec F S2x8192x8x128 .f32)
  (a3 : FVec F S2x256x8x128 .f32) (a4 : FVec F S2x8192x64 .f32) (a5 : FVec F S2x256x64 .f32) : FVec F S2x8x8192x8448 .f32 :=
 Host.divf (addf (Host.dotGeneral dot_S2x8192x8x128_S2x8448x8x128_S2x8x8192x8448_3_3_1_1_02_02 none a0 (concatenate S2x8448x8x128 1 [⟨S2x8192x8x128, a2⟩, ⟨S2x256x8x128, a3⟩] concatenates_S2x8192x8x128_S2x256x8x128_S2x8448x8x128_d1)) (transpose S2x8x8192x8448 [0, 3, 2, 1] (Host.dotGeneral dot_S2x8448x64_S2x8192x8x64_S2x8448x8192x8_2_3_1_12_0_0 none (concatenate S2x8448x64 1 [⟨S2x8192x64, a4⟩, ⟨S2x256x64, a5⟩] concatenates_S2x8192x64_S2x256x64_S2x8448x64_d1) a1) transposes_S2x8448x8192x8_S2x8x8192x8448_0_3_2_1)) (broadcastInDim S2x8x8192x8448 ![] bcast_S_S2x8x8192x8448 (Host.sqrt (constant S_ .f32 0x43400000#32)))

/-- The greatest score of every query. -/
def refMax (s : FVec F S2x8x8192x8448 .f32) : FVec F S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8448_S2x8x8192_d3 h_S_)

/-- The exponentials of the scores, counted from the greatest. -/
def refExp (s : FVec F S2x8x8192x8448 .f32) : FVec F S2x8x8192x8448 .f32 :=
  Host.exp (subf s (broadcastInDim S2x8x8192x8448 ![0, 1, 2, 3] bcast_S2x8x8192x1_S2x8x8192x8448_0_1_2_3
                    (broadcastInDim S2x8x8192x1 ![0, 1, 2] bcast_S2x8x8192_S2x8x8192x1_0_1_2 (refMax s))))

/-- The exponentials over their sum. -/
def refWeights (p : FVec F S2x8x8192x8448 .f32) : FVec F S2x8x8192x8448 .f32 :=
  Host.divf p (broadcastInDim S2x8x8192x8448 ![0, 1, 2, 3] bcast_S2x8x8192x1_S2x8x8192x8448_0_1_2_3
                (broadcastInDim S2x8x8192x1 ![0, 1, 2] bcast_S2x8x8192_S2x8x8192x1_0_1_2
                  (Host.reduceAdd p (constant S_ .f32 0x00000000#32) reducesTo_S2x8x8192x8448_S2x8x8192_d3 h_S_)))

/-- The values weighted, as rows of the queries. -/
def refOut (p : FVec F S2x8x8192x8448 .f32) (a6 : FVec F S2x8192x8x128 .f32) (a7 : FVec F S2x256x8x128 .f32) : FVec F S16384x1024 .bf16 :=
  truncf .bf16 (shapeCast _ (transpose S2x8192x8x128 [0, 3, 1, 2] (Host.dotGeneral dot_S2x8448x8x128_S2x8x8192x8448_S2x8x128x8192_1_3_3_2_02_01 none (concatenate S2x8448x8x128 1 [⟨S2x8192x8x128, a6⟩, ⟨S2x256x8x128, a7⟩] concatenates_S2x8192x8x128_S2x256x8x128_S2x8448x8x128_d1) p) transposes_S2x8x128x8192_S2x8192x8x128_0_3_1_2) shapeCasts_S2x8192x8x128_S16384x1024)

end Stages

/-- The reference's result is its stages one after the other. -/
theorem ref_eq (m : (ℓ : Loc nD τ sig) → Buf (Elt Ideal) ℓ) (c : Dev nD) : Cert.ReferenceIdeal.Value.res_main_v24 m c =
    refOut (F := Ideal) (refWeights (refExp (refScores (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)))))
      (m ((c.tc : Thread nD τ).loc main_arg6)) (m ((c.tc : Thread nD τ).loc main_arg7)) := by
  unfold Cert.ReferenceIdeal.Value.res_main_v24
  rfl

/-! ## The maximum is a real -/

/-- A fold of `max` over reals, from negative infinity or a real, is a real once it has met one. -/
theorem foldl_max_real {ι : Type} (f : ι → EReal) (hf : ∀ i, ∃ r : ℝ, f i = (r : EReal)) (l : List ι) :
    ∀ z : EReal, (∃ r : ℝ, z = (r : EReal)) ∨ (z = ⊥ ∧ l ≠ []) → ∃ M : ℝ, l.foldl (fun r i => max r (f i)) z = (M : EReal) := by
  induction l with
  | nil => rintro z (h | ⟨_, h⟩); exacts [h, absurd rfl h]
  | cons a l ih =>
    intro z hz
    obtain ⟨q, hq⟩ := hf a
    refine ih _ (Or.inl ?_)
    rcases hz with ⟨r, rfl⟩ | ⟨rfl, _⟩
    · exact ⟨max r q, by rw [coe_max, ← hq]⟩
    · exact ⟨q, (max_eq_right bot_le).trans hq⟩

theorem drop_ix (b : Fin 2) (h : Fin 8) (t : Fin 8192) (n : Fin 8448) :
    reducesTo_S2x8x8192x8448_S2x8x8192_d3.drop (ix4 b h t n) = ix3 b h t := by
  funext a
  fin_cases a <;> rfl

/-- A reduction by `max` from negative infinity, of reals, is a real where it has an operand. -/
theorem reduce_max_real {s t u : Shape} {axes : List (Fin s.rank)} (x : FVec Ideal s .f32) (init : FVec Ideal u .f32) (hr : s.ReducesTo axes t)
    (hu : 0 < u.numel) (j : t.Idx) (i : s.Idx) (hi : hr.drop i = j) (hx : ∀ i, ∃ r : ℝ, (x i : EReal) = (r : EReal))
    (h0 : (init (Shape.Idx.first hu) : EReal) = ⊥) :
    ∃ M : ℝ, (Host.reduce (FloatOps.maximumf (F := Ideal) (φ := .f32)) x init hr hu j : EReal) = (M : EReal) := by
  rw [Host.reduce_eq_foldl]
  refine foldl_max_real (fun i => (x i : EReal)) hx _ _ (Or.inr ⟨h0, ?_⟩)
  refine List.ne_nil_of_mem (a := i) (List.mem_filter.2 ⟨?_, decide_eq_true hi⟩)
  exact List.mem_map.2 ⟨s.rowMajor i, List.mem_finRange _, Equiv.symm_apply_apply _ _⟩

theorem max_bot_left {t : Shape} (x y : FVec Ideal t .f32) (j : t.Idx) (hx : (x j : EReal) = ⊥) : (maximumf x y j : EReal) = y j := by
  show max (x j : EReal) (y j) = y j
  rw [hx, max_eq_right bot_le]

theorem refMax_real (s : FVec Ideal S2x8x8192x8448 .f32) (hs : ∀ i, ∃ r : ℝ, (s i : EReal) = (r : EReal)) (b : Fin 2) (h : Fin 8) (t : Fin 8192) :
    ∃ M : ℝ, (refMax s (ix3 b h t) : EReal) = (M : EReal) := by
  unfold refMax
  rw [max_bot_left _ _ _ negInf]
  exact reduce_max_real s _ _ _ _ (ix4 b h t 0) (drop_ix b h t 0) hs negInf

/-! ## The stages at an element -/

section Values

variable (a0 : FVec Ideal S2x8192x8x128 .f32) (a1 : FVec Ideal S2x8192x8x64 .f32) (a2 : FVec Ideal S2x8192x8x128 .f32)
  (a3 : FVec Ideal S2x256x8x128 .f32) (a4 : FVec Ideal S2x8192x64 .f32) (a5 : FVec Ideal S2x256x64 .f32)
  (a6 : FVec Ideal S2x8192x8x128 .f32) (a7 : FVec Ideal S2x256x8x128 .f32)

/-- The score of the reference against key `n` of the two parts together: the sequence's keys are first. -/
def refScore (b : Fin 2) (h : Fin 8) (t : Fin 8192) (n : Fin 8448) : ℝ :=
  (if hn : n.val < 8192 then sequenceScore a0 a1 a2 a4 b t h ⟨n.val, hn⟩
    else contextScore a0 a1 a3 a5 b t h ⟨n.val - 8192, by omega⟩) / Real.sqrt 192

theorem sqrt_const : Ideal.sqrt (Ideal.ofBits .f32 0x43400000#32) = ((Real.sqrt 192 : ℝ) : EReal) := by
  have h192 : Ideal.ofBits .f32 0x43400000#32 = ((192 : ℝ) : EReal) := by
    simp [Ideal.ofBits, Ideal.ieee]
    rw [← EReal.coe_mul]
    norm_num
  rw [h192, Ideal.sqrt_coe, if_neg (by norm_num)]

theorem refScores_apply (f0 : ∀ i, ∃ r : ℝ, (a0 i : EReal) = (r : EReal)) (f1 : ∀ i, ∃ r : ℝ, (a1 i : EReal) = (r : EReal))
    (f2 : ∀ i, ∃ r : ℝ, (a2 i : EReal) = (r : EReal)) (f3 : ∀ i, ∃ r : ℝ, (a3 i : EReal) = (r : EReal))
    (f4 : ∀ i, ∃ r : ℝ, (a4 i : EReal) = (r : EReal)) (f5 : ∀ i, ∃ r : ℝ, (a5 i : EReal) = (r : EReal))
    (b : Fin 2) (h : Fin 8) (t : Fin 8192) (n : Fin 8448) :
    (refScores a0 a1 a2 a3 a4 a5 (ix4 b h t n) : EReal) = ((refScore a0 a1 a2 a3 a4 a5 b h t n : ℝ) : EReal) := by
  have hs : Real.sqrt 192 ≠ 0 := by positivity
  have hc : ∀ q k : Fin 128 → EReal, (∑ e, q e * k e) = ∑ e, k e * q e := fun q k => Finset.sum_congr rfl fun e _ => mul_comm _ _
  pointwise [refScores]
  rw [sqrt_const, Ideal.div_coe hs]
  unfold refScore
  by_cases hn : n.val < 8192
  · simp only [dif_pos hn]
    rw [hc, sum_mul_real _ _ (fun e => f2 _) (fun e => f0 _), sum_mul_real _ _ (fun e => f4 _) (fun e => f1 _), ← EReal.coe_add, ← EReal.coe_mul,
      mul_one_div]
    rfl
  · simp only [dif_neg hn]
    rw [hc, sum_mul_real _ _ (fun e => f3 _) (fun e => f0 _), sum_mul_real _ _ (fun e => f5 _) (fun e => f1 _), ← EReal.coe_add, ← EReal.coe_mul,
      mul_one_div]
    rfl

theorem sum_exp_pos {ι : Type} [Fintype ι] [Nonempty ι] (s : ι → ℝ) : (0 : ℝ) < ∑ n, Real.exp (s n) :=
  Finset.sum_pos (fun _ _ => Real.exp_pos _) Finset.univ_nonempty

/-- The maximum the scores are counted from cancels. -/
theorem softmax_eq {ι : Type} [Fintype ι] [Nonempty ι] (s : ι → ℝ) (M : ℝ) (n : ι) :
    Ideal.div ((Real.exp (s n - M) : ℝ) : EReal) (∑ n, ((Real.exp (s n - M) : ℝ) : EReal)) = ((Real.exp (s n) / ∑ n, Real.exp (s n) : ℝ) : EReal) := by
  rw [coe_sum, Ideal.div_coe (sum_exp_pos fun n => s n - M).ne', ← EReal.coe_mul, mul_one_div]
  have h : ∀ n, Real.exp (s n - M) = Real.exp (s n) / Real.exp M := fun n => Real.exp_sub _ _
  have h2 : Real.exp M ≠ 0 := (Real.exp_pos M).ne'
  have hZ := (sum_exp_pos s).ne'
  simp only [h, ← Finset.sum_div]
  rw [div_div_div_cancel_right₀ h2]

theorem refExp_apply (s : FVec Ideal S2x8x8192x8448 .f32) (b : Fin 2) (h : Fin 8) (t : Fin 8192) (n : Fin 8448) (σ M : ℝ)
    (hσ : (s (ix4 b h t n) : EReal) = (σ : EReal)) (hM : (refMax s (ix3 b h t) : EReal) = (M : EReal)) :
    (refExp s (ix4 b h t n) : EReal) = ((Real.exp (σ - M) : ℝ) : EReal) := by
  pointwise [refExp]
  rw [hσ, hM, ← EReal.coe_sub, Ideal.exp_coe]

theorem refWeights_apply (s : FVec Ideal S2x8x8192x8448 .f32) (b : Fin 2) (h : Fin 8) (t : Fin 8192) (n : Fin 8448) :
    (refWeights s (ix4 b h t n) : EReal) = Ideal.div (s (ix4 b h t n)) (∑ n, (s (ix4 b h t n) : EReal)) := by
  pointwise [refWeights]

theorem refOut_apply (p : FVec Ideal S2x8x8192x8448 .f32) (b : Fin 2) (h : Fin 8) (t : Fin 8192) (d : Fin 128) (i : Fin 16384) (j : Fin 1024)
    (h1 : (⟨i.val / 8192, by omega⟩ : Fin 2) = b) (h2 : (⟨i.val % 8192, by omega⟩ : Fin 8192) = t)
    (h3 : (⟨j.val / 128, by omega⟩ : Fin 8) = h) (h4 : (⟨j.val % 128, by omega⟩ : Fin 128) = d) :
    (refOut p a6 a7 (ix2 i j) : EReal) = (∑ n : Fin 8192, (a6 (ix4 b n h d) : EReal) * (p (ix4 b h t ⟨n.val, by omega⟩) : EReal))
      + ∑ n : Fin 256, (a7 (ix4 b n h d) : EReal) * (p (ix4 b h t ⟨8192 + n.val, by omega⟩) : EReal) := by
  subst h1 h2 h3 h4
  pointwise [refOut]

/-- The reference's array is the attention's. -/
theorem ref_result (f0 : ∀ i, ∃ r : ℝ, (a0 i : EReal) = (r : EReal)) (f1 : ∀ i, ∃ r : ℝ, (a1 i : EReal) = (r : EReal))
    (f2 : ∀ i, ∃ r : ℝ, (a2 i : EReal) = (r : EReal)) (f3 : ∀ i, ∃ r : ℝ, (a3 i : EReal) = (r : EReal))
    (f4 : ∀ i, ∃ r : ℝ, (a4 i : EReal) = (r : EReal)) (f5 : ∀ i, ∃ r : ℝ, (a5 i : EReal) = (r : EReal)) :
    refOut (F := Ideal) (refWeights (refExp (refScores a0 a1 a2 a3 a4 a5))) a6 a7 = result a0 a1 a2 a3 a4 a5 a6 a7 := by
  funext y
  idx_vars y
  refine (refOut_apply a6 a7 _ _ _ _ _ _ _ rfl rfl rfl rfl).trans ?_
  show _ = answer a0 a1 a2 a3 a4 a5 a6 a7 ⟨y0.val / 8192, by omega⟩ ⟨y0.val % 8192, by omega⟩ ⟨y1.val / 128, by omega⟩ ⟨y1.val % 128, by omega⟩
  generalize (⟨y0.val / 8192, _⟩ : Fin 2) = b
  generalize (⟨y0.val % 8192, _⟩ : Fin 8192) = t
  generalize (⟨y1.val / 128, _⟩ : Fin 8) = h
  generalize (⟨y1.val % 128, _⟩ : Fin 128) = d
  have hS := refScores_apply a0 a1 a2 a3 a4 a5 f0 f1 f2 f3 f4 f5
  obtain ⟨M, hM⟩ := refMax_real (refScores a0 a1 a2 a3 a4 a5) (fun i => by idx_vars i; exact ⟨_, hS _ _ _ _⟩) b h t
  have hw : ∀ n, (refWeights (refExp (refScores a0 a1 a2 a3 a4 a5)) (ix4 b h t n) : EReal)
      = ((Real.exp (refScore a0 a1 a2 a3 a4 a5 b h t n) / ∑ n, Real.exp (refScore a0 a1 a2 a3 a4 a5 b h t n) : ℝ) : EReal) := fun n => by
    rw [refWeights_apply]
    simp only [fun n => refExp_apply _ b h t n _ M (hS b h t n) hM]
    exact softmax_eq (refScore a0 a1 a2 a3 a4 a5 b h t) M n
  have s1 : ∀ n : Fin 8192, refScore a0 a1 a2 a3 a4 a5 b h t ⟨n.val, by omega⟩ = sequenceScore a0 a1 a2 a4 b t h n / Real.sqrt 192 := fun n => by
    rw [refScore, dif_pos n.isLt]
  have s2 : ∀ n : Fin 256, refScore a0 a1 a2 a3 a4 a5 b h t ⟨8192 + n.val, by omega⟩ = contextScore a0 a1 a3 a5 b t h n / Real.sqrt 192 := fun n => by
    rw [refScore, dif_neg (by simp)]
    simp only [Nat.add_sub_cancel_left]
  simp only [hw]
  rw [sum_split (a := 8192) (b := 256) (c := 8448) rfl (fun n => Real.exp (refScore a0 a1 a2 a3 a4 a5 b h t n))]
  simp only [s1, s2]
  rw [add_comm (∑ n : Fin 8192, Real.exp _), add_comm (∑ n : Fin 8192, _)]
  rfl

end Values

end Cert.Attn

end
-- ==== Proof.Tokens.lean ====
/- The projections of a sequence's tokens and their token shift, of the program's arguments. -/
module

public import Idealize.ShloMosaic.Lib.Pointwise
public import Idealize.ShloMosaic.Lib.Claim

@[expose] public section

noncomputable section

namespace Cert.Proj

open Idealize.ShloMosaic

/-- The arguments, at their indices. -/
structure Args where
  x : Fin 2 → Fin 8192 → Fin 2048 → EReal
  ctx : Fin 2 → Fin 256 → Fin 2048 → EReal
  mod : Fin 2 → Fin 12288 → EReal
  modc : Fin 12288 → EReal
  g : Fin 2048 → EReal
  w : Fin 2048 → Fin 4192 → EReal
  mu : Fin 2 → Fin 3360 → EReal
  w0 : Fin 2 → Fin 1024 → EReal
  wup : Fin 2 → Fin 64 → Fin 1024 → EReal
  a0 : Fin 2 → Fin 1024 → EReal
  aup : Fin 2 → Fin 64 → Fin 1024 → EReal
  gup : Fin 160 → Fin 1024 → EReal

variable (A : Args)

/-- A token of batch `b`: the context's 256 tokens first. -/
def token (b : Fin 2) (s : Fin 8448) (k : Fin 2048) : EReal :=
  if h : s.val < 256 then A.ctx b ⟨s.val, h⟩ k else A.x b ⟨s.val - 256, by omega⟩ k

/-- A token's row of the modulation. -/
def modulation (b : Fin 2) (s : Fin 8448) (j : Fin 12288) : EReal := if s.val < 256 then A.modc j else A.mod b j

/-- The normed and modulated row of a token `x`. -/
def normRow (x g sc sh : Fin 2048 → EReal) (k : Fin 2048) : EReal :=
  x k * Ideal.rsqrt (Ideal.div (∑ k, x k * x k) (Ideal.ofBits .f32 0x45000000#32) + Ideal.ofBits .f32 0x358637BD#32) * g k * (1 + sc k) + sh k

/-- The same of a token of the sequence. -/
def normed (b : Fin 2) (s : Fin 8448) : Fin 2048 → EReal :=
  normRow (token A b s) A.g (fun k => modulation A b s ⟨2048 + k.val, by omega⟩) fun k => modulation A b s ⟨k.val, by omega⟩

/-- A token's projection to column `c`. -/
def feature (b : Fin 2) (s : Fin 8448) (c : Fin 4192) : EReal := ∑ k, normed A b s k * A.w k c

/-- A row `p` mixed with the row before it and the row after it. -/
def mix (p before after mu0 mu1 : EReal) : EReal := p + mu0 * (before - p) + mu1 * (after - p)

/-- The token shift of the columns after the first 832: nothing comes before or after the context, or the sequence. -/
def shifted (b : Fin 2) (s : Fin 8448) (c : Fin 3360) : EReal :=
  mix (feature A b s ⟨832 + c.val, by omega⟩)
    (if s.val = 0 ∨ s.val = 256 then 0 else feature A b ⟨s.val - 1, by omega⟩ ⟨832 + c.val, by omega⟩)
    (if h : s.val = 255 ∨ s.val = 8447 then 0 else feature A b ⟨s.val + 1, by omega⟩ ⟨832 + c.val, by omega⟩)
    (A.mu 0 c) (A.mu 1 c)

/-- The column of the 64 that comes to column `c` when the halves of both 32 are exchanged. -/
def exchanged (c : Fin 64) : Fin 64 :=
  if h : c.val < 16 then ⟨c.val + 16, by omega⟩ else if h' : c.val < 32 then ⟨c.val - 16, by omega⟩
    else if h'' : c.val < 48 then ⟨c.val + 16, by omega⟩ else ⟨c.val - 16, by omega⟩

theorem exchanged_val (c : Fin 64) : (exchanged c).val
    = if c.val < 16 then c.val + 16 else if c.val < 32 then c.val - 16 else if c.val < 48 then c.val + 16 else c.val - 16 := by
  unfold exchanged
  split_ifs <;> rfl

/-! ## The results at a row -/

def batchOf (i : Fin 16896) : Fin 2 := ⟨i.val / 8448, by omega⟩

def tokenOf (i : Fin 16896) : Fin 8448 := ⟨i.val % 8448, by omega⟩

def mla (b : Fin 2) (s : Fin 8448) (c : Fin 1024) : EReal :=
  if h : c.val < 832 then feature A b s ⟨c.val, by omega⟩
  else if h' : c.val - 832 < 64 then 0
  else if h'' : c.val - 832 - 64 < 64 then feature A b s ⟨768 + (exchanged ⟨c.val - 832 - 64, h''⟩).val, by omega⟩
  else 0

def rkv (o : Fin 3) (b : Fin 2) (s : Fin 8448) (c : Fin 1024) : EReal := shifted A b s ⟨o.val * 1024 + c.val, by omega⟩

def half (c : Fin 2048) : Fin 2 := ⟨c.val / 1024, by omega⟩

def inHalf (c : Fin 2048) : Fin 1024 := ⟨c.val % 1024, by omega⟩

theorem half_low (c : Fin 2048) (h : c.val < 1024) : half c = 0 := Fin.ext (Nat.div_eq_of_lt h)

theorem inHalf_low (c : Fin 2048) (h : c.val < 1024) : inHalf c = ⟨c.val, h⟩ := Fin.ext (Nat.mod_eq_of_lt h)

theorem half_high (c : Fin 2048) (h : ¬c.val < 1024) : half c = 1 :=
  Fin.ext (by change c.val / 1024 = 1; omega)

theorem inHalf_high (c : Fin 2048) (h : ¬c.val < 1024) : inHalf c = ⟨c.val - 1024, by omega⟩ :=
  Fin.ext (by change c.val % 1024 = c.val - 1024; omega)

/-- The decay's logarithm. -/
def decay (b : Fin 2) (s : Fin 8448) (c : Fin 2048) : EReal :=
  Ideal.ofBits .f32 0xBF1B4598#32 * Ideal.logistic (A.w0 (half c) (inHalf c)
    + ∑ l : Fin 64, Ideal.tanh (shifted A b s ⟨3072 + l.val, by omega⟩) * A.wup (half c) l (inHalf c))

/-- The learning rate in context. -/
def rate (b : Fin 2) (s : Fin 8448) (c : Fin 2048) : EReal :=
  Ideal.logistic (A.a0 (half c) (inHalf c) + ∑ l : Fin 64, shifted A b s ⟨3136 + l.val, by omega⟩ * A.aup (half c) l (inHalf c))

def gate (b : Fin 2) (s : Fin 8448) (c : Fin 1024) : EReal :=
  ∑ l : Fin 160, Ideal.logistic (shifted A b s ⟨3200 + l.val, by omega⟩) * A.gup l c

/-- The array of 16896 rows of an element per batch, token and column. -/
def rows {n : ℕ} (f : Fin 2 → Fin 8448 → Fin n → EReal) (y : (Shape.mk 2 ![16896, n]).Idx) : EReal :=
  f (batchOf (y 0)) (tokenOf (y 0)) (y 1)

/-! ## Sums over padded columns, and the decay from the softplus -/

/-- A sum whose terms vanish from `n` on. -/
theorem sum_pad {n m : ℕ} (h : n ≤ m) (f : Fin m → EReal) (hz : ∀ x : Fin m, n ≤ x.val → f x = 0) :
    ∑ x, f x = ∑ x : Fin n, f ⟨x.val, by omega⟩ := by
  obtain ⟨d, rfl⟩ := Nat.exists_eq_add_of_le h
  rw [Fin.sum_univ_add, Finset.sum_eq_zero (s := (Finset.univ : Finset (Fin d))) (fun i _ => hz _ (by simp)), add_zero]
  rfl

/-- The softplus of `d`. -/
def softplus (d : EReal) : EReal := max d 0 + Ideal.log1p (Ideal.exp (-max d (-d)))

theorem log1p_exp (r : ℝ) : Ideal.log1p (Ideal.exp (r : EReal)) = ((Real.log (1 + Real.exp r) : ℝ) : EReal) := by
  have h : (0 : ℝ) < 1 + Real.exp r := by positivity
  rw [Ideal.exp_coe, Ideal.log1p, ← EReal.coe_one, ← EReal.coe_add, Ideal.log_coe, if_neg (not_le.mpr h)]

theorem exp_neg_softplus (w : EReal) : Ideal.exp (-softplus (-w)) = Ideal.logistic w := by
  have h1 : Ideal.log1p 0 = 0 := by
    rw [Ideal.log1p, add_zero, ← EReal.coe_one, Ideal.log_coe, if_neg (by norm_num), Real.log_one, EReal.coe_zero]
  induction w using EReal.rec with
  | bot => simp [softplus, h1]
  | top => simp [softplus, h1]; rw [← EReal.coe_zero, Ideal.exp_coe, Real.exp_zero, EReal.coe_one]
  | coe r =>
    have h : (0 : ℝ) < 1 + Real.exp (-r) := by positivity
    have h' : (0 : ℝ) < 1 + Real.exp r := by positivity
    rw [Ideal.logistic_coe]
    rcases le_total 0 r with hr | hr
    · have e1 : max (-(r : EReal)) 0 = 0 := max_eq_right (by rw [← EReal.coe_neg, ← EReal.coe_zero]; exact_mod_cast neg_nonpos.mpr hr)
      have e2 : max (-(r : EReal)) (- -(r : EReal)) = (r : EReal) := by
        rw [neg_neg]
        exact max_eq_right (by rw [← EReal.coe_neg]; exact_mod_cast (neg_nonpos.mpr hr).trans hr)
      rw [softplus, e1, e2, ← EReal.coe_neg, log1p_exp, zero_add, ← EReal.coe_neg, Ideal.exp_coe, Real.exp_neg, Real.exp_log h]
    · have e1 : max (-(r : EReal)) 0 = ((-r : ℝ) : EReal) := by
        rw [EReal.coe_neg]
        exact max_eq_left (by rw [← EReal.coe_neg, ← EReal.coe_zero]; exact_mod_cast neg_nonneg.mpr hr)
      have e2 : max (-(r : EReal)) (- -(r : EReal)) = ((-r : ℝ) : EReal) := by
        rw [neg_neg, EReal.coe_neg]
        exact max_eq_left (by rw [← EReal.coe_neg]; exact_mod_cast hr.trans (neg_nonneg.mpr hr))
      rw [softplus, e1, e2, ← EReal.coe_neg, neg_neg, log1p_exp, ← EReal.coe_add, ← EReal.coe_neg, Ideal.exp_coe]
      congr 1
      rw [neg_add, neg_neg, Real.exp_add, Real.exp_neg (Real.log _), Real.exp_log h', ← one_div, mul_one_div, Real.exp_neg]
      field_simp
      ring

end Cert.Proj

end
-- ==== Proof.ProjectFrame.lean ====
/- The frame of the projections' call, of its program in the extended reals: the contents of the arrays the windows stage (`V`), each
   window's block at a point (`iblk`), what the body leaves in the outputs' buffers (`out0_15` to `out0_21`), the body's
   triple, the proof data (`dats`), the run (`run_main`) and `frame`. It is the generated frame of the program
   with a higher limit for the step that meets the body's obligation; under the usual limit that step does not finish. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses -/

abbrev r0_0 : Rect S1x256x2048 := Rect.unit (s := S1x256x2048) ![0, 0, 0] S1x256x2048.size inb_S1x256x2048_S1x256x2048_0_0_0
abbrev r0_1 : Rect S1x8x2048 := Rect.unit (s := S1x8x2048) ![0, 0, 0] S1x8x2048.size inb_S1x8x2048_S1x8x2048_0_0_0
abbrev r0_2 : Rect S1x2048 := Rect.unit (s := S1x2048) ![0, 0] S1x2048.size inb_S1x2048_S1x2048_0_0
abbrev r0_3 : Rect S1x1x2048 := Rect.unit (s := S1x1x2048) ![0, 0, 0] S1x1x2048.size inb_S1x1x2048_S1x1x2048_0_0_0
abbrev r0_4 : Rect S2048x4608 := Rect.unit (s := S2048x4608) ![0, 0] S2048x1024.size inb_S2048x4608_S2048x1024_0_0
abbrev r0_5 : Rect S256x1024 := Rect.unit (s := S256x1024) ![0, 0] S256x1024.size inb_S256x1024_S256x1024_0_0
abbrev r0_6 : Rect S2x3072 := Rect.unit (s := S2x3072) ![0, 0] S2x1024.size inb_S2x3072_S2x1024_0_0
abbrev r0_7 : Rect S2x3072 := Rect.unit (s := S2x3072) ![0, 1024] S2x1024.size inb_S2x3072_S2x1024_0_1024
abbrev r0_8 : Rect S2x3072 := Rect.unit (s := S2x3072) ![0, 2048] S2x1024.size inb_S2x3072_S2x1024_0_2048
abbrev r0_9 : Rect S2x512 := Rect.unit (s := S2x512) ![0, 0] S2x512.size inb_S2x512_S2x512_0_0
abbrev r0_10 : Rect S2048x4608 := Rect.unit (s := S2048x4608) ![0, 1024] S2048x1024.size inb_S2048x4608_S2048x1024_0_1024
abbrev r0_11 : Rect S2048x4608 := Rect.unit (s := S2048x4608) ![0, 2048] S2048x1024.size inb_S2048x4608_S2048x1024_0_2048
abbrev r0_12 : Rect S2048x4608 := Rect.unit (s := S2048x4608) ![0, 3072] S2048x1024.size inb_S2048x4608_S2048x1024_0_3072
abbrev r0_13 : Rect S2048x4608 := Rect.unit (s := S2048x4608) ![0, 4096] S2048x512.size inb_S2048x4608_S2048x512_0_4096
abbrev r0_14 : Rect S128x2048 := Rect.unit (s := S128x2048) ![0, 0] S128x2048.size inb_S128x2048_S128x2048_0_0
abbrev r0_15 : Rect S256x2048 := Rect.unit (s := S256x2048) ![0, 0] S256x2048.size inb_S256x2048_S256x2048_0_0

/-! ## What the body leaves in each output window's buffer -/

/-! ### Values of the body that the stores' payloads, spelt out, would write more than once

    Each is a vector the body binds (often a part call's result), stated over the input windows' blocks and
    numbered on from the skeleton's payload functions (`k0_pay28` …, after `k0_pay27`), so that
    `out0_W` and the values after it name it instead of spelling it out (`unfold_out out0_W` opens a canon
    with them, `unfold_payloads` opens them with the payloads); the comment after each is the printed function's
    name for the value (a count appended where that name is bound again). -/

def k0_pay28 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : FVec F S272x2048 .f32 :=
  k0_pay3 i (View.ld x3 r0_0) (View.ld x0 r0_0) (View.ld x1 r0_1) (View.ld x2 r0_1) -- `v25`
def k0_pay29 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : FVec F S272x1 .f32 :=
  k0_pay4 i (View.ld x3 r0_0) (View.ld x0 r0_0) (View.ld x1 r0_1) (View.ld x2 r0_1) -- `v30`
def k0_pay30 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : FVec F S272x2048 .bf16 :=
  k0_pay7 (k0_pay28 i x0 x1 x2 x3 x4 x5 x6 x7 x8 x9 x10 x11 x12 x13 x14) (k0_pay29 i x0 x1 x2 x3 x4 x5 x6 x7 x8 x9 x10 x11 x12 x13 x14) (Scalar.ofBits .f32 0x358637BD#32) (View.ld x6 r0_2) (View.ld x5 r0_3) (View.ld x4 r0_3) -- `v56`
def k0_pay31 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : FVec F S2x512 .f32 :=
  k0_pay11 (View.ld x9 r0_9) -- `v64`
def k0_pay32 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : IVec S256x512 32 :=
  iota .tc S256x512 32 [0] iota_S256x512_d0_w32 -- `v153`
def k0_pay33 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : FVec F S272x512 .f32 :=
  k0_pay19 (k0_pay30 i x0 x1 x2 x3 x4 x5 x6 x7 x8 x9 x10 x11 x12 x13 x14) (View.ld x7 r0_13) -- `v126`
def k0_pay34 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : FVec F S256x512 .f32 :=
  k0_pay21 (k0_pay30 i x0 x1 x2 x3 x4 x5 x6 x7 x8 x9 x10 x11 x12 x13 x14) (View.ld x7 r0_13) -- `v152`
def k0_pay35 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : IVec S256x512 32 :=
  k0_pay22 (Scalar.select (Scalar.cmpi .sle (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 1#32) 0#32 4294967295#32) -- `v154`

/-- Window 15's staging buffer after the body, from the input windows' blocks: its 1 store as pieces, LAST
    FIRST (Lib/Pipeline/FrameBody.lean `View.canon`; the payloads are the skeleton's and the values stated above). -/
def out0_15 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : Vec F S256x1024 .f32 :=
  View.canon [⟨r0_5, k0_pay6 (k0_pay28 i x0 x1 x2 x3 x4 x5 x6 x7 x8 x9 x10 x11 x12 x13 x14) (k0_pay29 i x0 x1 x2 x3 x4 x5 x6 x7 x8 x9 x10 x11 x12 x13 x14) (Scalar.ofBits .f32 0x358637BD#32) (View.ld x6 r0_2) (View.ld x5 r0_3) (View.ld x4 r0_3) (View.ld x7 r0_4)⟩]

/-- Its stores tile the buffer (checked by evaluation), so they cover it. -/
theorem cover0_15 (p0 : Vec F S256x1024 .f32) (y : S256x1024.Idx) :
    ∃ pc ∈ ([⟨r0_5, p0⟩] : List (View.Piece (Elt F) S256x1024 .f32)), y ∈ pc.1.set :=
  View.cover_of_tiled [⟨r0_5, p0⟩] S256x1024.size (by rfl) y

/-- Window 16's staging buffer after the body, from the input windows' blocks: its 1 store as pieces, LAST
    FIRST (Lib/Pipeline/FrameBody.lean `View.canon`; the payloads are the skeleton's and the values stated above). -/
def out0_16 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : Vec F S256x1024 .f32 :=
  View.canon [⟨r0_5, k0_pay13 (Scalar.select (Scalar.cmpi .sle (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 1#32) 0#32 4294967295#32) (Scalar.select (Scalar.ori (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 0#32) (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 32#32)) 255#32 4294967295#32) (k0_pay30 i x0 x1 x2 x3 x4 x5 x6 x7 x8 x9 x10 x11 x12 x13 x14) (k0_pay8 (View.ld x8 r0_6)) (View.ld x7 r0_10)⟩]

/-- Its stores tile the buffer (checked by evaluation), so they cover it. -/
theorem cover0_16 (p0 : Vec F S256x1024 .f32) (y : S256x1024.Idx) :
    ∃ pc ∈ ([⟨r0_5, p0⟩] : List (View.Piece (Elt F) S256x1024 .f32)), y ∈ pc.1.set :=
  View.cover_of_tiled [⟨r0_5, p0⟩] S256x1024.size (by rfl) y

/-- Window 17's staging buffer after the body, from the input windows' blocks: its 1 store as pieces, LAST
    FIRST (Lib/Pipeline/FrameBody.lean `View.canon`; the payloads are the skeleton's and the values stated above). -/
def out0_17 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : Vec F S256x1024 .f32 :=
  View.canon [⟨r0_5, k0_pay18 (k0_pay9 (View.ld x8 r0_7)) (k0_pay12 (k0_pay30 i x0 x1 x2 x3 x4 x5 x6 x7 x8 x9 x10 x11 x12 x13 x14) (View.ld x7 r0_11)) (k0_pay15 (k0_pay30 i x0 x1 x2 x3 x4 x5 x6 x7 x8 x9 x10 x11 x12 x13 x14) (View.ld x7 r0_11)) (k0_pay16 (Scalar.select (Scalar.cmpi .sle (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 1#32) 0#32 4294967295#32) (k0_pay30 i x0 x1 x2 x3 x4 x5 x6 x7 x8 x9 x10 x11 x12 x13 x14) (View.ld x7 r0_11)) (k0_pay17 (Scalar.select (Scalar.ori (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 0#32) (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 32#32)) 255#32 4294967295#32)) 271#32⟩]

/-- Its stores tile the buffer (checked by evaluation), so they cover it. -/
theorem cover0_17 (p0 : Vec F S256x1024 .f32) (y : S256x1024.Idx) :
    ∃ pc ∈ ([⟨r0_5, p0⟩] : List (View.Piece (Elt F) S256x1024 .f32)), y ∈ pc.1.set :=
  View.cover_of_tiled [⟨r0_5, p0⟩] S256x1024.size (by rfl) y

/-- Window 18's staging buffer after the body, from the input windows' blocks: its 1 store as pieces, LAST
    FIRST (Lib/Pipeline/FrameBody.lean `View.canon`; the payloads are the skeleton's and the values stated above). -/
def out0_18 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : Vec F S256x1024 .f32 :=
  View.canon [⟨r0_5, k0_pay20 (Scalar.select (Scalar.cmpi .sle (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 1#32) 0#32 4294967295#32) (Scalar.select (Scalar.ori (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 0#32) (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 32#32)) 255#32 4294967295#32) (k0_pay10 (View.ld x8 r0_8)) (k0_pay14 (k0_pay30 i x0 x1 x2 x3 x4 x5 x6 x7 x8 x9 x10 x11 x12 x13 x14) (View.ld x7 r0_12))⟩]

/-- Its stores tile the buffer (checked by evaluation), so they cover it. -/
theorem cover0_18 (p0 : Vec F S256x1024 .f32) (y : S256x1024.Idx) :
    ∃ pc ∈ ([⟨r0_5, p0⟩] : List (View.Piece (Elt F) S256x1024 .f32)), y ∈ pc.1.set :=
  View.cover_of_tiled [⟨r0_5, p0⟩] S256x1024.size (by rfl) y

/-- Window 19's staging buffer after the body, from the input windows' blocks: its 1 store as pieces, LAST
    FIRST (Lib/Pipeline/FrameBody.lean `View.canon`; the payloads are the skeleton's and the values stated above). -/
def out0_19 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : Vec F S256x2048 .f32 :=
  View.canon [⟨r0_15, k0_pay26 (Scalar.select (Scalar.ori (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 0#32) (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 32#32)) 255#32 4294967295#32) (k0_pay31 i x0 x1 x2 x3 x4 x5 x6 x7 x8 x9 x10 x11 x12 x13 x14) (k0_pay33 i x0 x1 x2 x3 x4 x5 x6 x7 x8 x9 x10 x11 x12 x13 x14) (k0_pay34 i x0 x1 x2 x3 x4 x5 x6 x7 x8 x9 x10 x11 x12 x13 x14) (k0_pay32 i x0 x1 x2 x3 x4 x5 x6 x7 x8 x9 x10 x11 x12 x13 x14) (k0_pay35 i x0 x1 x2 x3 x4 x5 x6 x7 x8 x9 x10 x11 x12 x13 x14) (View.ld x13 r0_2) (View.ld x10 r0_14)⟩]

/-- Its stores tile the buffer (checked by evaluation), so they cover it. -/
theorem cover0_19 (p0 : Vec F S256x2048 .f32) (y : S256x2048.Idx) :
    ∃ pc ∈ ([⟨r0_15, p0⟩] : List (View.Piece (Elt F) S256x2048 .f32)), y ∈ pc.1.set :=
  View.cover_of_tiled [⟨r0_15, p0⟩] S256x2048.size (by rfl) y

/-- Window 20's staging buffer after the body, from the input windows' blocks: its 1 store as pieces, LAST
    FIRST (Lib/Pipeline/FrameBody.lean `View.canon`; the payloads are the skeleton's and the values stated above). -/
def out0_20 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : Vec F S256x2048 .f32 :=
  View.canon [⟨r0_15, k0_pay1 (k0_pay24 (Scalar.select (Scalar.ori (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 0#32) (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 32#32)) 255#32 4294967295#32) (k0_pay31 i x0 x1 x2 x3 x4 x5 x6 x7 x8 x9 x10 x11 x12 x13 x14) (k0_pay33 i x0 x1 x2 x3 x4 x5 x6 x7 x8 x9 x10 x11 x12 x13 x14) (k0_pay34 i x0 x1 x2 x3 x4 x5 x6 x7 x8 x9 x10 x11 x12 x13 x14) (k0_pay32 i x0 x1 x2 x3 x4 x5 x6 x7 x8 x9 x10 x11 x12 x13 x14) (k0_pay35 i x0 x1 x2 x3 x4 x5 x6 x7 x8 x9 x10 x11 x12 x13 x14)) (k0_pay27 (View.ld x14 r0_2)) (View.ld x11 r0_14)⟩]

/-- Its stores tile the buffer (checked by evaluation), so they cover it. -/
theorem cover0_20 (p0 : Vec F S256x2048 .f32) (y : S256x2048.Idx) :
    ∃ pc ∈ ([⟨r0_15, p0⟩] : List (View.Piece (Elt F) S256x2048 .f32)), y ∈ pc.1.set :=
  View.cover_of_tiled [⟨r0_15, p0⟩] S256x2048.size (by rfl) y

/-- Window 21's staging buffer after the body, from the input windows' blocks: its 1 store as pieces, LAST
    FIRST (Lib/Pipeline/FrameBody.lean `View.canon`; the payloads are the skeleton's and the values stated above). -/
def out0_21 (i : grid0.Coords) (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) : Vec F S256x1024 .f32 :=
  View.canon [⟨r0_5, k0_pay2 (k0_pay25 (Scalar.select (Scalar.ori (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 0#32) (Scalar.cmpi .eq (Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))) 32#32)) 255#32 4294967295#32) (k0_pay31 i x0 x1 x2 x3 x4 x5 x6 x7 x8 x9 x10 x11 x12 x13 x14) (k0_pay33 i x0 x1 x2 x3 x4 x5 x6 x7 x8 x9 x10 x11 x12 x13 x14) (k0_pay34 i x0 x1 x2 x3 x4 x5 x6 x7 x8 x9 x10 x11 x12 x13 x14) (k0_pay32 i x0 x1 x2 x3 x4 x5 x6 x7 x8 x9 x10 x11 x12 x13 x14) (k0_pay35 i x0 x1 x2 x3 x4 x5 x6 x7 x8 x9 x10 x11 x12 x13 x14)) (View.ld x12 r0_5)⟩]

/-- Its stores tile the buffer (checked by evaluation), so they cover it. -/
theorem cover0_21 (p0 : Vec F S256x1024 .f32) (y : S256x1024.Idx) :
    ∃ pc ∈ ([⟨r0_5, p0⟩] : List (View.Piece (Elt F) S256x1024 .f32)), y ∈ pc.1.set :=
  View.cover_of_tiled [⟨r0_5, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x256x2048 .f32) (harg1 : arg1.IsWhole) (arg2 : Memref sig .tc .vmem S1x8x2048 .f32) (harg2 : arg2.IsWhole) (arg3 : Memref sig .tc .vmem S1x8x2048 .f32) (harg3 : arg3.IsWhole) (arg4 : Memref sig .tc .vmem S1x256x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S2048x4608 .bf16) (harg8 : arg8.IsWhole) (arg9 : Memref sig .tc .vmem S2x3072 .f32) (harg9 : arg9.IsWhole) (arg10 : Memref sig .tc .vmem S2x512 .f32) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x1024 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x1024 .f32) (harg22 : arg22.IsWhole)
    (x0 : Vec F S1x256x2048 .f32) (x1 : Vec F S1x8x2048 .f32) (x2 : Vec F S1x8x2048 .f32) (x3 : Vec F S1x256x2048 .f32) (x4 : Vec F S1x1x2048 .f32) (x5 : Vec F S1x1x2048 .f32) (x6 : Vec F S1x2048 .f32) (x7 : Vec F S2048x4608 .bf16) (x8 : Vec F S2x3072 .f32) (x9 : Vec F S2x512 .f32) (x10 : Vec F S128x2048 .bf16) (x11 : Vec F S128x2048 .bf16) (x12 : Vec F S256x1024 .bf16) (x13 : Vec F S1x2048 .f32) (x14 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 i x0 x1 x2 x3 x4 x5 x6 x7 x8 x9 x10 x11 x12 x13 x14) ∗ owns (c : Thread nD τ) arg17 fullShare (out0_16 i x0 x1 x2 x3 x4 x5 x6 x7 x8 x9 x10 x11 x12 x13 x14) ∗ owns (c : Thread nD τ) arg18 fullShare (out0_17 i x0 x1 x2 x3 x4 x5 x6 x7 x8 x9 x10 x11 x12 x13 x14) ∗ owns (c : Thread nD τ) arg19 fullShare (out0_18 i x0 x1 x2 x3 x4 x5 x6 x7 x8 x9 x10 x11 x12 x13 x14) ∗ owns (c : Thread nD τ) arg20 fullShare (out0_19 i x0 x1 x2 x3 x4 x5 x6 x7 x8 x9 x10 x11 x12 x13 x14) ∗ owns (c : Thread nD τ) arg21 fullShare (out0_20 i x0 x1 x2 x3 x4 x5 x6 x7 x8 x9 x10 x11 x12 x13 x14) ∗ owns (c : Thread nD τ) arg22 fullShare (out0_21 i x0 x1 x2 x3 x4 x5 x6 x7 x8 x9 x10 x11 x12 x13 x14)) -∗ K ⟨⟩))
      ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_project_eq_skeleton]; unfold cc0_project_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 22, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel2Ideal.Gen

end
-- ==== Proof.ProjectRun.lean ====
/- The call's run, each of its seven results named. -/
module

public import proofs.«01_k».proof.Proof.ProjectFrame
public import Idealize.ShloMosaic.Lib.Pipeline.Value

@[expose] public section

noncomputable section

namespace Cert.Proj

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v49_0) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v49_1) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v49_2) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v49_3) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v49_4) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v49_5) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v49_6) = (dats m 0 c).arrAt 21 cfg0.N :=
  (h c).1 21

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

set_option maxHeartbeats 201240 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v49_0) = (dats m 0 c).arrAt 15 cfg0.N
      ∧ r.2.mem ((c : Thread nD τ).loc main_v49_1) = (dats m 0 c).arrAt 16 cfg0.N
      ∧ r.2.mem ((c : Thread nD τ).loc main_v49_2) = (dats m 0 c).arrAt 17 cfg0.N
      ∧ r.2.mem ((c : Thread nD τ).loc main_v49_3) = (dats m 0 c).arrAt 18 cfg0.N
      ∧ r.2.mem ((c : Thread nD τ).loc main_v49_4) = (dats m 0 c).arrAt 19 cfg0.N
      ∧ r.2.mem ((c : Thread nD τ).loc main_v49_5) = (dats m 0 c).arrAt 20 cfg0.N
      ∧ r.2.mem ((c : Thread nD τ).loc main_v49_6) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Proj

end
-- ==== Proof.Packed.lean ====
/- The arrays the call is given, at an index: what the host lines before the call make of the arguments. -/
module

public import proofs.«01_k».proof.Proof.Tokens
public import proofs.«01_k».proof.Proof.ProjectRun
public import Idealize.ShloMosaic.Lib.Pointwise
public import Idealize.ShloMosaic.Lib.Pipeline.ValueKit
public import Idealize.ShloMosaic.Lib.Claim

@[expose] public section

set_option maxRecDepth 16384

noncomputable section

namespace Cert.Proj

open Cert.Kernel2Ideal Cert.Kernel2Ideal.Gen Idealize.ShloMosaic Idealize.ShloMosaic.TcCoe Idealize.SL.Sem

variable {F : FTy → Type} [FloatOps F]

/-! ## The host lines -/

/-- The number the columns and rows are padded with. -/
def padding : FVec F S_ .f32 := sitofp .f32 (constantI S_ 32 0#32)

/-- The modulation's rows, each cut into six. -/
def modulations (a2 : FVec F S2x12288 .f32) (a3 : FVec F S12288 .f32) : FVec F S48x1x2048 .f32 :=
  shapeCast S48x1x2048 (concatenate S8x12288 0 [⟨S2x12288, a2⟩, ⟨S1x12288, broadcastInDim S1x12288 ![1] bcast_S12288_S1x12288_1 a3⟩,
    ⟨S5x12288, broadcastInDim S5x12288 ![] bcast_S_S5x12288 (constant S_ .f32 0x00000000#32)⟩]
    concatenates_S2x12288_S1x12288_S5x12288_S8x12288_d0) shapeCasts_S8x12288_S48x1x2048

/-- The columns that take the exchanged halves. -/
def exchangeIx : IVec S64x1 32 :=
  broadcastInDim S64x1 ![0] bcast_S64_S64x1_0 (select (constantI S64 1 0#1)
    (addi (fun i => lit0 (S64.rowMajor i)) (broadcastInDim S64 ![] bcast_S_S64 (constantI S_ 32 64#32))) (fun i => lit0 (S64.rowMajor i)))

/-- 64 columns in 128. -/
def wide64 (x : FVec F S2048x64 .f32) : FVec F S2048x128 .f32 :=
  pad S2048x128 ![0, 0] ![0, 64] ![0, 0] x (padding (F := F)) pads_S2048x64_S2048x128_000_0640 h_S_

def rotary (a5 : FVec F S2048x4192 .f32) : FVec F S2048x64 .f32 := extractStridedSlice S2048x64 ![0, 768] a5 slices_S2048x4192_S2048x64_0_768

def rotaryExchanged (a5 : FVec F S2048x4192 .f32) : FVec F S2048x64 .f32 :=
  Host.gather gather_S2048x64_S64x1_S2048x64_0_1_n_n_1_1_20481 (rotary a5) exchangeIx

/-- The weights, every group of columns padded. -/
def weights (a5 : FVec F S2048x4192 .f32) : FVec F S2048x4608 .bf16 :=
  truncf .bf16 (concatenate S2048x4608 1 [⟨S2048x768, extractStridedSlice S2048x768 ![0, 0] a5 slices_S2048x4192_S2048x768_0_0⟩,
    ⟨S2048x128, wide64 (rotary a5)⟩, ⟨S2048x128, wide64 (rotaryExchanged a5)⟩,
    ⟨S2048x3072, extractStridedSlice S2048x3072 ![0, 832] a5 slices_S2048x4192_S2048x3072_0_832⟩,
    ⟨S2048x128, wide64 (extractStridedSlice S2048x64 ![0, 3904] a5 slices_S2048x4192_S2048x64_0_3904)⟩,
    ⟨S2048x128, wide64 (extractStridedSlice S2048x64 ![0, 3968] a5 slices_S2048x4192_S2048x64_0_3968)⟩,
    ⟨S2048x256, pad S2048x256 ![0, 0] ![0, 96] ![0, 0] (extractStridedSlice S2048x160 ![0, 4032] a5 slices_S2048x4192_S2048x160_0_4032)
      (padding (F := F)) pads_S2048x160_S2048x256_000_0960 h_S_⟩]
    concatenates_S2048x768_S2048x128_S2048x128_S2048x3072_S2048x128_S2048x128_S2048x256_S2048x4608_d1) bitsLt_bf16_f32

/-- The mixing factors of the columns in the low ranks, padded alike. -/
def lowFactors (a6 : FVec F S2x3360 .f32) : FVec F S2x512 .f32 :=
  concatenate S2x512 1 [
    ⟨S2x128, pad S2x128 ![0, 0] ![0, 64] ![0, 0] (extractStridedSlice S2x64 ![0, 3072] a6 slices_S2x3360_S2x64_0_3072) (padding (F := F)) pads_S2x64_S2x128_000_0640 h_S_⟩,
    ⟨S2x128, pad S2x128 ![0, 0] ![0, 64] ![0, 0] (extractStridedSlice S2x64 ![0, 3136] a6 slices_S2x3360_S2x64_0_3136) (padding (F := F)) pads_S2x64_S2x128_000_0640 h_S_⟩,
    ⟨S2x256, pad S2x256 ![0, 0] ![0, 96] ![0, 0] (extractStridedSlice S2x160 ![0, 3200] a6 slices_S2x3360_S2x160_0_3200) (padding (F := F)) pads_S2x160_S2x256_000_0960 h_S_⟩]
    concatenates_S2x128_S2x128_S2x256_S2x512_d1

/-- The gate's second factor in 256 rows. -/
def gateUp (a11 : FVec F S160x1024 .f32) : FVec F S256x1024 .bf16 :=
  truncf .bf16 (pad S256x1024 ![0, 0] ![96, 0] ![0, 0] a11 (padding (F := F)) pads_S160x1024_S256x1024_0960_000 h_S_) bitsLt_bf16_f32

/-- The two directions' second factor side by side, in 128 rows. -/
def bothUp (a : FVec F S2x64x1024 .f32) : FVec F S128x2048 .bf16 :=
  truncf .bf16 (pad S128x2048 ![0, 0] ![64, 0] ![0, 0] (concatenate S64x2048 1 [
    ⟨S64x1024, shapeCast S64x1024 (extractStridedSlice S1x64x1024 ![0, 0, 0] a slices_S2x64x1024_S1x64x1024_0_0_0) shapeCasts_S1x64x1024_S64x1024⟩,
    ⟨S64x1024, shapeCast S64x1024 (extractStridedSlice S1x64x1024 ![1, 0, 0] a slices_S2x64x1024_S1x64x1024_1_0_0) shapeCasts_S1x64x1024_S64x1024⟩]
    concatenates_S64x1024_S64x1024_S64x2048_d1) (padding (F := F)) pads_S64x2048_S128x2048_0640_000 h_S_) bitsLt_bf16_f32

/-! ## At an index -/

theorem padding_zero : (FloatOps.sitofp (F := Ideal) .f32 (0#32 : BitVec 32) : EReal) = 0 := by
  change (((0#32 : BitVec 32).toInt : ℝ) : EReal) = 0
  simp

theorem exchangeIx_apply : ∀ l : Fin 64, (exchangeIx (ix2 l 0)).toInt.toNat = (exchanged l).val := by
  decide +kernel

/-- The operand's column that the indices name at the result's column. -/
theorem gather_columns (x : FVec Ideal S2048x64 .f32) (idx : IVec S64x1 32) (k : Fin 2048) (l : Fin 64) :
    Host.gather gather_S2048x64_S64x1_S2048x64_0_1_n_n_1_1_20481 x idx (ix2 k l)
      = x (ix2 k ⟨min (idx (ix2 l 0)).toInt.toNat 63, by omega⟩) := by
  unfold Host.gather
  congr 1
  funext a
  refine Fin.ext ?_
  change gather_S2048x64_S64x1_S2048x64_0_1_n_n_1_1_20481.start (ix2 k l) idx a
    + gather_S2048x64_S64x1_S2048x64_0_1_n_n_1_1_20481.batchCoord (ix2 k l) a
    + gather_S2048x64_S64x1_S2048x64_0_1_n_n_1_1_20481.offCoord (ix2 k l) a = _
  have h01 : a = 0 ∨ a = 1 := by
    match a with
    | ⟨0, _⟩ => exact Or.inl rfl
    | ⟨1, _⟩ => exact Or.inr rfl
  rw [GatherDims.batchCoord_eq_zero _ _ _ (fun h => by cases h)]
  rcases h01 with rfl | rfl
  · unfold GatherDims.start
    rw [dif_neg (by decide)]
    unfold GatherDims.offCoord
    rw [dif_pos (by decide)]
    simp only [Nat.zero_add]
    rfl
  · rw [GatherDims.offCoord_eq_zero _ _ _ (by decide)]
    simp only [Nat.add_zero]
    unfold GatherDims.start
    rw [dif_pos (by decide)]
    have hsi : gather_S2048x64_S64x1_S2048x64_0_1_n_n_1_1_20481.siIdx (ix2 k l) ⟨List.idxOf (1 : Fin 2) [1], by decide⟩ = ix2 l 0 := by
      funext b
      refine Fin.ext ?_
      match b with
      | ⟨0, _⟩ => rfl
      | ⟨1, _⟩ => rfl
    exact congrArg (fun i => min (idx i).toInt.toNat 63) hsi

theorem exchange_apply (k : Fin 2048) (l : Fin 64) (a5 : FVec Ideal S2048x4192 .f32) :
    (rotaryExchanged a5 (ix2 k l) : EReal) = (a5 (ix2 k ⟨768 + (exchanged l).val, by omega⟩) : EReal) := by
  have h : (rotaryExchanged a5 (ix2 k l) : EReal) = (rotary a5 (ix2 k (exchanged l)) : EReal) :=
    (gather_columns _ _ k l).trans (congrArg (fun e => (rotary a5 (ix2 k e) : EReal))
      (Fin.ext (by simp only [exchangeIx_apply]; omega)))
  rw [h]
  pointwise [rotary]

theorem modulations_apply (a2 : FVec Ideal S2x12288 .f32) (a3 : FVec Ideal S12288 .f32) (i : Fin 48) (k : Fin 2048) :
    (modulations a2 a3 (ix3 i 0 k) : EReal)
      = if h : i.val / 6 < 2 then (a2 (ix2 ⟨i.val / 6, h⟩ ⟨i.val % 6 * 2048 + k.val, by omega⟩) : EReal)
        else if i.val / 6 - 2 < 1 then (a3 (ix1 ⟨i.val % 6 * 2048 + k.val, by omega⟩) : EReal) else 0 := by
  pointwise [modulations]
  rfl

theorem weights_mla (a5 : FVec Ideal S2048x4192 .f32) (k : Fin 2048) (c : Fin 1024) :
    (weights a5 (ix2 k ⟨c.val, by omega⟩) : EReal)
      = if h : c.val < 832 then (a5 (ix2 k ⟨c.val, by omega⟩) : EReal)
        else if h' : c.val - 832 < 64 then 0
        else if h'' : c.val - 832 - 64 < 64 then (a5 (ix2 k ⟨768 + (exchanged ⟨c.val - 832 - 64, h''⟩).val, by omega⟩) : EReal)
        else 0 := by
  pointwise [weights, wide64, padding, padding_zero, exchange_apply, rotary]
  have e : c.val - 768 - 128 = c.val - 832 - 64 := by clear a5 k; omega
  have e' (h : ¬c.val < 768) : 768 + (c.val - 768) = c.val := by clear a5 k; omega
  by_cases h1 : c.val < 768
  · have h2 : c.val < 832 := by clear a5 k; omega
    simp only [h1, h2, ↓reduceDIte]
  by_cases h2 : c.val < 832
  · have h3 : c.val - 768 < 128 := by clear a5 k; omega
    have h4 : c.val - 768 < 64 := by clear a5 k; omega
    simp only [h1, h2, h3, h4, e' h1, ↓reduceDIte]
  by_cases h3 : c.val < 896
  · have h4 : c.val - 768 < 128 := by clear a5 k; omega
    have h5 : ¬c.val - 768 < 64 := by clear a5 k; omega
    have h6 : c.val - 832 < 64 := by clear a5 k; omega
    simp only [h1, h2, h4, h5, h6, ↓reduceDIte]
  have h4 : ¬c.val - 768 < 128 := by clear a5 k; omega
  have h5 : c.val - 832 - 64 < 128 := by clear a5 k; omega
  have h6 : ¬c.val - 832 < 64 := by clear a5 k; omega
  by_cases h7 : c.val - 832 - 64 < 64
  · simp only [h1, h2, h4, h5, h6, h7, e, ↓reduceDIte]
  · simp only [h1, h2, h4, h5, h6, h7, e, ↓reduceDIte]

theorem weights_shift (a5 : FVec Ideal S2048x4192 .f32) (k : Fin 2048) (c : Fin 3072) :
    (weights a5 (ix2 k ⟨1024 + c.val, by omega⟩) : EReal) = (a5 (ix2 k ⟨832 + c.val, by omega⟩) : EReal) := by
  pointwise [weights, wide64]
  rw [dif_neg (by omega)]
  rw [dif_neg (by omega)]
  rw [dif_neg (by omega)]
  rw [dif_pos (by omega)]
  exact congrArg (fun e => (a5 (ix2 k e) : EReal)) (Fin.ext (by first | omega | (simp only; omega)))

theorem weights_decay (a5 : FVec Ideal S2048x4192 .f32) (k : Fin 2048) (l : Fin 64) :
    (weights a5 (ix2 k ⟨4096 + l.val, by omega⟩) : EReal) = (a5 (ix2 k ⟨3904 + l.val, by omega⟩) : EReal) := by
  pointwise [weights, wide64]
  rw [dif_neg (by omega)]
  rw [dif_neg (by omega)]
  rw [dif_neg (by omega)]
  rw [dif_neg (by omega)]
  rw [dif_pos (by omega), dif_pos (by omega)]
  exact congrArg (fun e => (a5 (ix2 k e) : EReal)) (Fin.ext (by first | omega | (simp only; omega)))

theorem weights_rate (a5 : FVec Ideal S2048x4192 .f32) (k : Fin 2048) (l : Fin 64) :
    (weights a5 (ix2 k ⟨4224 + l.val, by omega⟩) : EReal) = (a5 (ix2 k ⟨3968 + l.val, by omega⟩) : EReal) := by
  pointwise [weights, wide64]
  rw [dif_neg (by omega)]
  rw [dif_neg (by omega)]
  rw [dif_neg (by omega)]
  rw [dif_neg (by omega)]
  rw [dif_neg (by omega)]
  rw [dif_pos (by omega), dif_pos (by omega)]
  exact congrArg (fun e => (a5 (ix2 k e) : EReal)) (Fin.ext (by first | omega | (simp only; omega)))

theorem weights_gate (a5 : FVec Ideal S2048x4192 .f32) (k : Fin 2048) (l : Fin 160) :
    (weights a5 (ix2 k ⟨4352 + l.val, by omega⟩) : EReal) = (a5 (ix2 k ⟨4032 + l.val, by omega⟩) : EReal) := by
  pointwise [weights, wide64]
  rw [dif_neg (by omega)]
  rw [dif_neg (by omega)]
  rw [dif_neg (by omega)]
  rw [dif_neg (by omega)]
  rw [dif_neg (by omega)]
  rw [dif_neg (by omega)]
  rw [dif_pos (by omega)]
  exact congrArg (fun e => (a5 (ix2 k e) : EReal)) (Fin.ext (by first | omega | (simp only; omega)))

theorem factors_decay (a6 : FVec Ideal S2x3360 .f32) (o : Fin 2) (l : Fin 64) :
    (lowFactors a6 (ix2 o ⟨l.val, by omega⟩) : EReal) = (a6 (ix2 o ⟨3072 + l.val, by omega⟩) : EReal) := by
  pointwise [lowFactors]
  split_ifs <;> first
    | rfl
    | (exfalso; omega)
    | exact congrArg (fun e => (a6 (ix2 o e) : EReal)) (Fin.ext (by first | omega | (simp only; omega)))

theorem factors_rate (a6 : FVec Ideal S2x3360 .f32) (o : Fin 2) (l : Fin 64) :
    (lowFactors a6 (ix2 o ⟨128 + l.val, by omega⟩) : EReal) = (a6 (ix2 o ⟨3136 + l.val, by omega⟩) : EReal) := by
  pointwise [lowFactors]
  split_ifs <;> first
    | rfl
    | (exfalso; omega)
    | exact congrArg (fun e => (a6 (ix2 o e) : EReal)) (Fin.ext (by first | omega | (simp only; omega)))

theorem factors_gate (a6 : FVec Ideal S2x3360 .f32) (o : Fin 2) (l : Fin 160) :
    (lowFactors a6 (ix2 o ⟨256 + l.val, by omega⟩) : EReal) = (a6 (ix2 o ⟨3200 + l.val, by omega⟩) : EReal) := by
  pointwise [lowFactors]
  split_ifs <;> first
    | rfl
    | (exfalso; omega)
    | exact congrArg (fun e => (a6 (ix2 o e) : EReal)) (Fin.ext (by first | omega | (simp only; omega)))

theorem gateUp_apply (a : FVec Ideal S160x1024 .f32) (o : Fin 256) (j : Fin 1024) :
    (gateUp a (ix2 o j) : EReal) = if h : o.val < 160 then (a (ix2 ⟨o.val, h⟩ j) : EReal) else 0 := by
  pointwise [gateUp, padding, padding_zero]

theorem bothUp_apply (a : FVec Ideal S2x64x1024 .f32) (o : Fin 128) (j : Fin 2048) :
    (bothUp a (ix2 o j) : EReal) = if h : o.val < 64 then (a (ix3 (half j) ⟨o.val, h⟩ (inHalf j)) : EReal) else 0 := by
  by_cases hj : j.val < 1024
  · rw [half_low j hj, inHalf_low j hj]
    pointwise [bothUp, padding, padding_zero]
    simp only [dif_pos hj]
  · rw [half_high j hj, inHalf_high j hj]
    pointwise [bothUp, padding, padding_zero]
    simp only [dif_neg hj]

section
variable (m : (ℓ : Loc nD τ sig) → Buf (Elt F) ℓ) (c : Dev nD)

set_option maxHeartbeats 4000000 in
theorem V_modulations : V m c main_v3 = modulations (m ((c : Thread nD τ).loc main_arg2)) (m ((c : Thread nD τ).loc main_arg3)) := by
  simp only [V, List.flatten_cons, List.flatten_nil, List.append_nil, StableHlo.after_append]
  after_results
  rfl

set_option maxHeartbeats 4000000 in
theorem V_weights : V m c main_v21 = weights (m ((c : Thread nD τ).loc main_arg5)) := by
  simp only [V, List.flatten_cons, List.flatten_nil, List.append_nil, StableHlo.after_append]
  after_results
  rfl

set_option maxHeartbeats 4000000 in
theorem V_factors : V m c main_v22 = extractStridedSlice S2x3072 ![0, 0] (m ((c : Thread nD τ).loc main_arg6)) slices_S2x3360_S2x3072_0_0 := by
  simp only [V, List.flatten_cons, List.flatten_nil, List.append_nil, StableHlo.after_append]
  after_results

set_option maxHeartbeats 4000000 in
theorem V_lowFactors : V m c main_v29 = lowFactors (m ((c : Thread nD τ).loc main_arg6)) := by
  simp only [V, List.flatten_cons, List.flatten_nil, List.append_nil, StableHlo.after_append]
  after_results
  rfl

set_option maxHeartbeats 4000000 in
theorem V_gateUp : V m c main_v31 = gateUp (m ((c : Thread nD τ).loc main_arg11)) := by
  simp only [V, List.flatten_cons, List.flatten_nil, List.append_nil, StableHlo.after_append]
  after_results
  rfl

set_option maxHeartbeats 4000000 in
theorem V_decayUp : V m c main_v38 = bothUp (m ((c : Thread nD τ).loc main_arg8)) := by
  simp only [V, List.flatten_cons, List.flatten_nil, List.append_nil, StableHlo.after_append]
  after_results
  rfl

set_option maxHeartbeats 4000000 in
theorem V_rateUp : V m c main_v45 = bothUp (m ((c : Thread nD τ).loc main_arg10)) := by
  simp only [V, List.flatten_cons, List.flatten_nil, List.append_nil, StableHlo.after_append]
  after_results
  rfl

set_option maxHeartbeats 4000000 in
theorem V_decay0 : V m c main_v46 = shapeCast S1x2048 (m ((c : Thread nD τ).loc main_arg7)) shapeCasts_S2x1024_S1x2048 := by
  simp only [V, List.flatten_cons, List.flatten_nil, List.append_nil, StableHlo.after_append]
  after_results
  rfl

set_option maxHeartbeats 4000000 in
theorem V_rate0 : V m c main_v47 = shapeCast S1x2048 (m ((c : Thread nD τ).loc main_arg9)) shapeCasts_S2x1024_S1x2048 := by
  simp only [V, List.flatten_cons, List.flatten_nil, List.append_nil, StableHlo.after_append]
  after_results
  rfl

set_option maxHeartbeats 4000000 in
theorem V_gain : V m c main_v48 = shapeCast S1x2048 (m ((c : Thread nD τ).loc main_arg4)) shapeCasts_S2048_S1x2048 := by
  simp only [V, List.flatten_cons, List.flatten_nil, List.append_nil, StableHlo.after_append]
  after_results
  rfl

end

end Cert.Proj

end
-- ==== Proof.ProjectTiles.lean ====
/- What a point of the projections computes of its blocks, at an element. -/
module

public import proofs.«01_k».proof.Proof.Tokens
public import proofs.«01_k».proof.Proof.ProjectFrame
public import Idealize.ShloMosaic.Lib.Pointwise
public import Idealize.ShloMosaic.Lib.Pipeline.ValueKit
public import Idealize.ShloMosaic.Lib.Claim

@[expose] public section

noncomputable section

namespace Cert.Proj

open Cert.Kernel2Ideal Cert.Kernel2Ideal.Gen Idealize.ShloMosaic Idealize.ShloMosaic.TcCoe Idealize.SL.Sem

/-! ## The normed rows -/

theorem mean_apply (i : grid0.Coords) (v16 v18 : Vec Ideal S1x256x2048 .f32) (v21 v23 : Vec Ideal S1x8x2048 .f32) (r : Fin 272) :
    (k0_pay4 i v16 v18 v21 v23 (ix2 r 0) : EReal)
      = Ideal.div (∑ x : Fin 2048, (k0_pay3 i v16 v18 v21 v23 (ix2 r x) : EReal) * (k0_pay3 i v16 v18 v21 v23 (ix2 r x) : EReal))
          (Ideal.ofBits .f32 0x45000000#32) := by
  pointwise [k0_pay4]

theorem norm_apply (v25 : FVec Ideal S272x2048 .f32) (v30 : FVec Ideal S272x1 .f32) (v36 : Vec Ideal S1x2048 .f32)
    (v40 v46 : Vec Ideal S1x1x2048 .f32) (r : Fin 272) (k : Fin 2048) :
    (k0_pay5 v25 v30 (Scalar.ofBits .f32 0x358637BD#32) v36 v40 v46 (ix2 r k) : EReal)
      = (v25 (ix2 r k) : EReal) * Ideal.rsqrt ((v30 (ix2 r 0) : EReal) + Ideal.ofBits .f32 0x358637BD#32) * (v36 (ix2 0 k) : EReal)
          * (1 + (v40 (ix3 0 0 k) : EReal)) + (v46 (ix3 0 0 k) : EReal) := by
  pointwise [k0_pay5]

/-- The rows of a point: the normed rows of its 272 tokens. -/
theorem rows_normed (i : grid0.Coords) (v16 v18 : Vec Ideal S1x256x2048 .f32) (v21 v23 : Vec Ideal S1x8x2048 .f32) (v36 : Vec Ideal S1x2048 .f32)
    (v40 v46 : Vec Ideal S1x1x2048 .f32) (r : Fin 272) (k : Fin 2048) :
    (k0_pay5 (k0_pay3 i v16 v18 v21 v23) (k0_pay4 i v16 v18 v21 v23) (Scalar.ofBits .f32 0x358637BD#32) v36 v40 v46 (ix2 r k) : EReal)
      = normRow (fun k => (k0_pay3 i v16 v18 v21 v23 (ix2 r k) : EReal)) (fun k => (v36 (ix2 0 k) : EReal))
          (fun k => (v40 (ix3 0 0 k) : EReal)) (fun k => (v46 (ix3 0 0 k) : EReal)) k := by
  rw [norm_apply, mean_apply]
  rfl

/-- A point's tile among its batch's 33. -/
def tileWord (i : grid0.Coords) : BitVec 32 :=
  Scalar.select (Scalar.andi (Scalar.xori (Scalar.cmpi .slt (Scalar.remsi (BitVec.ofNat 32 (i 0).val) (Scalar.select (Scalar.cmpi .eq 33#32 0#32) 1#32 33#32)) 0#32) (Scalar.cmpi .slt (Scalar.select (Scalar.cmpi .eq 33#32 0#32) 1#32 33#32) 0#32)) (Scalar.cmpi .ne (Scalar.remsi (BitVec.ofNat 32 (i 0).val) (Scalar.select (Scalar.cmpi .eq 33#32 0#32) 1#32 33#32)) 0#32)) (Scalar.addi (Scalar.remsi (BitVec.ofNat 32 (i 0).val) (Scalar.select (Scalar.cmpi .eq 33#32 0#32) 1#32 33#32)) (Scalar.select (Scalar.cmpi .eq 33#32 0#32) 1#32 33#32)) (Scalar.remsi (BitVec.ofNat 32 (i 0).val) (Scalar.select (Scalar.cmpi .eq 33#32 0#32) 1#32 33#32))

/-- It is the first. -/
def isFirst (i : grid0.Coords) : BitVec 1 := Scalar.cmpi .eq (tileWord i) 0#32

/-- The row of the tile that has none before it. -/
def noneBefore (i : grid0.Coords) : BitVec 32 := Scalar.select (Scalar.cmpi .sle (tileWord i) 1#32) 0#32 4294967295#32

/-- The row of the tile that has none after it. -/
def noneAfter (i : grid0.Coords) : BitVec 32 :=
  Scalar.select (Scalar.ori (Scalar.cmpi .eq (tileWord i) 0#32) (Scalar.cmpi .eq (tileWord i) 32#32)) 255#32 4294967295#32

theorem tokens_apply (i : grid0.Coords) (v16 v18 : Vec Ideal S1x256x2048 .f32) (v21 v23 : Vec Ideal S1x8x2048 .f32) (r : Fin 272) (k : Fin 2048) :
    (k0_pay3 i v16 v18 v21 v23 (ix2 r k) : EReal)
      = if h : r.val < 8 then (v21 (ix3 0 ⟨r.val, h⟩ k) : EReal)
        else if h' : r.val - 8 < 256 then
          Scalar.select (isFirst i) (v16 (ix3 0 ⟨r.val - 8, h'⟩ k) : EReal) (v18 (ix3 0 ⟨r.val - 8, h'⟩ k) : EReal)
        else (v23 (ix3 0 ⟨r.val - 8 - 256, by omega⟩ k) : EReal) := by
  pointwise [k0_pay3]
  rfl

/-! ## The projections -/

theorem round_apply (v25 : FVec Ideal S272x2048 .f32) (v30 : FVec Ideal S272x1 .f32) (e : Ideal .f32) (v36 : Vec Ideal S1x2048 .f32)
    (v40 v46 : Vec Ideal S1x1x2048 .f32) (r : Fin 272) (k : Fin 2048) :
    (k0_pay7 v25 v30 e v36 v40 v46 (ix2 r k) : EReal) = (k0_pay5 v25 v30 e v36 v40 v46 (ix2 r k) : EReal) := by
  pointwise [k0_pay7]

theorem mla_apply (v25 : FVec Ideal S272x2048 .f32) (v30 : FVec Ideal S272x1 .f32) (e : Ideal .f32) (v36 : Vec Ideal S1x2048 .f32)
    (v40 v46 : Vec Ideal S1x1x2048 .f32) (w : Vec Ideal S2048x1024 .bf16) (q : Fin 256) (c : Fin 1024) :
    (k0_pay6 v25 v30 e v36 v40 v46 w (ix2 q c) : EReal)
      = ∑ x : Fin 2048, (k0_pay7 v25 v30 e v36 v40 v46 (ix2 ⟨8 + q.val, by omega⟩ x) : EReal) * (w (ix2 x c) : EReal) := by
  simp only [round_apply]
  pointwise [k0_pay6]

theorem key_apply (h : FVec Ideal S272x2048 .bf16) (w : Vec Ideal S2048x1024 .bf16) (r : Fin 272) (c : Fin 1024) :
    (k0_pay12 h w (ix2 r c) : EReal) = ∑ x : Fin 2048, (h (ix2 r x) : EReal) * (w (ix2 x c) : EReal) := by
  pointwise [k0_pay12]

theorem value_apply (h : FVec Ideal S272x2048 .bf16) (w : Vec Ideal S2048x1024 .bf16) (r : Fin 272) (c : Fin 1024) :
    (k0_pay14 h w (ix2 r c) : EReal) = ∑ x : Fin 2048, (h (ix2 r x) : EReal) * (w (ix2 x c) : EReal) := by
  pointwise [k0_pay14]

theorem low_apply (h : FVec Ideal S272x2048 .bf16) (w : Vec Ideal S2048x512 .bf16) (r : Fin 272) (c : Fin 512) :
    (k0_pay19 h w (ix2 r c) : EReal) = ∑ x : Fin 2048, (h (ix2 r x) : EReal) * (w (ix2 x c) : EReal) := by
  pointwise [k0_pay19]

/-- Row `q` of the 256 among the 272 rows `P`, mixed with its neighbours; `v12` and `v15` are the rows without one. -/
def around (v12 v15 : BitVec 32) (P : Fin 272 → EReal) (mu0 mu1 : EReal) (q : Fin 256) : EReal :=
  mix (P ⟨8 + q.val, by omega⟩)
    (Scalar.select (IntOp.cmpi .eq (BitVec.ofNat 32 q.val) v12) 0 (P ⟨7 + q.val, by omega⟩))
    (Scalar.select (IntOp.cmpi .eq (BitVec.ofNat 32 q.val) v15) 0 (P ⟨9 + q.val, by omega⟩)) mu0 mu1

theorem back (q : Fin 256) : (8 + q.val + 272 - 1) % 272 = 7 + q.val := by omega

theorem ahead (q : Fin 256) : (8 + q.val + 272 - 271) % 272 = 9 + q.val := by omega

theorem receptance_apply (v12 v15 : BitVec 32) (h : FVec Ideal S272x2048 .bf16) (mu : FVec Ideal S2x1024 .f32)
    (w : Vec Ideal S2048x1024 .bf16) (q : Fin 256) (c : Fin 1024) :
    (k0_pay13 v12 v15 h (k0_pay8 mu) w (ix2 q c) : EReal)
      = around v12 v15 (fun r => ∑ x : Fin 2048, (h (ix2 r x) : EReal) * (w (ix2 x c) : EReal)) (mu (ix2 0 c)) (mu (ix2 1 c)) q := by
  pointwise [k0_pay13, k0_pay8]
  simp only [back, ahead]
  rfl

theorem keys_apply (v12 v15 : BitVec 32) (h : FVec Ideal S272x2048 .bf16) (mu : FVec Ideal S2x1024 .f32)
    (w : Vec Ideal S2048x1024 .bf16) (q : Fin 256) (c : Fin 1024) :
    (k0_pay18 (k0_pay9 mu) (k0_pay12 h w) (k0_pay15 h w) (k0_pay16 v12 h w) (k0_pay17 v15) 271#32 (ix2 q c) : EReal)
      = around v12 v15 (fun r => ∑ x : Fin 2048, (h (ix2 r x) : EReal) * (w (ix2 x c) : EReal)) (mu (ix2 0 c)) (mu (ix2 1 c)) q := by
  pointwise [k0_pay18, k0_pay9, k0_pay15, k0_pay16, k0_pay17, key_apply]
  simp only [back, ahead]
  rfl

theorem values_apply (v12 v15 : BitVec 32) (h : FVec Ideal S272x2048 .bf16) (mu : FVec Ideal S2x1024 .f32)
    (w : Vec Ideal S2048x1024 .bf16) (q : Fin 256) (c : Fin 1024) :
    (k0_pay20 v12 v15 (k0_pay10 mu) (k0_pay14 h w) (ix2 q c) : EReal)
      = around v12 v15 (fun r => ∑ x : Fin 2048, (h (ix2 r x) : EReal) * (w (ix2 x c) : EReal)) (mu (ix2 0 c)) (mu (ix2 1 c)) q := by
  pointwise [k0_pay20, k0_pay10, value_apply]
  simp only [back, ahead]
  rfl

theorem lows_apply (v12 v15 : BitVec 32) (h : FVec Ideal S272x2048 .bf16) (mu : FVec Ideal S2x512 .f32)
    (w : Vec Ideal S2048x512 .bf16) (q : Fin 256) (c : Fin 512) :
    (k0_pay23 v15 (k0_pay11 mu) (k0_pay19 h w) (k0_pay21 h w) (iota .tc S256x512 32 [0] iota_S256x512_d0_w32) (k0_pay22 v12) (ix2 q c) : EReal)
      = around v12 v15 (fun r => ∑ x : Fin 2048, (h (ix2 r x) : EReal) * (w (ix2 x c) : EReal)) (mu (ix2 0 c)) (mu (ix2 1 c)) q := by
  pointwise [k0_pay23, k0_pay11, k0_pay21, k0_pay22, low_apply]
  simp only [back, ahead]
  rfl

/-! ## The results of the low ranks -/

section
variable (v15 : BitVec 32) (v64 : FVec Ideal S2x512 .f32) (v126 : FVec Ideal S272x512 .f32) (v152 : FVec Ideal S256x512 .f32)
  (v153 v154 : IVec S256x512 32) (base : Vec Ideal S1x2048 .f32) (up : Vec Ideal S128x2048 .bf16) (q : Fin 256)

theorem decay_apply (c : Fin 2048) :
    (k0_pay26 v15 v64 v126 v152 v153 v154 base up (ix2 q c) : EReal)
      = Ideal.ofBits .f32 0xBF1B4598#32 * Ideal.logistic ((base (ix2 0 c) : EReal)
          + ∑ x : Fin 128, Ideal.tanh (k0_pay23 v15 v64 v126 v152 v153 v154 (ix2 q ⟨x.val, by omega⟩) : EReal) * (up (ix2 x c) : EReal)) := by
  pointwise [k0_pay26]

theorem rate_apply (c : Fin 2048) :
    (k0_pay1 (k0_pay24 v15 v64 v126 v152 v153 v154) (k0_pay27 base) up (ix2 q c) : EReal)
      = Ideal.logistic ((base (ix2 0 c) : EReal)
          + ∑ x : Fin 128, (k0_pay23 v15 v64 v126 v152 v153 v154 (ix2 q ⟨128 + x.val, by omega⟩) : EReal) * (up (ix2 x c) : EReal)) := by
  pointwise [k0_pay1, k0_pay24, k0_pay27]

theorem gate_apply (up : Vec Ideal S256x1024 .bf16) (c : Fin 1024) :
    (k0_pay2 (k0_pay25 v15 v64 v126 v152 v153 v154) up (ix2 q c) : EReal)
      = ∑ x : Fin 256, Ideal.logistic (k0_pay23 v15 v64 v126 v152 v153 v154 (ix2 q ⟨256 + x.val, by omega⟩) : EReal) * (up (ix2 x c) : EReal) := by
  pointwise [k0_pay2, k0_pay25]

end

end Cert.Proj
-- ==== Proof.Project.lean ====
/- The blocks a point of the projections stages, at an index of the arguments. -/
module

public import proofs.«01_k».proof.Proof.Packed
public import proofs.«01_k».proof.Proof.ProjectTiles

@[expose] public section

set_option maxRecDepth 16384

noncomputable section

namespace Cert.Proj

open Cert.Kernel2Ideal Cert.Kernel2Ideal.Gen Idealize.ShloMosaic Idealize.ShloMosaic.TcCoe Idealize.SL.Sem

/-! ## The windows -/

/-- A point: a tile of a batch's tokens. -/
def point (t : Fin cfg0.N) : Fin 66 := (grid0.coords t) 0

def batch (t : Fin cfg0.N) : Fin 2 := ⟨(point t).val / 33, by omega⟩

def tile (t : Fin cfg0.N) : Fin 33 := ⟨(point t).val % 33, by omega⟩

/-- The blocks the windows stage at a point. -/
theorem blocks (t : Fin cfg0.N) :
    win0_0.index t = ![(batch t).val, (tile t).val - 1, 0]
    ∧ win0_1.index t = ![(batch t).val, ((tile t).val - 1) * 32 - 1, 0]
    ∧ win0_2.index t = ![(batch t).val, min (((tile t).val - 1 + 1) * 32) 1023, 0]
    ∧ win0_3.index t = ![(batch t).val, 0, 0]
    ∧ win0_4.index t = ![(if (tile t).val = 0 then 2 else (batch t).val) * 6, 0, 0]
    ∧ win0_5.index t = ![(if (tile t).val = 0 then 2 else (batch t).val) * 6 + 1, 0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] := by
  revert t
  change ∀ t : Fin grid0.N, _
  decide +kernel

theorem outputs (t : Fin cfg0.N) :
    win0_15.index t = ![(point t).val, 0] ∧ win0_16.index t = ![(point t).val, 0] ∧ win0_17.index t = ![(point t).val, 0]
    ∧ win0_18.index t = ![(point t).val, 0] ∧ win0_19.index t = ![(point t).val, 0] ∧ win0_20.index t = ![(point t).val, 0]
    ∧ win0_21.index t = ![(point t).val, 0] := by
  revert t
  change ∀ t : Fin grid0.N, _
  decide +kernel

/-- The words the body computes of a point's coordinate. -/
theorem words (t : Fin cfg0.N) :
    isFirst (grid0.coords t) = (if (tile t).val = 0 then 1#1 else 0#1)
    ∧ noneBefore (grid0.coords t) = (if (tile t).val ≤ 1 then 0#32 else 4294967295#32)
    ∧ noneAfter (grid0.coords t) = (if (tile t).val = 0 ∨ (tile t).val = 32 then 255#32 else 4294967295#32) := by
  revert t
  change ∀ t : Fin grid0.N, _
  decide +kernel

theorem is_row : ∀ q : Fin 256, IntOp.cmpi .eq (BitVec.ofNat 32 q.val) 0#32 = (if q.val = 0 then 1#1 else 0#1)
    ∧ IntOp.cmpi .eq (BitVec.ofNat 32 q.val) 255#32 = (if q.val = 255 then 1#1 else 0#1)
    ∧ IntOp.cmpi .eq (BitVec.ofNat 32 q.val) 4294967295#32 = 0#1 := by decide +kernel

theorem none_before (t : Fin cfg0.N) (q : Fin 256) (x : EReal) :
    Scalar.select (IntOp.cmpi .eq (BitVec.ofNat 32 q.val) (noneBefore (grid0.coords t))) 0 x
      = if q.val = 0 ∧ (tile t).val ≤ 1 then 0 else x := by
  rw [(words t).2.1]
  by_cases h : (tile t).val ≤ 1
  · rw [if_pos h, (is_row q).1]
    by_cases h' : q.val = 0
    · rw [if_pos h', if_pos ⟨h', h⟩]; rfl
    · rw [if_neg h', if_neg (fun e => h' e.1)]; rfl
  · rw [if_neg h, (is_row q).2.2, if_neg (fun e => h e.2)]; rfl

theorem none_after (t : Fin cfg0.N) (q : Fin 256) (x : EReal) :
    Scalar.select (IntOp.cmpi .eq (BitVec.ofNat 32 q.val) (noneAfter (grid0.coords t))) 0 x
      = if q.val = 255 ∧ ((tile t).val = 0 ∨ (tile t).val = 32) then 0 else x := by
  rw [(words t).2.2]
  by_cases h : (tile t).val = 0 ∨ (tile t).val = 32
  · rw [if_pos h, (is_row q).2.1]
    by_cases h' : q.val = 255
    · rw [if_pos h', if_pos ⟨h', h⟩]; rfl
    · rw [if_neg h', if_neg (fun e => h' e.1)]; rfl
  · rw [if_neg h, (is_row q).2.2, if_neg (fun e => h e.2)]; rfl

/-! ## Where a block's element lies in its array -/

theorem place0 (t : Fin cfg0.N) (r : Fin 256) (k : Fin 2048) :
    (win0_0.blk t).view.emb (ix3 0 r k) = ix3 (batch t) ⟨((tile t).val - 1) * 256 + r.val, by omega⟩ k := by
  have h := (blocks t).1
  blk_ext [h]

theorem place1 (t : Fin cfg0.N) (r : Fin 8) (k : Fin 2048) :
    (win0_1.blk t).view.emb (ix3 0 r k) = ix3 (batch t) ⟨(((tile t).val - 1) * 32 - 1) * 8 + r.val, by omega⟩ k := by
  have h := (blocks t).2.1
  blk_ext [h]

theorem place2 (t : Fin cfg0.N) (r : Fin 8) (k : Fin 2048) :
    (win0_2.blk t).view.emb (ix3 0 r k) = ix3 (batch t) ⟨min (((tile t).val - 1 + 1) * 32) 1023 * 8 + r.val, by omega⟩ k := by
  have h := (blocks t).2.2.1
  blk_ext [h]

theorem place3 (t : Fin cfg0.N) (r : Fin 256) (k : Fin 2048) : (win0_3.blk t).view.emb (ix3 0 r k) = ix3 (batch t) r k := by
  have h := (blocks t).2.2.2.1
  blk_ext [h]

/-- The modulation row of a point's tokens: the third is the context's. -/
def modRow (t : Fin cfg0.N) : Fin 3 := ⟨if (tile t).val = 0 then 2 else (batch t).val, by split_ifs <;> omega⟩

theorem place4 (t : Fin cfg0.N) (k : Fin 2048) : (win0_4.blk t).view.emb (ix3 0 0 k) = ix3 ⟨(modRow t).val * 6, by omega⟩ 0 k := by
  have h := (blocks t).2.2.2.2.1
  unfold modRow
  blk_ext [h]

theorem place5 (t : Fin cfg0.N) (k : Fin 2048) : (win0_5.blk t).view.emb (ix3 0 0 k) = ix3 ⟨(modRow t).val * 6 + 1, by omega⟩ 0 k := by
  have h := (blocks t).2.2.2.2.2.1
  unfold modRow
  blk_ext [h]

theorem place6 (t : Fin cfg0.N) (k : Fin 2048) : (win0_6.blk t).view.emb (ix2 0 k) = ix2 0 k := by
  have h := (blocks t).2.2.2.2.2.2.1
  blk_ext [h]

theorem place7 (t : Fin cfg0.N) (k : Fin 2048) (j : Fin 4608) : (win0_7.blk t).view.emb (ix2 k j) = ix2 k j := by
  have h := (blocks t).2.2.2.2.2.2.2.1
  blk_ext [h]

theorem place8 (t : Fin cfg0.N) (o : Fin 2) (j : Fin 3072) : (win0_8.blk t).view.emb (ix2 o j) = ix2 o j := by
  have h := (blocks t).2.2.2.2.2.2.2.2.1
  blk_ext [h]

theorem place9 (t : Fin cfg0.N) (o : Fin 2) (j : Fin 512) : (win0_9.blk t).view.emb (ix2 o j) = ix2 o j := by
  have h := (blocks t).2.2.2.2.2.2.2.2.2.1
  blk_ext [h]

theorem place10 (t : Fin cfg0.N) (l : Fin 128) (j : Fin 2048) : (win0_10.blk t).view.emb (ix2 l j) = ix2 l j := by
  have h := (blocks t).2.2.2.2.2.2.2.2.2.2.1
  blk_ext [h]

theorem place11 (t : Fin cfg0.N) (l : Fin 128) (j : Fin 2048) : (win0_11.blk t).view.emb (ix2 l j) = ix2 l j := by
  have h := (blocks t).2.2.2.2.2.2.2.2.2.2.2.1
  blk_ext [h]

theorem place12 (t : Fin cfg0.N) (l : Fin 256) (j : Fin 1024) : (win0_12.blk t).view.emb (ix2 l j) = ix2 l j := by
  have h := (blocks t).2.2.2.2.2.2.2.2.2.2.2.2.1
  blk_ext [h]

theorem place13 (t : Fin cfg0.N) (j : Fin 2048) : (win0_13.blk t).view.emb (ix2 0 j) = ix2 0 j := by
  have h := (blocks t).2.2.2.2.2.2.2.2.2.2.2.2.2.1
  blk_ext [h]

theorem place14 (t : Fin cfg0.N) (j : Fin 2048) : (win0_14.blk t).view.emb (ix2 0 j) = ix2 0 j := by
  have h := (blocks t).2.2.2.2.2.2.2.2.2.2.2.2.2.2
  blk_ext [h]

/-! ## The arguments, and the blocks' elements of them -/

variable (m : (ℓ : Loc nD τ sig) → Buf (Elt Ideal) ℓ) (c : Dev nD)

/-- The arguments on a device. -/
def kerArgs : Args where
  x b t k := (m ((c : Thread nD τ).loc main_arg0) (ix3 b t k) : EReal)
  ctx b t k := (m ((c : Thread nD τ).loc main_arg1) (ix3 b t k) : EReal)
  mod b j := (m ((c : Thread nD τ).loc main_arg2) (ix2 b j) : EReal)
  modc j := (m ((c : Thread nD τ).loc main_arg3) (ix1 j) : EReal)
  g k := (m ((c : Thread nD τ).loc main_arg4) (ix1 k) : EReal)
  w k j := (m ((c : Thread nD τ).loc main_arg5) (ix2 k j) : EReal)
  mu o j := (m ((c : Thread nD τ).loc main_arg6) (ix2 o j) : EReal)
  w0 d j := (m ((c : Thread nD τ).loc main_arg7) (ix2 d j) : EReal)
  wup d l j := (m ((c : Thread nD τ).loc main_arg8) (ix3 d l j) : EReal)
  a0 d j := (m ((c : Thread nD τ).loc main_arg9) (ix2 d j) : EReal)
  aup d l j := (m ((c : Thread nD τ).loc main_arg10) (ix3 d l j) : EReal)
  gup l j := (m ((c : Thread nD τ).loc main_arg11) (ix2 l j) : EReal)

variable (t : Fin cfg0.N)

theorem x_block (r : Fin 256) (k : Fin 2048) :
    (iblk m c 0 t (ix3 0 r k) : EReal) = (kerArgs m c).x (batch t) ⟨((tile t).val - 1) * 256 + r.val, by omega⟩ k :=
  (congrArg (V m c main_arg0) (place0 t r k)).trans (congrFun (V_main_arg0 m c) _)

theorem prev_block (r : Fin 8) (k : Fin 2048) :
    (iblk m c 1 t (ix3 0 r k) : EReal) = (kerArgs m c).x (batch t) ⟨(((tile t).val - 1) * 32 - 1) * 8 + r.val, by omega⟩ k :=
  (congrArg (V m c main_arg0) (place1 t r k)).trans (congrFun (V_main_arg0 m c) _)

theorem next_block (r : Fin 8) (k : Fin 2048) :
    (iblk m c 2 t (ix3 0 r k) : EReal) = (kerArgs m c).x (batch t) ⟨min (((tile t).val - 1 + 1) * 32) 1023 * 8 + r.val, by omega⟩ k :=
  (congrArg (V m c main_arg0) (place2 t r k)).trans (congrFun (V_main_arg0 m c) _)

theorem ctx_block (r : Fin 256) (k : Fin 2048) : (iblk m c 3 t (ix3 0 r k) : EReal) = (kerArgs m c).ctx (batch t) r k :=
  (congrArg (V m c main_arg1) (place3 t r k)).trans (congrFun (V_main_arg1 m c) _)

theorem mod_read (o : Fin 6) (k : Fin 2048) (j : Fin 12288) (hj : o.val * 2048 + k.val = j.val) :
    (V m c main_v3 (ix3 ⟨(modRow t).val * 6 + o.val, by omega⟩ 0 k) : EReal)
      = if (tile t).val = 0 then (kerArgs m c).modc j else (kerArgs m c).mod (batch t) j := by
  rw [V_modulations]
  refine (modulations_apply _ _ _ k).trans ?_
  have e2 : ((modRow t).val * 6 + o.val) % 6 * 2048 + k.val = j.val := by omega
  by_cases h : (tile t).val = 0
  · have e : (modRow t).val = 2 := if_pos h
    rw [if_pos h, dif_neg (by dsimp only; omega), if_pos (by dsimp only; omega)]
    exact congrArg (kerArgs m c).modc (Fin.ext e2)
  · have e : (modRow t).val = (batch t).val := if_neg h
    rw [if_neg h, dif_pos (by dsimp only; omega)]
    exact congrArg₂ (kerArgs m c).mod (Fin.ext (by dsimp only; omega)) (Fin.ext e2)

theorem shift_block (k : Fin 2048) : (iblk m c 4 t (ix3 0 0 k) : EReal)
    = if (tile t).val = 0 then (kerArgs m c).modc ⟨k.val, by omega⟩ else (kerArgs m c).mod (batch t) ⟨k.val, by omega⟩ :=
  (congrArg (V m c main_v3) (place4 t k)).trans (mod_read m c t 0 k ⟨k.val, by omega⟩ (by simp only [Fin.val_zero, Nat.zero_mul, Nat.zero_add]))

theorem scale_block (k : Fin 2048) : (iblk m c 5 t (ix3 0 0 k) : EReal)
    = if (tile t).val = 0 then (kerArgs m c).modc ⟨2048 + k.val, by omega⟩ else (kerArgs m c).mod (batch t) ⟨2048 + k.val, by omega⟩ :=
  (congrArg (V m c main_v3) (place5 t k)).trans
    (mod_read m c t 1 k ⟨2048 + k.val, by omega⟩ (by change 1 * 2048 + k.val = 2048 + k.val; omega))

theorem line_apply (a : FVec Ideal S2048 .f32) (k : Fin 2048) :
    (shapeCast S1x2048 a shapeCasts_S2048_S1x2048 (ix2 0 k) : EReal) = (a (ix1 k) : EReal) := by
  pointwise []

theorem gain_block (k : Fin 2048) : (iblk m c 6 t (ix2 0 k) : EReal) = (kerArgs m c).g k :=
  (congrArg (V m c main_v48) (place6 t k)).trans ((congrFun (V_gain m c) _).trans (line_apply _ k))

theorem weight_block (k : Fin 2048) (j : Fin 4608) :
    (iblk m c 7 t (ix2 k j) : EReal) = (weights (F := Ideal) (m ((c : Thread nD τ).loc main_arg5)) (ix2 k j) : EReal) :=
  (congrArg (V m c main_v21) (place7 t k j)).trans (congrFun (V_weights m c) _)

theorem factors_apply (a : FVec Ideal S2x3360 .f32) (o : Fin 2) (j : Fin 3072) :
    (extractStridedSlice S2x3072 ![0, 0] a slices_S2x3360_S2x3072_0_0 (ix2 o j) : EReal) = (a (ix2 o ⟨j.val, by omega⟩) : EReal) := by
  pointwise []

theorem factor_block (o : Fin 2) (j : Fin 3072) : (iblk m c 8 t (ix2 o j) : EReal) = (kerArgs m c).mu o ⟨j.val, by omega⟩ :=
  (congrArg (V m c main_v22) (place8 t o j)).trans ((congrFun (V_factors m c) _).trans (factors_apply _ o j))

theorem low_factor_block (o : Fin 2) (j : Fin 512) :
    (iblk m c 9 t (ix2 o j) : EReal) = (lowFactors (F := Ideal) (m ((c : Thread nD τ).loc main_arg6)) (ix2 o j) : EReal) :=
  (congrArg (V m c main_v29) (place9 t o j)).trans (congrFun (V_lowFactors m c) _)

theorem decay_up_block (l : Fin 128) (j : Fin 2048) : (iblk m c 10 t (ix2 l j) : EReal)
    = if h : l.val < 64 then (kerArgs m c).wup (half j) ⟨l.val, h⟩ (inHalf j) else 0 :=
  (congrArg (V m c main_v38) (place10 t l j)).trans ((congrFun (V_decayUp m c) _).trans (bothUp_apply _ l j))

theorem rate_up_block (l : Fin 128) (j : Fin 2048) : (iblk m c 11 t (ix2 l j) : EReal)
    = if h : l.val < 64 then (kerArgs m c).aup (half j) ⟨l.val, h⟩ (inHalf j) else 0 :=
  (congrArg (V m c main_v45) (place11 t l j)).trans ((congrFun (V_rateUp m c) _).trans (bothUp_apply _ l j))

theorem gate_up_block (l : Fin 256) (j : Fin 1024) : (iblk m c 12 t (ix2 l j) : EReal)
    = if h : l.val < 160 then (kerArgs m c).gup ⟨l.val, h⟩ j else 0 :=
  (congrArg (V m c main_v31) (place12 t l j)).trans ((congrFun (V_gateUp m c) _).trans (gateUp_apply _ l j))

/-- Two rows of 1024 as one of 2048. -/
theorem both_apply (a : FVec Ideal S2x1024 .f32) (j : Fin 2048) :
    (shapeCast S1x2048 a shapeCasts_S2x1024_S1x2048 (ix2 0 j) : EReal) = (a (ix2 (half j) (inHalf j)) : EReal) := by
  pointwise []
  rfl

theorem decay0_block (j : Fin 2048) : (iblk m c 13 t (ix2 0 j) : EReal) = (kerArgs m c).w0 (half j) (inHalf j) :=
  (congrArg (V m c main_v46) (place13 t j)).trans ((congrFun (V_decay0 m c) _).trans (both_apply _ j))

theorem rate0_block (j : Fin 2048) : (iblk m c 14 t (ix2 0 j) : EReal) = (kerArgs m c).a0 (half j) (inHalf j) :=
  (congrArg (V m c main_v47) (place14 t j)).trans ((congrFun (V_rate0 m c) _).trans (both_apply _ j))

end Cert.Proj

end
-- ==== Proof.ProjectOut.lean ====
/- A point's seven blocks of results, when its blocks of the call's arrays hold the arguments. -/
module

public import proofs.«01_k».proof.Proof.ProjectTiles

@[expose] public section

noncomputable section

namespace Cert.Proj

open Cert.Kernel2Ideal Cert.Kernel2Ideal.Gen Idealize.ShloMosaic Idealize.ShloMosaic.TcCoe Idealize.SL.Sem

/-- The blocks of tile `j` of batch `b`. -/
structure Staged (A : Args) (i : grid0.Coords) (b : Fin 2) (j : Fin 33) (x0 : Vec Ideal S1x256x2048 .f32) (x1 x2 : Vec Ideal S1x8x2048 .f32)
    (x3 : Vec Ideal S1x256x2048 .f32) (x4 x5 : Vec Ideal S1x1x2048 .f32) (x6 : Vec Ideal S1x2048 .f32) (x7 : Vec Ideal S2048x4608 .bf16)
    (x8 : Vec Ideal S2x3072 .f32) (x9 : Vec Ideal S2x512 .f32) (x10 x11 : Vec Ideal S128x2048 .bf16) (x12 : Vec Ideal S256x1024 .bf16)
    (x13 x14 : Vec Ideal S1x2048 .f32) : Prop where
  first : isFirst i = (if j.val = 0 then 1#1 else 0#1)
  before : ∀ (q : Fin 256) (x : EReal), Scalar.select (IntOp.cmpi .eq (BitVec.ofNat 32 q.val) (noneBefore i)) 0 x
    = if q.val = 0 ∧ j.val ≤ 1 then 0 else x
  after : ∀ (q : Fin 256) (x : EReal), Scalar.select (IntOp.cmpi .eq (BitVec.ofNat 32 q.val) (noneAfter i)) 0 x
    = if q.val = 255 ∧ (j.val = 0 ∨ j.val = 32) then 0 else x
  x : ∀ (r : Fin 256) (k : Fin 2048), (x0 (ix3 0 r k) : EReal) = A.x b ⟨(j.val - 1) * 256 + r.val, by omega⟩ k
  prev : ∀ (r : Fin 8) (k : Fin 2048), (x1 (ix3 0 r k) : EReal) = A.x b ⟨((j.val - 1) * 32 - 1) * 8 + r.val, by omega⟩ k
  next : ∀ (r : Fin 8) (k : Fin 2048), (x2 (ix3 0 r k) : EReal) = A.x b ⟨min ((j.val - 1 + 1) * 32) 1023 * 8 + r.val, by omega⟩ k
  ctx : ∀ (r : Fin 256) (k : Fin 2048), (x3 (ix3 0 r k) : EReal) = A.ctx b r k
  shift : ∀ k : Fin 2048, (x4 (ix3 0 0 k) : EReal) = if j.val = 0 then A.modc ⟨k.val, by omega⟩ else A.mod b ⟨k.val, by omega⟩
  scale : ∀ k : Fin 2048, (x5 (ix3 0 0 k) : EReal) = if j.val = 0 then A.modc ⟨2048 + k.val, by omega⟩ else A.mod b ⟨2048 + k.val, by omega⟩
  gain : ∀ k : Fin 2048, (x6 (ix2 0 k) : EReal) = A.g k
  wMla : ∀ (k : Fin 2048) (c : Fin 1024), (x7 (ix2 k ⟨c.val, by omega⟩) : EReal)
    = if h : c.val < 832 then A.w k ⟨c.val, by omega⟩
      else if h' : c.val - 832 < 64 then 0
      else if h'' : c.val - 832 - 64 < 64 then A.w k ⟨768 + (exchanged ⟨c.val - 832 - 64, h''⟩).val, by omega⟩
      else 0
  wShift : ∀ (k : Fin 2048) (c : Fin 3072), (x7 (ix2 k ⟨1024 + c.val, by omega⟩) : EReal) = A.w k ⟨832 + c.val, by omega⟩
  wDecay : ∀ (k : Fin 2048) (l : Fin 64), (x7 (ix2 k ⟨4096 + l.val, by omega⟩) : EReal) = A.w k ⟨3904 + l.val, by omega⟩
  wRate : ∀ (k : Fin 2048) (l : Fin 64), (x7 (ix2 k ⟨4224 + l.val, by omega⟩) : EReal) = A.w k ⟨3968 + l.val, by omega⟩
  wGate : ∀ (k : Fin 2048) (l : Fin 160), (x7 (ix2 k ⟨4352 + l.val, by omega⟩) : EReal) = A.w k ⟨4032 + l.val, by omega⟩
  mu : ∀ (o : Fin 2) (c : Fin 3072), (x8 (ix2 o c) : EReal) = A.mu o ⟨c.val, by omega⟩
  muDecay : ∀ (o : Fin 2) (l : Fin 64), (x9 (ix2 o ⟨l.val, by omega⟩) : EReal) = A.mu o ⟨3072 + l.val, by omega⟩
  muRate : ∀ (o : Fin 2) (l : Fin 64), (x9 (ix2 o ⟨128 + l.val, by omega⟩) : EReal) = A.mu o ⟨3136 + l.val, by omega⟩
  muGate : ∀ (o : Fin 2) (l : Fin 160), (x9 (ix2 o ⟨256 + l.val, by omega⟩) : EReal) = A.mu o ⟨3200 + l.val, by omega⟩
  wup : ∀ (l : Fin 128) (c : Fin 2048), (x10 (ix2 l c) : EReal) = if h : l.val < 64 then A.wup (half c) ⟨l.val, h⟩ (inHalf c) else 0
  aup : ∀ (l : Fin 128) (c : Fin 2048), (x11 (ix2 l c) : EReal) = if h : l.val < 64 then A.aup (half c) ⟨l.val, h⟩ (inHalf c) else 0
  gup : ∀ (l : Fin 256) (c : Fin 1024), (x12 (ix2 l c) : EReal) = if h : l.val < 160 then A.gup ⟨l.val, h⟩ c else 0
  w0 : ∀ c : Fin 2048, (x13 (ix2 0 c) : EReal) = A.w0 (half c) (inHalf c)
  a0 : ∀ c : Fin 2048, (x14 (ix2 0 c) : EReal) = A.a0 (half c) (inHalf c)

/-- Row `r` of the 272 is a token's: one of the tile's, or the one before or after it where the tile has one. -/
def Held (j : Fin 33) (r : Fin 272) : Prop :=
  (8 ≤ r.val ∧ r.val < 264) ∨ (r.val = 7 ∧ 2 ≤ j.val) ∨ (r.val = 264 ∧ 1 ≤ j.val ∧ j.val ≤ 31)

/-- The token of a tile's row. -/
def tokenAt (j : Fin 33) (q : Fin 256) : Fin 8448 := ⟨256 * j.val + q.val, by omega⟩

theorem normRow_congr {x x' g g' sc sc' sh sh' : Fin 2048 → EReal} (hx : ∀ k, x k = x' k) (hg : ∀ k, g k = g' k)
    (hc : ∀ k, sc k = sc' k) (hs : ∀ k, sh k = sh' k) (k : Fin 2048) : normRow x g sc sh k = normRow x' g' sc' sh' k := by
  rw [funext hx, funext hg, funext hc, funext hs]

section
variable {A : Args} {i : grid0.Coords} {b : Fin 2} {j : Fin 33} {x0 : Vec Ideal S1x256x2048 .f32} {x1 x2 : Vec Ideal S1x8x2048 .f32}
    {x3 : Vec Ideal S1x256x2048 .f32} {x4 x5 : Vec Ideal S1x1x2048 .f32} {x6 : Vec Ideal S1x2048 .f32} {x7 : Vec Ideal S2048x4608 .bf16}
    {x8 : Vec Ideal S2x3072 .f32} {x9 : Vec Ideal S2x512 .f32} {x10 x11 : Vec Ideal S128x2048 .bf16} {x12 : Vec Ideal S256x1024 .bf16}
    {x13 x14 : Vec Ideal S1x2048 .f32} (S : Staged A i b j x0 x1 x2 x3 x4 x5 x6 x7 x8 x9 x10 x11 x12 x13 x14)
include S

theorem row_token (s : Fin 8448) (r : Fin 272) (h : s.val + 8 = 256 * j.val + r.val) (hr : Held j r) (k : Fin 2048) :
    (k0_pay3 i x3 x0 x1 x2 (ix2 r k) : EReal) = token A b s k := by
  unfold Held at hr
  rw [tokens_apply, S.first]
  unfold token
  by_cases h8 : r.val < 8
  · rw [dif_pos h8, S.prev, dif_neg (by omega)]
    exact congrArg (fun n => A.x b n k) (Fin.ext (by dsimp only; omega))
  rw [dif_neg h8]
  by_cases h9 : r.val - 8 < 256
  · rw [dif_pos h9]
    by_cases hj : j.val = 0
    · rw [if_pos hj, dif_pos (by omega)]
      refine Eq.trans (b := (x3 (ix3 0 ⟨r.val - 8, h9⟩ k) : EReal)) rfl ?_
      rw [S.ctx]
      exact congrArg (fun n => A.ctx b n k) (Fin.ext (by dsimp only; omega))
    · rw [if_neg hj, dif_neg (by omega)]
      refine Eq.trans (b := (x0 (ix3 0 ⟨r.val - 8, h9⟩ k) : EReal)) rfl ?_
      rw [S.x]
      exact congrArg (fun n => A.x b n k) (Fin.ext (by dsimp only; omega))
  · rw [dif_neg h9, S.next, dif_neg (by omega)]
    exact congrArg (fun n => A.x b n k) (Fin.ext (by dsimp only; omega))

theorem row_normed (s : Fin 8448) (r : Fin 272) (h : s.val + 8 = 256 * j.val + r.val) (hr : Held j r) (k : Fin 2048) :
    (k0_pay7 (k0_pay3 i x3 x0 x1 x2) (k0_pay4 i x3 x0 x1 x2) (Scalar.ofBits .f32 0x358637BD#32) x6 x5 x4 (ix2 r k) : EReal)
      = normed A b s k := by
  rw [round_apply, rows_normed]
  have hs : s.val < 256 ↔ j.val = 0 := by
    unfold Held at hr
    omega
  refine normRow_congr (row_token S s r h hr) S.gain (fun k => ?_) (fun k => ?_) k
  · rw [S.scale]
    unfold modulation
    simp only [hs]
  · rw [S.shift]
    unfold modulation
    simp only [hs]

/-- The rows' projection to a column of the weights. -/
theorem row_feature {n : ℕ} (w : (Shape.mk 2 ![2048, n]).Idx → EReal) (c : Fin n) (f : Fin 4192) (hw : ∀ k, w (ix2 k c) = A.w k f)
    (s : Fin 8448) (r : Fin 272) (h : s.val + 8 = 256 * j.val + r.val) (hr : Held j r) :
    ∑ x : Fin 2048, (k0_pay7 (k0_pay3 i x3 x0 x1 x2) (k0_pay4 i x3 x0 x1 x2) (Scalar.ofBits .f32 0x358637BD#32) x6 x5 x4 (ix2 r x) : EReal) * w (ix2 x c)
      = feature A b s f :=
  Finset.sum_congr rfl fun x _ => by rw [row_normed S s r h hr, hw]

theorem row_mla (q : Fin 256) (c : Fin 1024) (w : Vec Ideal S2048x1024 .bf16) (hw : ∀ k, (w (ix2 k c) : EReal) = (x7 (ix2 k ⟨c.val, by omega⟩) : EReal)) :
    (k0_pay6 (k0_pay3 i x3 x0 x1 x2) (k0_pay4 i x3 x0 x1 x2) (Scalar.ofBits .f32 0x358637BD#32) x6 x5 x4 w (ix2 q c) : EReal)
      = mla A b (tokenAt j q) c := by
  rw [mla_apply]
  have hr : Held j ⟨8 + q.val, by omega⟩ := Or.inl ⟨by dsimp only; omega, by dsimp only; omega⟩
  have h : (tokenAt j q).val + 8 = 256 * j.val + (⟨8 + q.val, by omega⟩ : Fin 272).val := by
    unfold tokenAt
    dsimp only
    omega
  unfold mla
  by_cases h1 : c.val < 832
  · rw [dif_pos h1]
    exact row_feature S w c _ (fun k => by rw [hw, S.wMla, dif_pos h1]) _ _ h hr
  rw [dif_neg h1]
  by_cases h2 : c.val - 832 < 64
  · rw [dif_pos h2]
    exact Finset.sum_eq_zero fun x _ => by rw [hw, S.wMla, dif_neg h1, dif_pos h2, mul_zero]
  rw [dif_neg h2]
  by_cases h3 : c.val - 832 - 64 < 64
  · rw [dif_pos h3]
    exact row_feature S w c _ (fun k => by rw [hw, S.wMla, dif_neg h1, dif_neg h2, dif_pos h3]) _ _ h hr
  · rw [dif_neg h3]
    exact Finset.sum_eq_zero fun x _ => by rw [hw, S.wMla, dif_neg h1, dif_neg h2, dif_neg h3, mul_zero]

/-- The token shift, of the rows' projections. -/
theorem row_shifted {n : ℕ} (w : (Shape.mk 2 ![2048, n]).Idx → EReal) (c : Fin n) (f : Fin 3360)
    (hw : ∀ k, w (ix2 k c) = A.w k ⟨832 + f.val, by omega⟩) (mu0 mu1 : EReal) (h0 : mu0 = A.mu 0 f) (h1 : mu1 = A.mu 1 f) (q : Fin 256) :
    around (noneBefore i) (noneAfter i) (fun r => ∑ x : Fin 2048,
        (k0_pay7 (k0_pay3 i x3 x0 x1 x2) (k0_pay4 i x3 x0 x1 x2) (Scalar.ofBits .f32 0x358637BD#32) x6 x5 x4 (ix2 r x) : EReal) * w (ix2 x c)) mu0 mu1 q
      = shifted A b (tokenAt j q) f := by
  have P := row_feature S w c _ hw
  unfold around shifted
  rw [S.before, S.after, h0, h1]
  have e : (tokenAt j q).val = 256 * j.val + q.val := rfl
  have ea : ∀ (p p' b b' a a' : EReal), p = p' → b = b' → a = a' → mix p b a (A.mu 0 f) (A.mu 1 f) = mix p' b' a' (A.mu 0 f) (A.mu 1 f) := by
    rintro _ _ _ _ _ _ rfl rfl rfl
    rfl
  refine ea _ _ _ _ _ _ (P _ _ (by dsimp only; omega) (Or.inl ⟨by dsimp only; omega, by dsimp only; omega⟩)) ?_ ?_
  · by_cases hz : q.val = 0 ∧ j.val ≤ 1
    · rw [if_pos hz, if_pos (by omega)]
    · rw [if_neg hz, if_neg (by omega)]
      refine P _ _ (by dsimp only; omega) ?_
      unfold Held
      dsimp only
      omega
  · by_cases hz : q.val = 255 ∧ (j.val = 0 ∨ j.val = 32)
    · rw [if_pos hz, dif_pos (by omega)]
    · rw [if_neg hz, dif_neg (by omega)]
      refine P _ _ (by dsimp only; omega) ?_
      unfold Held
      dsimp only
      omega

/-- The shifted columns of the low ranks. -/
theorem row_low (w : Vec Ideal S2048x512 .bf16) (hw : ∀ (k : Fin 2048) (c : Fin 512), (w (ix2 k c) : EReal) = (x7 (ix2 k ⟨4096 + c.val, by omega⟩) : EReal))
    (q : Fin 256) (c : Fin 512) (f : Fin 3360) (hf : ∀ k : Fin 2048, (x7 (ix2 k ⟨4096 + c.val, by omega⟩) : EReal) = A.w k ⟨832 + f.val, by omega⟩)
    (hm : ∀ o : Fin 2, (x9 (ix2 o c) : EReal) = A.mu o f) :
    (k0_pay23 (noneAfter i) (k0_pay11 x9) (k0_pay19 (k0_pay7 (k0_pay3 i x3 x0 x1 x2) (k0_pay4 i x3 x0 x1 x2) (Scalar.ofBits .f32 0x358637BD#32) x6 x5 x4) w) (k0_pay21 (k0_pay7 (k0_pay3 i x3 x0 x1 x2) (k0_pay4 i x3 x0 x1 x2) (Scalar.ofBits .f32 0x358637BD#32) x6 x5 x4) w) (iota .tc S256x512 32 [0] iota_S256x512_d0_w32) (k0_pay22 (noneBefore i)) (ix2 q c) : EReal) = shifted A b (tokenAt j q) f :=
  (lows_apply _ _ _ _ _ q c).trans (row_shifted S w c f (fun k => (hw k c).trans (hf k)) _ _ (hm 0) (hm 1) q)

theorem row_decay (w : Vec Ideal S2048x512 .bf16) (hw : ∀ (k : Fin 2048) (c : Fin 512), (w (ix2 k c) : EReal) = (x7 (ix2 k ⟨4096 + c.val, by omega⟩) : EReal))
    (q : Fin 256) (c : Fin 2048) :
    (k0_pay26 (noneAfter i) (k0_pay11 x9) (k0_pay19 (k0_pay7 (k0_pay3 i x3 x0 x1 x2) (k0_pay4 i x3 x0 x1 x2) (Scalar.ofBits .f32 0x358637BD#32) x6 x5 x4) w) (k0_pay21 (k0_pay7 (k0_pay3 i x3 x0 x1 x2) (k0_pay4 i x3 x0 x1 x2) (Scalar.ofBits .f32 0x358637BD#32) x6 x5 x4) w) (iota .tc S256x512 32 [0] iota_S256x512_d0_w32) (k0_pay22 (noneBefore i)) x13 x10 (ix2 q c) : EReal) = decay A b (tokenAt j q) c := by
  rw [decay_apply, S.w0]
  unfold decay
  rw [sum_pad (n := 64) (by omega) _ fun x hx => by rw [S.wup, dif_neg (by omega), mul_zero]]
  congr 3
  refine Finset.sum_congr rfl fun l _ => ?_
  rw [S.wup, dif_pos (by dsimp only; omega)]
  congr 2
  exact row_low S w hw q ⟨l.val, by omega⟩ ⟨3072 + l.val, by omega⟩
    (fun k => (S.wDecay k l).trans (congrArg (A.w k) (Fin.ext (by dsimp only; omega)))) (fun o => S.muDecay o l)

theorem row_rate (w : Vec Ideal S2048x512 .bf16) (hw : ∀ (k : Fin 2048) (c : Fin 512), (w (ix2 k c) : EReal) = (x7 (ix2 k ⟨4096 + c.val, by omega⟩) : EReal))
    (q : Fin 256) (c : Fin 2048) :
    (k0_pay1 (k0_pay24 (noneAfter i) (k0_pay11 x9) (k0_pay19 (k0_pay7 (k0_pay3 i x3 x0 x1 x2) (k0_pay4 i x3 x0 x1 x2) (Scalar.ofBits .f32 0x358637BD#32) x6 x5 x4) w) (k0_pay21 (k0_pay7 (k0_pay3 i x3 x0 x1 x2) (k0_pay4 i x3 x0 x1 x2) (Scalar.ofBits .f32 0x358637BD#32) x6 x5 x4) w) (iota .tc S256x512 32 [0] iota_S256x512_d0_w32) (k0_pay22 (noneBefore i))) (k0_pay27 x14) x11 (ix2 q c) : EReal) = rate A b (tokenAt j q) c := by
  rw [rate_apply, S.a0]
  unfold rate
  rw [sum_pad (n := 64) (by omega) _ fun x hx => by rw [S.aup, dif_neg (by omega), mul_zero]]
  congr 2
  refine Finset.sum_congr rfl fun l _ => ?_
  rw [S.aup, dif_pos (by dsimp only; omega)]
  congr 1
  refine row_low S w hw q ⟨128 + l.val, by omega⟩ ⟨3136 + l.val, by omega⟩ (fun k => ?_) (fun o => S.muRate o l)
  refine Eq.trans (congrArg (fun n => (x7 (ix2 k n) : EReal)) (Fin.ext (by dsimp only; omega))) ((S.wRate k l).trans ?_)
  exact congrArg (A.w k) (Fin.ext (by dsimp only; omega))

theorem row_gate (w : Vec Ideal S2048x512 .bf16) (hw : ∀ (k : Fin 2048) (c : Fin 512), (w (ix2 k c) : EReal) = (x7 (ix2 k ⟨4096 + c.val, by omega⟩) : EReal))
    (q : Fin 256) (c : Fin 1024) :
    (k0_pay2 (k0_pay25 (noneAfter i) (k0_pay11 x9) (k0_pay19 (k0_pay7 (k0_pay3 i x3 x0 x1 x2) (k0_pay4 i x3 x0 x1 x2) (Scalar.ofBits .f32 0x358637BD#32) x6 x5 x4) w) (k0_pay21 (k0_pay7 (k0_pay3 i x3 x0 x1 x2) (k0_pay4 i x3 x0 x1 x2) (Scalar.ofBits .f32 0x358637BD#32) x6 x5 x4) w) (iota .tc S256x512 32 [0] iota_S256x512_d0_w32) (k0_pay22 (noneBefore i))) x12 (ix2 q c) : EReal) = gate A b (tokenAt j q) c := by
  rw [gate_apply]
  unfold gate
  rw [sum_pad (n := 160) (by omega) _ fun x hx => by rw [S.gup, dif_neg (by omega), mul_zero]]
  refine Finset.sum_congr rfl fun l _ => ?_
  rw [S.gup, dif_pos (by dsimp only; omega)]
  congr 2
  refine row_low S w hw q ⟨256 + l.val, by omega⟩ ⟨3200 + l.val, by omega⟩ (fun k => ?_) (fun o => S.muGate o l)
  refine Eq.trans (congrArg (fun n => (x7 (ix2 k n) : EReal)) (Fin.ext (by dsimp only; omega))) ((S.wGate k l).trans ?_)
  exact congrArg (A.w k) (Fin.ext (by dsimp only; omega))

end

/-! ## The blocks the body leaves -/

section
variable (i : grid0.Coords) (x0 : Vec Ideal S1x256x2048 .f32) (x1 x2 : Vec Ideal S1x8x2048 .f32)
    (x3 : Vec Ideal S1x256x2048 .f32) (x4 x5 : Vec Ideal S1x1x2048 .f32) (x6 : Vec Ideal S1x2048 .f32) (x7 : Vec Ideal S2048x4608 .bf16)
    (x8 : Vec Ideal S2x3072 .f32) (x9 : Vec Ideal S2x512 .f32) (x10 x11 : Vec Ideal S128x2048 .bf16) (x12 : Vec Ideal S256x1024 .bf16)
    (x13 x14 : Vec Ideal S1x2048 .f32)

theorem whole0 (X : Vec Ideal S1x256x2048 .f32) : View.ld X r0_0 = X := View.ld_unit_lit _ X (by decide)
theorem whole1 (X : Vec Ideal S1x8x2048 .f32) : View.ld X r0_1 = X := View.ld_unit_lit _ X (by decide)
theorem whole2 (X : Vec Ideal S1x2048 .f32) : View.ld X r0_2 = X := View.ld_unit_lit _ X (by decide)
theorem whole3 (X : Vec Ideal S1x1x2048 .f32) : View.ld X r0_3 = X := View.ld_unit_lit _ X (by decide)
theorem whole5 (X : Vec Ideal S256x1024 .bf16) : View.ld X r0_5 = X := View.ld_unit_lit _ X (by decide)
theorem whole9 (X : Vec Ideal S2x512 .f32) : View.ld X r0_9 = X := View.ld_unit_lit _ X (by decide)
theorem whole14 (X : Vec Ideal S128x2048 .bf16) : View.ld X r0_14 = X := View.ld_unit_lit _ X (by decide)

theorem cols4 (k : Fin 2048) (c : Fin 1024) : (View.ld x7 r0_4 (ix2 k c) : EReal) = (x7 (ix2 k ⟨c.val, by omega⟩) : EReal) :=
  View.ld_unit_apply_of x7 _ _ _ (ix2 k c) (ix2 k ⟨c.val, by omega⟩) (by
    intro a
    match a with
    | ⟨0, _⟩ => exact (Nat.zero_add _).symm
    | ⟨1, _⟩ => exact (Nat.zero_add _).symm)

theorem cols10 (k : Fin 2048) (c : Fin 1024) : (View.ld x7 r0_10 (ix2 k c) : EReal) = (x7 (ix2 k ⟨1024 + c.val, by omega⟩) : EReal) :=
  View.ld_unit_apply_of x7 _ _ _ (ix2 k c) (ix2 k ⟨1024 + c.val, by omega⟩) (by
    intro a
    match a with
    | ⟨0, _⟩ => exact (Nat.zero_add _).symm
    | ⟨1, _⟩ => exact rfl)

theorem cols11 (k : Fin 2048) (c : Fin 1024) : (View.ld x7 r0_11 (ix2 k c) : EReal) = (x7 (ix2 k ⟨2048 + c.val, by omega⟩) : EReal) :=
  View.ld_unit_apply_of x7 _ _ _ (ix2 k c) (ix2 k ⟨2048 + c.val, by omega⟩) (by
    intro a
    match a with
    | ⟨0, _⟩ => exact (Nat.zero_add _).symm
    | ⟨1, _⟩ => exact rfl)

theorem cols12 (k : Fin 2048) (c : Fin 1024) : (View.ld x7 r0_12 (ix2 k c) : EReal) = (x7 (ix2 k ⟨3072 + c.val, by omega⟩) : EReal) :=
  View.ld_unit_apply_of x7 _ _ _ (ix2 k c) (ix2 k ⟨3072 + c.val, by omega⟩) (by
    intro a
    match a with
    | ⟨0, _⟩ => exact (Nat.zero_add _).symm
    | ⟨1, _⟩ => exact rfl)

theorem cols13 (k : Fin 2048) (c : Fin 512) : (View.ld x7 r0_13 (ix2 k c) : EReal) = (x7 (ix2 k ⟨4096 + c.val, by omega⟩) : EReal) :=
  View.ld_unit_apply_of x7 _ _ _ (ix2 k c) (ix2 k ⟨4096 + c.val, by omega⟩) (by
    intro a
    match a with
    | ⟨0, _⟩ => exact (Nat.zero_add _).symm
    | ⟨1, _⟩ => exact rfl)

theorem cols6 (o : Fin 2) (c : Fin 1024) : (View.ld x8 r0_6 (ix2 o c) : EReal) = (x8 (ix2 o ⟨c.val, by omega⟩) : EReal) :=
  View.ld_unit_apply_of x8 _ _ _ (ix2 o c) (ix2 o ⟨c.val, by omega⟩) (by
    intro a
    match a with
    | ⟨0, _⟩ => exact (Nat.zero_add _).symm
    | ⟨1, _⟩ => exact (Nat.zero_add _).symm)

theorem cols7 (o : Fin 2) (c : Fin 1024) : (View.ld x8 r0_7 (ix2 o c) : EReal) = (x8 (ix2 o ⟨1024 + c.val, by omega⟩) : EReal) :=
  View.ld_unit_apply_of x8 _ _ _ (ix2 o c) (ix2 o ⟨1024 + c.val, by omega⟩) (by
    intro a
    match a with
    | ⟨0, _⟩ => exact (Nat.zero_add _).symm
    | ⟨1, _⟩ => exact rfl)

theorem cols8 (o : Fin 2) (c : Fin 1024) : (View.ld x8 r0_8 (ix2 o c) : EReal) = (x8 (ix2 o ⟨2048 + c.val, by omega⟩) : EReal) :=
  View.ld_unit_apply_of x8 _ _ _ (ix2 o c) (ix2 o ⟨2048 + c.val, by omega⟩) (by
    intro a
    match a with
    | ⟨0, _⟩ => exact (Nat.zero_add _).symm
    | ⟨1, _⟩ => exact rfl)

theorem rows_eq : k0_pay30 i x0 x1 x2 x3 x4 x5 x6 x7 x8 x9 x10 x11 x12 x13 x14
    = (k0_pay7 (k0_pay3 i x3 x0 x1 x2) (k0_pay4 i x3 x0 x1 x2) (Scalar.ofBits .f32 0x358637BD#32) x6 x5 x4) := by
  unfold k0_pay30 k0_pay28 k0_pay29
  rw [whole0 x3, whole0 x0, whole1 x1, whole1 x2, whole2 x6, whole3 x5, whole3 x4]

theorem out15_eq : out0_15 i x0 x1 x2 x3 x4 x5 x6 x7 x8 x9 x10 x11 x12 x13 x14
    = k0_pay6 (k0_pay3 i x3 x0 x1 x2) (k0_pay4 i x3 x0 x1 x2) (Scalar.ofBits .f32 0x358637BD#32) x6 x5 x4 (View.ld x7 r0_4) := by
  refine (View.canon_cons_unit_lit _ _ _ (by decide)).trans ?_
  unfold k0_pay28 k0_pay29
  rw [whole0 x3, whole0 x0, whole1 x1, whole1 x2, whole2 x6, whole3 x5, whole3 x4]

theorem out16_eq : out0_16 i x0 x1 x2 x3 x4 x5 x6 x7 x8 x9 x10 x11 x12 x13 x14
    = k0_pay13 (noneBefore i) (noneAfter i) (k0_pay7 (k0_pay3 i x3 x0 x1 x2) (k0_pay4 i x3 x0 x1 x2) (Scalar.ofBits .f32 0x358637BD#32) x6 x5 x4)
        (k0_pay8 (View.ld x8 r0_6)) (View.ld x7 r0_10) := by
  refine (View.canon_cons_unit_lit _ _ _ (by decide)).trans ?_
  rw [rows_eq]
  rfl

theorem out17_eq : out0_17 i x0 x1 x2 x3 x4 x5 x6 x7 x8 x9 x10 x11 x12 x13 x14
    = k0_pay18 (k0_pay9 (View.ld x8 r0_7)) (k0_pay12 (k0_pay7 (k0_pay3 i x3 x0 x1 x2) (k0_pay4 i x3 x0 x1 x2) (Scalar.ofBits .f32 0x358637BD#32) x6 x5 x4) (View.ld x7 r0_11))
        (k0_pay15 (k0_pay7 (k0_pay3 i x3 x0 x1 x2) (k0_pay4 i x3 x0 x1 x2) (Scalar.ofBits .f32 0x358637BD#32) x6 x5 x4) (View.ld x7 r0_11))
        (k0_pay16 (noneBefore i) (k0_pay7 (k0_pay3 i x3 x0 x1 x2) (k0_pay4 i x3 x0 x1 x2) (Scalar.ofBits .f32 0x358637BD#32) x6 x5 x4) (View.ld x7 r0_11))
        (k0_pay17 (noneAfter i)) 271#32 := by
  refine (View.canon_cons_unit_lit _ _ _ (by decide)).trans ?_
  rw [rows_eq]
  rfl

theorem out18_eq : out0_18 i x0 x1 x2 x3 x4 x5 x6 x7 x8 x9 x10 x11 x12 x13 x14
    = k0_pay20 (noneBefore i) (noneAfter i) (k0_pay10 (View.ld x8 r0_8)) (k0_pay14 (k0_pay7 (k0_pay3 i x3 x0 x1 x2) (k0_pay4 i x3 x0 x1 x2) (Scalar.ofBits .f32 0x358637BD#32) x6 x5 x4) (View.ld x7 r0_12)) := by
  refine (View.canon_cons_unit_lit _ _ _ (by decide)).trans ?_
  rw [rows_eq]
  rfl

theorem out19_eq : out0_19 i x0 x1 x2 x3 x4 x5 x6 x7 x8 x9 x10 x11 x12 x13 x14
    = k0_pay26 (noneAfter i) (k0_pay11 x9) (k0_pay19 (k0_pay7 (k0_pay3 i x3 x0 x1 x2) (k0_pay4 i x3 x0 x1 x2) (Scalar.ofBits .f32 0x358637BD#32) x6 x5 x4) (View.ld x7 r0_13)) (k0_pay21 (k0_pay7 (k0_pay3 i x3 x0 x1 x2) (k0_pay4 i x3 x0 x1 x2) (Scalar.ofBits .f32 0x358637BD#32) x6 x5 x4) (View.ld x7 r0_13)) (iota .tc S256x512 32 [0] iota_S256x512_d0_w32) (k0_pay22 (noneBefore i)) x13 x10 := by
  refine (View.canon_cons_unit_lit _ _ _ (by decide)).trans ?_
  unfold k0_pay31 k0_pay33 k0_pay34 k0_pay32 k0_pay35
  rw [rows_eq, whole9 x9, whole2 x13, whole14 x10]
  rfl

theorem out20_eq : out0_20 i x0 x1 x2 x3 x4 x5 x6 x7 x8 x9 x10 x11 x12 x13 x14
    = k0_pay1 (k0_pay24 (noneAfter i) (k0_pay11 x9) (k0_pay19 (k0_pay7 (k0_pay3 i x3 x0 x1 x2) (k0_pay4 i x3 x0 x1 x2) (Scalar.ofBits .f32 0x358637BD#32) x6 x5 x4) (View.ld x7 r0_13)) (k0_pay21 (k0_pay7 (k0_pay3 i x3 x0 x1 x2) (k0_pay4 i x3 x0 x1 x2) (Scalar.ofBits .f32 0x358637BD#32) x6 x5 x4) (View.ld x7 r0_13)) (iota .tc S256x512 32 [0] iota_S256x512_d0_w32) (k0_pay22 (noneBefore i))) (k0_pay27 x14) x11 := by
  refine (View.canon_cons_unit_lit _ _ _ (by decide)).trans ?_
  unfold k0_pay31 k0_pay33 k0_pay34 k0_pay32 k0_pay35
  rw [rows_eq, whole9 x9, whole2 x14, whole14 x11]
  rfl

theorem out21_eq : out0_21 i x0 x1 x2 x3 x4 x5 x6 x7 x8 x9 x10 x11 x12 x13 x14
    = k0_pay2 (k0_pay25 (noneAfter i) (k0_pay11 x9) (k0_pay19 (k0_pay7 (k0_pay3 i x3 x0 x1 x2) (k0_pay4 i x3 x0 x1 x2) (Scalar.ofBits .f32 0x358637BD#32) x6 x5 x4) (View.ld x7 r0_13)) (k0_pay21 (k0_pay7 (k0_pay3 i x3 x0 x1 x2) (k0_pay4 i x3 x0 x1 x2) (Scalar.ofBits .f32 0x358637BD#32) x6 x5 x4) (View.ld x7 r0_13)) (iota .tc S256x512 32 [0] iota_S256x512_d0_w32) (k0_pay22 (noneBefore i))) x12 := by
  refine (View.canon_cons_unit_lit _ _ _ (by decide)).trans ?_
  unfold k0_pay31 k0_pay33 k0_pay34 k0_pay32 k0_pay35
  rw [rows_eq, whole9 x9, whole5 x12]
  rfl

end

section
variable {A : Args} {i : grid0.Coords} {b : Fin 2} {j : Fin 33} {x0 : Vec Ideal S1x256x2048 .f32} {x1 x2 : Vec Ideal S1x8x2048 .f32}
    {x3 : Vec Ideal S1x256x2048 .f32} {x4 x5 : Vec Ideal S1x1x2048 .f32} {x6 : Vec Ideal S1x2048 .f32} {x7 : Vec Ideal S2048x4608 .bf16}
    {x8 : Vec Ideal S2x3072 .f32} {x9 : Vec Ideal S2x512 .f32} {x10 x11 : Vec Ideal S128x2048 .bf16} {x12 : Vec Ideal S256x1024 .bf16}
    {x13 x14 : Vec Ideal S1x2048 .f32} (S : Staged A i b j x0 x1 x2 x3 x4 x5 x6 x7 x8 x9 x10 x11 x12 x13 x14)
include S

theorem out15_apply (q : Fin 256) (c : Fin 1024) : (out0_15 i x0 x1 x2 x3 x4 x5 x6 x7 x8 x9 x10 x11 x12 x13 x14 (ix2 q c) : EReal) = mla A b (tokenAt j q) c := by
  rw [out15_eq]
  exact row_mla S q c _ fun k => cols4 x7 k c

/-- The columns of the three shifted groups. -/
theorem shift_column (o : Fin 3) (c : Fin 1024) (k : Fin 2048) (l : Fin 4608) (h : l.val = 1024 + (o.val * 1024 + c.val)) :
    (x7 (ix2 k l) : EReal) = A.w k ⟨832 + (o.val * 1024 + c.val), by omega⟩ :=
  (congrArg (fun n => (x7 (ix2 k n) : EReal)) (Fin.ext h)).trans (S.wShift k ⟨o.val * 1024 + c.val, by omega⟩)

theorem shift_factor (o : Fin 3) (c : Fin 1024) (d : Fin 2) (l : Fin 3072) (h : l.val = o.val * 1024 + c.val) :
    (x8 (ix2 d l) : EReal) = A.mu d ⟨o.val * 1024 + c.val, by omega⟩ :=
  (S.mu d l).trans (congrArg (A.mu d) (Fin.ext h))

theorem out16_apply (q : Fin 256) (c : Fin 1024) : (out0_16 i x0 x1 x2 x3 x4 x5 x6 x7 x8 x9 x10 x11 x12 x13 x14 (ix2 q c) : EReal) = rkv A 0 b (tokenAt j q) c := by
  rw [out16_eq]
  refine (receptance_apply _ _ _ _ _ q c).trans (row_shifted S _ c ⟨((0 : Fin 3)).val * 1024 + c.val, by omega⟩ (fun k => ?_) _ _ ?_ ?_ q)
  · exact (cols10 x7 k c).trans (shift_column S 0 c k _ (by change _ = 1024 + (0 * 1024 + c.val); dsimp only; omega))
  · exact (cols6 x8 0 c).trans (shift_factor S 0 c 0 _ (by change _ = 0 * 1024 + c.val; dsimp only; omega))
  · exact (cols6 x8 1 c).trans (shift_factor S 0 c 1 _ (by change _ = 0 * 1024 + c.val; dsimp only; omega))

theorem out17_apply (q : Fin 256) (c : Fin 1024) : (out0_17 i x0 x1 x2 x3 x4 x5 x6 x7 x8 x9 x10 x11 x12 x13 x14 (ix2 q c) : EReal) = rkv A 1 b (tokenAt j q) c := by
  rw [out17_eq]
  refine (keys_apply _ _ _ _ _ q c).trans (row_shifted S _ c ⟨((1 : Fin 3)).val * 1024 + c.val, by omega⟩ (fun k => ?_) _ _ ?_ ?_ q)
  · exact (cols11 x7 k c).trans (shift_column S 1 c k _ (by change _ = 1024 + (1 * 1024 + c.val); dsimp only; omega))
  · exact (cols7 x8 0 c).trans (shift_factor S 1 c 0 _ rfl)
  · exact (cols7 x8 1 c).trans (shift_factor S 1 c 1 _ rfl)

theorem out18_apply (q : Fin 256) (c : Fin 1024) : (out0_18 i x0 x1 x2 x3 x4 x5 x6 x7 x8 x9 x10 x11 x12 x13 x14 (ix2 q c) : EReal) = rkv A 2 b (tokenAt j q) c := by
  rw [out18_eq]
  refine (values_apply _ _ _ _ _ q c).trans (row_shifted S _ c ⟨((2 : Fin 3)).val * 1024 + c.val, by omega⟩ (fun k => ?_) _ _ ?_ ?_ q)
  · exact (cols12 x7 k c).trans (shift_column S 2 c k _ (by change _ = 1024 + (2 * 1024 + c.val); dsimp only; omega))
  · exact (cols8 x8 0 c).trans (shift_factor S 2 c 0 _ rfl)
  · exact (cols8 x8 1 c).trans (shift_factor S 2 c 1 _ rfl)

theorem out19_apply (q : Fin 256) (c : Fin 2048) : (out0_19 i x0 x1 x2 x3 x4 x5 x6 x7 x8 x9 x10 x11 x12 x13 x14 (ix2 q c) : EReal) = decay A b (tokenAt j q) c := by
  rw [out19_eq]
  exact row_decay S _ (cols13 x7) q c

theorem out20_apply (q : Fin 256) (c : Fin 2048) : (out0_20 i x0 x1 x2 x3 x4 x5 x6 x7 x8 x9 x10 x11 x12 x13 x14 (ix2 q c) : EReal) = rate A b (tokenAt j q) c := by
  rw [out20_eq]
  exact row_rate S _ (cols13 x7) q c

theorem out21_apply (q : Fin 256) (c : Fin 1024) : (out0_21 i x0 x1 x2 x3 x4 x5 x6 x7 x8 x9 x10 x11 x12 x13 x14 (ix2 q c) : EReal) = gate A b (tokenAt j q) c := by
  rw [out21_eq]
  exact row_gate S _ (cols13 x7) q c

end

end Cert.Proj

end
-- ==== Proof.ProjectResult.lean ====
/- The kernel's seven results: the projections of its arguments. -/
module

public import proofs.«01_k».proof.Proof.Project
public import proofs.«01_k».proof.Proof.ProjectOut

@[expose] public section

set_option maxRecDepth 16384

noncomputable section

namespace Cert.Proj

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- What a point stages. -/
theorem staged : Staged (kerArgs m c) (grid0.coords t) (batch t) (tile t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) where
  first := (words t).1
  before := none_before t
  after := none_after t
  x := x_block m c t
  prev := prev_block m c t
  next := next_block m c t
  ctx := ctx_block m c t
  shift := shift_block m c t
  scale := scale_block m c t
  gain := gain_block m c t
  wMla := fun k j => (weight_block m c t k _).trans (weights_mla _ k j)
  wShift := fun k j => (weight_block m c t k _).trans (weights_shift _ k j)
  wDecay := fun k j => (weight_block m c t k _).trans (weights_decay _ k j)
  wRate := fun k j => (weight_block m c t k _).trans (weights_rate _ k j)
  wGate := fun k j => (weight_block m c t k _).trans (weights_gate _ k j)
  mu := factor_block m c t
  muDecay := fun o l => (low_factor_block m c t o _).trans (factors_decay _ o l)
  muRate := fun o l => (low_factor_block m c t o _).trans (factors_rate _ o l)
  muGate := fun o l => (low_factor_block m c t o _).trans (factors_gate _ o l)
  wup := decay_up_block m c t
  aup := rate_up_block m c t
  gup := gate_up_block m c t
  w0 := decay0_block m c t
  a0 := rate0_block m c t

/-- A point's row in a result's array is its token's. -/
theorem rows_at {n : ℕ} (f : Fin 2 → Fin 8448 → Fin n → EReal) (z : (Shape.mk 2 ![16896, n]).Idx) (q : Fin 256) (e : Fin n)
    (h0 : (z 0).val = (point t).val * 256 + q.val) (h1 : (z 1).val = e.val) : rows f z = f (batch t) (tokenAt (tile t) q) e := by
  have eb : batchOf (z 0) = batch t := Fin.ext (by
    change (z 0).val / 8448 = (point t).val / 33
    omega)
  have es : tokenOf (z 0) = tokenAt (tile t) q := Fin.ext (by
    change (z 0).val % 8448 = 256 * ((point t).val % 33) + q.val
    omega)
  have ee : z 1 = e := Fin.ext h1
  unfold rows
  rw [eb, es, ee]

theorem place15 (y : S256x1024.Idx) :
    (((win0_15.blk t).view.emb y) 0).val = (point t).val * 256 + (y 0).val ∧ (((win0_15.blk t).view.emb y) 1).val = (y 1).val := by
  have h := (outputs t).1
  blk_simp [h]
  trivial

theorem result15 : (dats m 0 c).arrAt 15 cfg0.N = rows (mla (kerArgs m c)) := by
  refine (dats m 0 c).arrAt_eq_of_covers 15 _ (by decide +kernel) fun t hf y => ?_
  blk_simp
  rw [after0_15]
  obtain ⟨q, e, rfl⟩ : ∃ q e, y = ix2 q e := ⟨y 0, y 1, by funext d; fin_cases d <;> rfl⟩
  exact (out15_apply (staged m c t) q e).trans (rows_at t _ _ q e (place15 t _).1 (place15 t _).2).symm

theorem place16 (y : S256x1024.Idx) :
    (((win0_16.blk t).view.emb y) 0).val = (point t).val * 256 + (y 0).val ∧ (((win0_16.blk t).view.emb y) 1).val = (y 1).val := by
  have h := (outputs t).2.1
  blk_simp [h]
  trivial

theorem result16 : (dats m 0 c).arrAt 16 cfg0.N = rows (rkv (kerArgs m c) 0) := by
  refine (dats m 0 c).arrAt_eq_of_covers 16 _ (by decide +kernel) fun t hf y => ?_
  blk_simp
  rw [after0_16]
  obtain ⟨q, e, rfl⟩ : ∃ q e, y = ix2 q e := ⟨y 0, y 1, by funext d; fin_cases d <;> rfl⟩
  exact (out16_apply (staged m c t) q e).trans (rows_at t _ _ q e (place16 t _).1 (place16 t _).2).symm

theorem place17 (y : S256x1024.Idx) :
    (((win0_17.blk t).view.emb y) 0).val = (point t).val * 256 + (y 0).val ∧ (((win0_17.blk t).view.emb y) 1).val = (y 1).val := by
  have h := (outputs t).2.2.1
  blk_simp [h]
  trivial

theorem result17 : (dats m 0 c).arrAt 17 cfg0.N = rows (rkv (kerArgs m c) 1) := by
  refine (dats m 0 c).arrAt_eq_of_covers 17 _ (by decide +kernel) fun t hf y => ?_
  blk_simp
  rw [after0_17]
  obtain ⟨q, e, rfl⟩ : ∃ q e, y = ix2 q e := ⟨y 0, y 1, by funext d; fin_cases d <;> rfl⟩
  exact (out17_apply (staged m c t) q e).trans (rows_at t _ _ q e (place17 t _).1 (place17 t _).2).symm

theorem place18 (y : S256x1024.Idx) :
    (((win0_18.blk t).view.emb y) 0).val = (point t).val * 256 + (y 0).val ∧ (((win0_18.blk t).view.emb y) 1).val = (y 1).val := by
  have h := (outputs t).2.2.2.1
  blk_simp [h]
  trivial

theorem result18 : (dats m 0 c).arrAt 18 cfg0.N = rows (rkv (kerArgs m c) 2) := by
  refine (dats m 0 c).arrAt_eq_of_covers 18 _ (by decide +kernel) fun t hf y => ?_
  blk_simp
  rw [after0_18]
  obtain ⟨q, e, rfl⟩ : ∃ q e, y = ix2 q e := ⟨y 0, y 1, by funext d; fin_cases d <;> rfl⟩
  exact (out18_apply (staged m c t) q e).trans (rows_at t _ _ q e (place18 t _).1 (place18 t _).2).symm

theorem place19 (y : S256x2048.Idx) :
    (((win0_19.blk t).view.emb y) 0).val = (point t).val * 256 + (y 0).val ∧ (((win0_19.blk t).view.emb y) 1).val = (y 1).val := by
  have h := (outputs t).2.2.2.2.1
  blk_simp [h]
  trivial

theorem result19 : (dats m 0 c).arrAt 19 cfg0.N = rows (decay (kerArgs m c)) := by
  refine (dats m 0 c).arrAt_eq_of_covers 19 _ (by decide +kernel) fun t hf y => ?_
  blk_simp
  rw [after0_19]
  obtain ⟨q, e, rfl⟩ : ∃ q e, y = ix2 q e := ⟨y 0, y 1, by funext d; fin_cases d <;> rfl⟩
  exact (out19_apply (staged m c t) q e).trans (rows_at t _ _ q e (place19 t _).1 (place19 t _).2).symm

theorem place20 (y : S256x2048.Idx) :
    (((win0_20.blk t).view.emb y) 0).val = (point t).val * 256 + (y 0).val ∧ (((win0_20.blk t).view.emb y) 1).val = (y 1).val := by
  have h := (outputs t).2.2.2.2.2.1
  blk_simp [h]
  trivial

theorem result20 : (dats m 0 c).arrAt 20 cfg0.N = rows (rate (kerArgs m c)) := by
  refine (dats m 0 c).arrAt_eq_of_covers 20 _ (by decide +kernel) fun t hf y => ?_
  blk_simp
  rw [after0_20]
  obtain ⟨q, e, rfl⟩ : ∃ q e, y = ix2 q e := ⟨y 0, y 1, by funext d; fin_cases d <;> rfl⟩
  exact (out20_apply (staged m c t) q e).trans (rows_at t _ _ q e (place20 t _).1 (place20 t _).2).symm

theorem place21 (y : S256x1024.Idx) :
    (((win0_21.blk t).view.emb y) 0).val = (point t).val * 256 + (y 0).val ∧ (((win0_21.blk t).view.emb y) 1).val = (y 1).val := by
  have h := (outputs t).2.2.2.2.2.2
  blk_simp [h]
  trivial

theorem result21 : (dats m 0 c).arrAt 21 cfg0.N = rows (gate (kerArgs m c)) := by
  refine (dats m 0 c).arrAt_eq_of_covers 21 _ (by decide +kernel) fun t hf y => ?_
  blk_simp
  rw [after0_21]
  obtain ⟨q, e, rfl⟩ : ∃ q e, y = ix2 q e := ⟨y 0, y 1, by funext d; fin_cases d <;> rfl⟩
  exact (out21_apply (staged m c t) q e).trans (rows_at t _ _ q e (place21 t _).1 (place21 t _).2).symm

end Cert.Proj

end
-- ==== Proof.ProjectRef.lean ====
/- The reference's projections, read at an element of its arguments. -/
module

public import proofs.«01_k».proof.Proof.Tokens
public import proofs.«01_k».proof.Proof.Gen.Reference2Ideal.Run

@[expose] public section

set_option maxRecDepth 16384

noncomputable section

namespace Cert.Proj

open Cert.Reference2Ideal Cert.Reference2Ideal.Gen Cert.Reference2Ideal.Value Idealize.ShloMosaic Idealize.ShloMosaic.TcCoe Idealize.SL.Sem

/-- The reference's arguments. -/
def refArgs (V0 : Valuation τ sig (Elt Ideal)) : Args where
  x b t k := (V0 (Proc.devRef .tc main_arg0) (ix3 b t k) : EReal)
  ctx b t k := (V0 (Proc.devRef .tc main_arg1) (ix3 b t k) : EReal)
  mod b j := (V0 (Proc.devRef .tc main_arg2) (ix2 b j) : EReal)
  modc j := (V0 (Proc.devRef .tc main_arg3) (ix1 j) : EReal)
  g k := (V0 (Proc.devRef .tc main_arg4) (ix1 k) : EReal)
  w k j := (V0 (Proc.devRef .tc main_arg5) (ix2 k j) : EReal)
  mu o j := (V0 (Proc.devRef .tc main_arg6) (ix2 o j) : EReal)
  w0 d j := (V0 (Proc.devRef .tc main_arg7) (ix2 d j) : EReal)
  wup d l j := (V0 (Proc.devRef .tc main_arg8) (ix3 d l j) : EReal)
  a0 d j := (V0 (Proc.devRef .tc main_arg9) (ix2 d j) : EReal)
  aup d l j := (V0 (Proc.devRef .tc main_arg10) (ix3 d l j) : EReal)
  gup l j := (V0 (Proc.devRef .tc main_arg11) (ix2 l j) : EReal)

variable (V0 : Valuation τ sig (Elt Ideal))

/-! ## The features -/

theorem feature_late (b : Fin 2) (s : Fin 8448) (c : Fin 4192) (t : Fin 8192) (h : s.val = 256 + t.val) :
    (res_main_v46 V0 (ix3 b t c) : EReal) = feature (refArgs V0) b s c := by
  have e : token (refArgs V0) b s = fun k => (V0 (Proc.devRef .tc main_arg0) (ix3 b t k) : EReal) := by
    funext k
    rw [token, dif_neg (by omega)]
    exact congrArg (fun t => (V0 (Proc.devRef .tc main_arg0) (ix3 b t k) : EReal)) (Fin.ext (by simp only [h]; omega))
  have e' : ∀ j, modulation (refArgs V0) b s j = (V0 (Proc.devRef .tc main_arg2) (ix2 b j) : EReal) := fun j => if_neg (by omega)
  unfold feature normed
  rw [e]
  simp only [e']
  pointwise [res_main_v46]
  rfl

theorem feature_early (b : Fin 2) (s : Fin 8448) (c : Fin 4192) (t : Fin 256) (h : s.val = t.val) :
    (res_main_v47 V0 (ix3 b t c) : EReal) = feature (refArgs V0) b s c := by
  have e : token (refArgs V0) b s = fun k => (V0 (Proc.devRef .tc main_arg1) (ix3 b t k) : EReal) := by
    funext k
    rw [token, dif_pos (by omega)]
    exact congrArg (fun t => (V0 (Proc.devRef .tc main_arg1) (ix3 b t k) : EReal)) (Fin.ext h)
  have e' : ∀ j, modulation (refArgs V0) b s j = (V0 (Proc.devRef .tc main_arg3) (ix1 j) : EReal) := fun j => if_pos (by omega)
  unfold feature normed
  rw [e]
  simp only [e']
  pointwise [res_main_v47]
  rfl

theorem rows_apply (i : Fin 16896) (c : Fin 832) :
    (res_main_v93 V0 (ix2 i c) : EReal) = feature (refArgs V0) (batchOf i) (tokenOf i) ⟨c.val, by omega⟩ := by
  have h : (res_main_v93 V0 (ix2 i c) : EReal) = if h : i.val % 8448 < 256 then (res_main_v47 V0 (ix3 (batchOf i) ⟨i.val % 8448, h⟩ ⟨c.val, by omega⟩) : EReal)
      else (res_main_v46 V0 (ix3 (batchOf i) ⟨i.val % 8448 - 256, by omega⟩ ⟨c.val, by omega⟩) : EReal) := by
    pointwise [res_main_v93]
    rfl
  rw [h]
  split
  · exact feature_early V0 _ _ _ _ rfl
  · exact feature_late V0 _ _ _ _ (by show i.val % 8448 = 256 + (i.val % 8448 - 256); omega)

/-! ## The token shift -/

theorem late_apply (b : Fin 2) (t : Fin 8192) (c : Fin 3360) :
    (res_main_v48 V0 (ix3 b t c) : EReal) = (res_main_v46 V0 (ix3 b t ⟨832 + c.val, by omega⟩) : EReal) := by
  pointwise [res_main_v48]

theorem early_apply (b : Fin 2) (t : Fin 256) (c : Fin 3360) :
    (res_main_v69 V0 (ix3 b t c) : EReal) = (res_main_v47 V0 (ix3 b t ⟨832 + c.val, by omega⟩) : EReal) := by
  pointwise [res_main_v69]

theorem none_late (b : Fin 2) (c : Fin 3360) (z : Fin 1) : (res_main_v50 V0 (ix3 b z c) : EReal) = (0 : EReal) := by
  pointwise [res_main_v50]

theorem none_early (b : Fin 2) (c : Fin 3360) (z : Fin 1) : (res_main_v71 V0 (ix3 b z c) : EReal) = (0 : EReal) := by
  pointwise [res_main_v71]

theorem shifted_apply (i : Fin 16896) (c : Fin 3360) :
    (res_main_v95 V0 (ix2 i c) : EReal) = shifted (refArgs V0) (batchOf i) (tokenOf i) c := by
  have h : (res_main_v95 V0 (ix2 i c) : EReal) = if h : i.val % 8448 < 256 then
        mix (res_main_v69 V0 (ix3 (batchOf i) ⟨i.val % 8448, h⟩ c) : EReal)
          (if h' : i.val % 8448 < 1 then (res_main_v71 V0 (ix3 (batchOf i) ⟨i.val % 8448, h'⟩ c) : EReal)
            else (res_main_v69 V0 (ix3 (batchOf i) ⟨i.val % 8448 - 1, by omega⟩ c) : EReal))
          (if h' : i.val % 8448 < 255 then (res_main_v69 V0 (ix3 (batchOf i) ⟨1 + i.val % 8448, by omega⟩ c) : EReal)
            else (res_main_v71 V0 (ix3 (batchOf i) ⟨i.val % 8448 - 255, by omega⟩ c) : EReal))
          ((refArgs V0).mu 0 c) ((refArgs V0).mu 1 c)
      else
        mix (res_main_v48 V0 (ix3 (batchOf i) ⟨i.val % 8448 - 256, by omega⟩ c) : EReal)
          (if h' : i.val % 8448 - 256 < 1 then (res_main_v50 V0 (ix3 (batchOf i) ⟨i.val % 8448 - 256, h'⟩ c) : EReal)
            else (res_main_v48 V0 (ix3 (batchOf i) ⟨i.val % 8448 - 256 - 1, by omega⟩ c) : EReal))
          (if h' : i.val % 8448 - 256 < 8191 then (res_main_v48 V0 (ix3 (batchOf i) ⟨1 + (i.val % 8448 - 256), by omega⟩ c) : EReal)
            else (res_main_v50 V0 (ix3 (batchOf i) ⟨i.val % 8448 - 256 - 8191, by omega⟩ c) : EReal))
          ((refArgs V0).mu 0 c) ((refArgs V0).mu 1 c) := by
    pointwise [res_main_v95]
    rfl
  rw [h]
  clear h
  unfold shifted
  have hs : (tokenOf i).val = i.val % 8448 := rfl
  simp only [early_apply, late_apply]
  split
  · congr 1
    · exact feature_early V0 _ _ _ _ hs
    · split
      · rw [if_pos (by omega)]
        exact none_early V0 _ _ _
      · rw [if_neg (by omega)]
        exact feature_early V0 _ _ _ _ (by simp only [hs])
    · split
      · rw [dif_neg (by omega)]
        exact feature_early V0 _ _ _ _ (by simp only [hs]; omega)
      · rw [dif_pos (by omega)]
        exact none_early V0 _ _ _
  · congr 1
    · exact feature_late V0 _ _ _ _ (by simp only [hs]; omega)
    · split
      · rw [if_pos (by omega)]
        exact none_late V0 _ _ _
      · rw [if_neg (by omega)]
        exact feature_late V0 _ _ _ _ (by simp only [hs]; omega)
    · split
      · rw [dif_neg (by omega)]
        exact feature_late V0 _ _ _ _ (by simp only [hs]; omega)
      · rw [dif_pos (by omega)]
        exact none_late V0 _ _ _

/-! ## The results -/

theorem ref_rkv (o : Fin 3) (i : Fin 16896) (c : Fin 1024) :
    (res_main_v95 V0 (ix2 i ⟨o.val * 1024 + c.val, by omega⟩) : EReal) = rkv (refArgs V0) o (batchOf i) (tokenOf i) c :=
  shifted_apply V0 i _

theorem decay_columns (i : Fin 16896) (l : Fin 64) :
    (res_main_v99 V0 (ix2 i l) : EReal) = shifted (refArgs V0) (batchOf i) (tokenOf i) ⟨3072 + l.val, by omega⟩ := by
  rw [← shifted_apply]
  pointwise [res_main_v99]

theorem rate_columns (i : Fin 16896) (l : Fin 64) :
    (res_main_v100 V0 (ix2 i l) : EReal) = shifted (refArgs V0) (batchOf i) (tokenOf i) ⟨3136 + l.val, by omega⟩ := by
  rw [← shifted_apply]
  pointwise [res_main_v100]

theorem decay_left (i : Fin 16896) (c : Fin 1024) : (res_main_v111 V0 (ix2 i c) : EReal)
    = -((refArgs V0).w0 0 c + ∑ l : Fin 64, Ideal.tanh (shifted (refArgs V0) (batchOf i) (tokenOf i) ⟨3072 + l.val, by omega⟩) * (refArgs V0).wup 0 l c) := by
  simp only [← decay_columns]
  pointwise [res_main_v111]
  rfl

theorem decay_right (i : Fin 16896) (c : Fin 1024) : (res_main_v140 V0 (ix2 i c) : EReal)
    = -((refArgs V0).w0 1 c + ∑ l : Fin 64, Ideal.tanh (shifted (refArgs V0) (batchOf i) (tokenOf i) ⟨3072 + l.val, by omega⟩) * (refArgs V0).wup 1 l c) := by
  simp only [← decay_columns]
  pointwise [res_main_v140]
  rfl

/-- The reference's softplus of an element, its branch for a number that is none left. -/
theorem softplus_branch (w : EReal) :
    (if w ≠ w then w else max w 0 + Ideal.log1p (Ideal.exp (-max w (-w)))) = softplus w := if_neg (not_not.mpr rfl)

set_option maxHeartbeats 1000000 in
theorem ref_mla : (((concatenate S16896x1024 1 [⟨S16896x832, ((res_main_v93 V0) : (⟨S16896x832, .f32⟩ : BufTy).Contents (Elt Ideal))⟩, ⟨S16896x64, ((res_main_v168 V0) : (⟨S16896x64, .f32⟩ : BufTy).Contents (Elt Ideal))⟩, ⟨S16896x64, (((concatenate S16896x64 1 [⟨S16896x16, ((extractStridedSlice S16896x16 ![0, 16] (res_main_v167 V0) slices_S16896x64_S16896x16_0_16) : (⟨S16896x16, .f32⟩ : BufTy).Contents (Elt Ideal))⟩, ⟨S16896x16, ((extractStridedSlice S16896x16 ![0, 0] (res_main_v167 V0) slices_S16896x64_S16896x16_0_0) : (⟨S16896x16, .f32⟩ : BufTy).Contents (Elt Ideal))⟩, ⟨S16896x16, ((extractStridedSlice S16896x16 ![0, 48] (res_main_v167 V0) slices_S16896x64_S16896x16_0_48) : (⟨S16896x16, .f32⟩ : BufTy).Contents (Elt Ideal))⟩, ⟨S16896x16, ((extractStridedSlice S16896x16 ![0, 32] (res_main_v167 V0) slices_S16896x64_S16896x16_0_32) : (⟨S16896x16, .f32⟩ : BufTy).Contents (Elt Ideal))⟩] concatenates_S16896x16_S16896x16_S16896x16_S16896x16_S16896x64_d1 : (⟨S16896x64, .f32⟩ : BufTy).Contents (Elt Ideal))) : (⟨S16896x64, .f32⟩ : BufTy).Contents (Elt Ideal))⟩, ⟨S16896x64, ((res_main_v168 V0) : (⟨S16896x64, .f32⟩ : BufTy).Contents (Elt Ideal))⟩] concatenates_S16896x832_S16896x64_S16896x64_S16896x64_S16896x1024_d1 : (⟨S16896x1024, .f32⟩ : BufTy).Contents (Elt Ideal))) : FVec Ideal S16896x1024 .f32) = rows (mla (refArgs V0)) := by
  funext y
  obtain ⟨i, c, rfl⟩ : ∃ i c, y = ix2 i c := ⟨y 0, y 1, by funext d; fin_cases d <;> rfl⟩
  change _ = mla (refArgs V0) (batchOf i) (tokenOf i) c
  unfold mla
  pointwise [res_main_v167, res_main_v168]
  split_ifs <;> first
    | rfl
    | (exfalso; omega)
    | exact rows_apply V0 i _
    | exact (rows_apply V0 i _).trans (congrArg (feature (refArgs V0) (batchOf i) (tokenOf i))
        (Fin.ext (by simp only [exchanged_val]; split_ifs <;> omega)))

theorem ref_r : ((extractStridedSlice S16896x1024 ![0, 0] (res_main_v95 V0) slices_S16896x3360_S16896x1024_0_0) : FVec Ideal S16896x1024 .f32) = rows (rkv (refArgs V0) 0) := by
  funext y
  obtain ⟨i, c, rfl⟩ : ∃ i c, y = ix2 i c := ⟨y 0, y 1, by funext d; fin_cases d <;> rfl⟩
  refine Eq.trans ?_ (ref_rkv V0 0 i c)
  pointwise []

theorem ref_k : ((extractStridedSlice S16896x1024 ![0, 1024] (res_main_v95 V0) slices_S16896x3360_S16896x1024_0_1024) : FVec Ideal S16896x1024 .f32) = rows (rkv (refArgs V0) 1) := by
  funext y
  obtain ⟨i, c, rfl⟩ : ∃ i c, y = ix2 i c := ⟨y 0, y 1, by funext d; fin_cases d <;> rfl⟩
  refine Eq.trans ?_ (ref_rkv V0 1 i c)
  pointwise []

theorem ref_v : ((extractStridedSlice S16896x1024 ![0, 2048] (res_main_v95 V0) slices_S16896x3360_S16896x1024_0_2048) : FVec Ideal S16896x1024 .f32) = rows (rkv (refArgs V0) 2) := by
  funext y
  obtain ⟨i, c, rfl⟩ : ∃ i c, y = ix2 i c := ⟨y 0, y 1, by funext d; fin_cases d <;> rfl⟩
  refine Eq.trans ?_ (ref_rkv V0 2 i c)
  pointwise []

theorem ref_decay : ((concatenate S16896x2048 1 [⟨S16896x1024, (mulf (broadcastInDim S16896x1024 ![] bcast_S_S16896x1024 (constant S_ .f32 0xBF1B4598#32)) (Host.exp (Host.negf (select (cmpf .une (res_main_call0_v3 V0) (res_main_call0_v3 V0)) (addf (res_main_v111 V0) (broadcastInDim S16896x1024 ![] bcast_S_S16896x1024 (res_main_call0_cst V0))) (addf (maximumf (res_main_v111 V0) (broadcastInDim S16896x1024 ![] bcast_S_S16896x1024 (res_main_call0_cst V0))) (Host.log1p (Host.exp (Host.negf (Host.absf (res_main_call0_v3 V0))))))))))⟩, ⟨S16896x1024, (mulf (broadcastInDim S16896x1024 ![] bcast_S_S16896x1024 (constant S_ .f32 0xBF1B4598#32)) (Host.exp (Host.negf (select (cmpf .une (res_main_call1_v3 V0) (res_main_call1_v3 V0)) (addf (res_main_v140 V0) (broadcastInDim S16896x1024 ![] bcast_S_S16896x1024 (res_main_call1_cst V0))) (addf (maximumf (res_main_v140 V0) (broadcastInDim S16896x1024 ![] bcast_S_S16896x1024 (res_main_call1_cst V0))) (Host.log1p (Host.exp (Host.negf (Host.absf (res_main_call1_v3 V0))))))))))⟩] concatenates_S16896x1024_S16896x1024_S16896x2048_d1) : FVec Ideal S16896x2048 .f32) = rows (decay (refArgs V0)) := by
  funext y
  obtain ⟨i, c, rfl⟩ : ∃ i c, y = ix2 i c := ⟨y 0, y 1, by funext d; fin_cases d <;> rfl⟩
  change _ = decay (refArgs V0) (batchOf i) (tokenOf i) c
  unfold decay
  rw [← exp_neg_softplus]
  pointwise [res_main_call0_v3, res_main_call1_v3, res_main_call0_cst, res_main_call1_cst]
  split
  · rename_i h
    rw [half_low c h, inHalf_low c h, ← decay_left]
    refine congrArg (fun x => _ * Ideal.exp (-x)) (softplus_branch _)
  · rename_i h
    rw [half_high c h, inHalf_high c h, ← decay_right]
    refine congrArg (fun x => _ * Ideal.exp (-x)) (softplus_branch _)

theorem ref_rate : ((concatenate S16896x2048 1 [⟨S16896x1024, (Host.divf (broadcastInDim S16896x1024 ![] bcast_S_S16896x1024 (constant S_ .f32 0x3F800000#32)) (addf (broadcastInDim S16896x1024 ![] bcast_S_S16896x1024 (constant S_ .f32 0x3F800000#32)) (Host.exp (Host.negf (addf (broadcastInDim S16896x1024 ![0, 1] bcast_S1x1024_S16896x1024_0_1 (broadcastInDim S1x1024 ![1] bcast_S1024_S1x1024_1 (shapeCast _ (extractStridedSlice S1x1024 ![0, 0] (V0 (Proc.devRef .tc main_arg9)) slices_S2x1024_S1x1024_0_0) shapeCasts_S1x1024_S1024))) (Host.dotGeneral (φ₁ := .f32) (φ₂ := .f32) dot_S16896x64_S64x1024_S16896x1024_1_0_0_1_n_n none (res_main_v100 V0) (shapeCast _ (extractStridedSlice S1x64x1024 ![0, 0, 0] (V0 (Proc.devRef .tc main_arg10)) slices_S2x64x1024_S1x64x1024_0_0_0) shapeCasts_S1x64x1024_S64x1024)))))))⟩, ⟨S16896x1024, (Host.divf (broadcastInDim S16896x1024 ![] bcast_S_S16896x1024 (constant S_ .f32 0x3F800000#32)) (addf (broadcastInDim S16896x1024 ![] bcast_S_S16896x1024 (constant S_ .f32 0x3F800000#32)) (Host.exp (Host.negf (addf (broadcastInDim S16896x1024 ![0, 1] bcast_S1x1024_S16896x1024_0_1 (broadcastInDim S1x1024 ![1] bcast_S1024_S1x1024_1 (shapeCast _ (extractStridedSlice S1x1024 ![1, 0] (V0 (Proc.devRef .tc main_arg9)) slices_S2x1024_S1x1024_1_0) shapeCasts_S1x1024_S1024))) (Host.dotGeneral (φ₁ := .f32) (φ₂ := .f32) dot_S16896x64_S64x1024_S16896x1024_1_0_0_1_n_n none (res_main_v100 V0) (shapeCast _ (extractStridedSlice S1x64x1024 ![1, 0, 0] (V0 (Proc.devRef .tc main_arg10)) slices_S2x64x1024_S1x64x1024_1_0_0) shapeCasts_S1x64x1024_S64x1024)))))))⟩] concatenates_S16896x1024_S16896x1024_S16896x2048_d1) : FVec Ideal S16896x2048 .f32) = rows (rate (refArgs V0)) := by
  funext y
  obtain ⟨i, c, rfl⟩ : ∃ i c, y = ix2 i c := ⟨y 0, y 1, by funext d; fin_cases d <;> rfl⟩
  change _ = rate (refArgs V0) (batchOf i) (tokenOf i) c
  unfold rate
  simp only [← rate_columns]
  pointwise []
  split
  · rename_i h
    rw [half_low c h, inHalf_low c h]
    rfl
  · rename_i h
    rw [half_high c h, inHalf_high c h]
    rfl

theorem ref_gate : ((Host.dotGeneral (φ₁ := .f32) (φ₂ := .f32) dot_S16896x160_S160x1024_S16896x1024_1_0_0_1_n_n none (Host.divf (broadcastInDim S16896x160 ![] bcast_S_S16896x160 (constant S_ .f32 0x3F800000#32)) (addf (broadcastInDim S16896x160 ![] bcast_S_S16896x160 (constant S_ .f32 0x3F800000#32)) (Host.exp (Host.negf (extractStridedSlice S16896x160 ![0, 3200] (res_main_v95 V0) slices_S16896x3360_S16896x160_0_3200))))) (V0 (Proc.devRef .tc main_arg11))) : FVec Ideal S16896x1024 .f32) = rows (gate (refArgs V0)) := by
  funext y
  obtain ⟨i, c, rfl⟩ : ∃ i c, y = ix2 i c := ⟨y 0, y 1, by funext d; fin_cases d <;> rfl⟩
  change _ = gate (refArgs V0) (batchOf i) (tokenOf i) c
  unfold gate
  simp only [← shifted_apply]
  pointwise []
  rfl

/-- Every run of the reference ends with the seven results of its arguments, and keeps the arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v174) = rows (mla (refArgs (StableHlo.launchContents m c)))
      ∧ r.2.mem ((c.tc : Thread nD τ).loc main_v96) = rows (rkv (refArgs (StableHlo.launchContents m c)) 0)
      ∧ r.2.mem ((c.tc : Thread nD τ).loc main_v97) = rows (rkv (refArgs (StableHlo.launchContents m c)) 1)
      ∧ r.2.mem ((c.tc : Thread nD τ).loc main_v98) = rows (rkv (refArgs (StableHlo.launchContents m c)) 2)
      ∧ r.2.mem ((c.tc : Thread nD τ).loc main_v175) = rows (decay (refArgs (StableHlo.launchContents m c)))
      ∧ r.2.mem ((c.tc : Thread nD τ).loc main_v176) = rows (rate (refArgs (StableHlo.launchContents m c)))
      ∧ r.2.mem ((c.tc : Thread nD τ).loc main_v166) = rows (gate (refArgs (StableHlo.launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun r h c => ⟨(h c).1.trans (ref_mla _), (h c).2.1.trans (ref_r _), (h c).2.2.1.trans (ref_k _),
    (h c).2.2.2.1.trans (ref_v _), (h c).2.2.2.2.1.trans (ref_decay _), (h c).2.2.2.2.2.1.trans (ref_rate _),
    (h c).2.2.2.2.2.2.1.trans (ref_gate _), (h c).2.2.2.2.2.2.2⟩) (run (F := Ideal) m ρ)

end Cert.Proj

end
-- ==== Proof.Modulation.lean ====
/- The modulation rows: the table that the call `mod` computes, of its arguments. -/
module

public import proofs.«01_k».proof.Proof.Gen.Kernel3Ideal.Value
public import Idealize.ShloMosaic.Lib.Routing.OpsSet
public import Idealize.ShloMosaic.Lib.Pointwise
public import Idealize.ShloMosaic.Lib.Pipeline.ValueKit
public import Idealize.ShloMosaic.Lib.Claim

@[expose] public section

set_option maxRecDepth 16384

noncomputable section

namespace Cert.Mod

open Cert.Kernel3Ideal Cert.Kernel3Ideal.Gen Idealize.ShloMosaic Idealize.ShloMosaic.TcCoe Idealize.SL.Sem

/-! ## The definition -/

section
variable (c : Fin 2 → Fin 2048 → EReal) (cc : Fin 2048 → EReal) (w : Fin 2048 → Fin 12288 → EReal) (b : Fin 12288 → EReal)

def silu (x : EReal) : EReal := x * Ideal.logistic x

/-- A modulation of a conditioning row `x`. -/
def modulation (x : Fin 2048 → EReal) (j : Fin 12288) : EReal := (∑ k, silu (x k) * w k j) + b j

/-- The table: a row for each batch, the context's row, and the bias in the rows left. -/
def table (i : Fin 8) (j : Fin 12288) : EReal :=
  if h : i.val < 2 then modulation w b (c ⟨i.val, h⟩) j else if i.val = 2 then modulation w b cc j else b j

/-- The conditioning rows, zeros below them. -/
def conditions (i : Fin 8) (k : Fin 2048) : EReal :=
  if h : i.val < 2 then c ⟨i.val, h⟩ k else if i.val = 2 then cc k else 0

theorem modulation_zero (j : Fin 12288) : modulation w b (fun _ => 0) j = b j := by
  unfold modulation silu
  simp only [zero_mul, Finset.sum_const_zero, zero_add]

theorem table_eq (i : Fin 8) (j : Fin 12288) : modulation w b (conditions c cc i) j = table c cc w b i j := by
  unfold table
  split
  · rename_i h
    exact congrArg (fun x => modulation w b x j) (funext fun k => dif_pos h)
  · rename_i h
    split
    · rename_i h'
      exact congrArg (fun x => modulation w b x j) (funext fun k => (dif_neg h).trans (if_pos h'))
    · rename_i h'
      exact (congrArg (fun x => modulation w b x j) (funext fun k => (dif_neg h).trans (if_neg h'))).trans (modulation_zero w b j)

end

/-! ## The rows that the host writes -/

/-- A row of the two lands where it stands. -/
theorem lands_pair (r : Fin 2) (e : Fin 2048) (i : Fin 8) (k : Fin 2048) :
    scatter_S8x2048_S1_S2x2048_01_n_0_0.resultIdx? (ix2 r e) (fun _ => 0#32) = some (ix2 i k) ↔ r.val = i.val ∧ e = k := by
  refine (Routing.resultIdx?_ix2 (R := 8) (C := 2048) scatter_S8x2048_S1_S2x2048_01_n_0_0 (ix2 r e) (fun _ => 0#32) i k).trans ?_
  rw [Fin.ext_iff]
  have s0 : scatter_S8x2048_S1_S2x2048_01_n_0_0.start (ix2 r e) (fun _ => 0#32) 0 = 0 := rfl
  have s1 : scatter_S8x2048_S1_S2x2048_01_n_0_0.start (ix2 r e) (fun _ => 0#32) 1 = 0 := rfl
  have w0 : scatter_S8x2048_S1_S2x2048_01_n_0_0.window (ix2 r e) 0 = r.val := rfl
  have w1 : scatter_S8x2048_S1_S2x2048_01_n_0_0.window (ix2 r e) 1 = e.val := rfl
  rw [s0, s1, w0, w1]
  omega

/-- The one row lands in the third. -/
theorem lands_row (e : Fin 2048) (i : Fin 8) (k : Fin 2048) :
    scatter_S8x2048_S1_S2048_0_0_0_0.resultIdx? (ix1 e) (fun _ => 2#32) = some (ix2 i k) ↔ i.val = 2 ∧ e = k := by
  refine (Routing.resultIdx?_ix2 (R := 8) (C := 2048) scatter_S8x2048_S1_S2048_0_0_0_0 (ix1 e) (fun _ => 2#32) i k).trans ?_
  rw [Fin.ext_iff]
  have s0 : scatter_S8x2048_S1_S2048_0_0_0_0.start (ix1 e) (fun _ => 2#32) 0 = 2 := rfl
  have s1 : scatter_S8x2048_S1_S2048_0_0_0_0.start (ix1 e) (fun _ => 2#32) 1 = 0 := rfl
  have w0 : scatter_S8x2048_S1_S2048_0_0_0_0.window (ix1 e) 0 = 0 := rfl
  have w1 : scatter_S8x2048_S1_S2048_0_0_0_0.window (ix1 e) 1 = e.val := rfl
  rw [s0, s1, w0, w1]
  omega

theorem pair_apply (x : Vec Ideal S8x2048 .f32) (u : Vec Ideal S2x2048 .f32) (i : Fin 8) (k : Fin 2048) :
    (Host.scatter scatter_S8x2048_S1_S2x2048_01_n_0_0 (fun _ b => b) x (fun _ => 0#32) u (ix2 i k) : EReal)
      = if h : i.val < 2 then (u (ix2 ⟨i.val, h⟩ k) : EReal) else (x (ix2 i k) : EReal) := by
  have lands : ∀ j : S2x2048.Idx, scatter_S8x2048_S1_S2x2048_01_n_0_0.resultIdx? j (fun _ => 0#32) = some (ix2 i k) → (j 0).val = i.val ∧ j 1 = k := by
    intro j hj
    obtain ⟨r, e, rfl⟩ : ∃ r e, j = ix2 r e := ⟨j 0, j 1, by funext d; fin_cases d <;> rfl⟩
    exact (lands_pair r e i k).1 hj
  split
  · rename_i h
    refine Routing.scatter_set_hit _ _ _ _ _ _ (fun j hj => ?_) (ix2 ⟨i.val, h⟩ k) ((lands_pair _ _ _ _).2 ⟨rfl, rfl⟩)
    refine congrArg u ?_
    funext d
    fin_cases d
    · exact Fin.ext (lands j hj).1
    · exact (lands j hj).2
  · rename_i h
    refine Routing.scatter_set_miss _ _ _ _ _ fun j hj => h ?_
    have := (lands j hj).1
    have h2 : (j 0).val < 2 := (j 0).isLt
    omega

theorem row_apply (x : Vec Ideal S8x2048 .f32) (u : Vec Ideal S2048 .f32) (i : Fin 8) (k : Fin 2048) :
    (Host.scatter scatter_S8x2048_S1_S2048_0_0_0_0 (fun _ b => b) x (fun _ => 2#32) u (ix2 i k) : EReal)
      = if i.val = 2 then (u (ix1 k) : EReal) else (x (ix2 i k) : EReal) := by
  have lands : ∀ j : S2048.Idx, scatter_S8x2048_S1_S2048_0_0_0_0.resultIdx? j (fun _ => 2#32) = some (ix2 i k) → i.val = 2 ∧ j 0 = k := by
    intro j hj
    obtain ⟨e, rfl⟩ : ∃ e, j = ix1 e := ⟨j 0, by funext d; fin_cases d; rfl⟩
    exact (lands_row e i k).1 hj
  split
  · rename_i h
    refine Routing.scatter_set_hit _ _ _ _ _ _ (fun j hj => ?_) (ix1 k) ((lands_row _ _ _).2 ⟨h, rfl⟩)
    refine congrArg u ?_
    funext d
    fin_cases d
    exact (lands j hj).2
  · rename_i h
    exact Routing.scatter_set_miss _ _ _ _ _ fun j hj => h (lands j hj).1

/-- The conditioning rows as the host writes them. -/
def written (u : Vec Ideal S2x2048 .f32) (v : Vec Ideal S2048 .f32) : Vec Ideal S8x2048 .f32 :=
  Host.scatter scatter_S8x2048_S1_S2048_0_0_0_0 (fun _ b => b)
    (Host.scatter scatter_S8x2048_S1_S2x2048_01_n_0_0 (fun _ b => b)
      (broadcastInDim S8x2048 ![] bcast_S_S8x2048 (constant (F := Ideal) S_ .f32 0x00000000#32)) (fun _ => 0#32) u) (fun _ => 2#32) v

theorem written_apply (u : Vec Ideal S2x2048 .f32) (v : Vec Ideal S2048 .f32) (i : Fin 8) (k : Fin 2048) :
    (written u v (ix2 i k) : EReal) = conditions (fun b k => u (ix2 b k)) (fun k => v (ix1 k)) i k := by
  have z : (broadcastInDim S8x2048 ![] bcast_S_S8x2048 (constant (F := Ideal) S_ .f32 0x00000000#32) (ix2 i k) : EReal) = (0 : EReal) := by
    pointwise []
  refine (row_apply _ v i k).trans ?_
  unfold conditions
  split
  · rename_i h
    rw [dif_neg (by omega)]
  · refine (pair_apply _ u i k).trans ?_
    rw [z]

/-! ## A point's block -/

theorem out_apply (x0 : Vec Ideal S8x2048 .f32) (x1 : Vec Ideal S2048x1024 .f32) (x2 : Vec Ideal S1x1024 .f32) (i : Fin 8) (j : Fin 1024) :
    (out0_3 x0 x1 x2 (ix2 i j) : EReal) = (∑ k : Fin 2048, silu (x0 (ix2 i k)) * (x1 (ix2 k j) : EReal)) + (x2 (ix2 0 j) : EReal) := by
  have e : out0_3 x0 x1 x2 = k0_pay1 x0 x1 x2 := by
    unfold out0_3
    rw [View.canon_cons_unit_lit, View.ld_unit_lit, View.ld_unit_lit, View.ld_unit_lit]
    all_goals intro a; fin_cases a <;> rfl
  rw [e]
  unfold silu
  pointwise [k0_pay1]

/-! ## The windows -/

variable (m : (ℓ : Loc nD τ sig) → Buf (Elt Ideal) ℓ) (c : Dev nD)

def point (t : Fin cfg0.N) : Fin 12 := (grid0.coords t) 0

theorem blocks (t : Fin cfg0.N) : win0_0.index t = ![0, 0] ∧ win0_1.index t = ![0, (point t).val] ∧ win0_2.index t = ![0, (point t).val]
    ∧ win0_3.index t = ![0, (point t).val] := by
  revert t
  change ∀ t : Fin grid0.N, _
  decide +kernel

/-- The column of a point's. -/
def column (t : Fin cfg0.N) (j : Fin 1024) : Fin 12288 := ⟨(point t).val * 1024 + j.val, by omega⟩

theorem place0 (t : Fin cfg0.N) (i : Fin 8) (k : Fin 2048) : (win0_0.blk t).view.emb (ix2 i k) = ix2 i k := by
  have h := (blocks t).1
  funext d
  apply Fin.ext
  fin_cases d <;> blk_simp [h] <;> simp

theorem place1 (t : Fin cfg0.N) (k : Fin 2048) (j : Fin 1024) : (win0_1.blk t).view.emb (ix2 k j) = ix2 k (column t j) := by
  have h := (blocks t).2.1
  funext d
  apply Fin.ext
  fin_cases d <;> blk_simp [h] <;> simp [column]

theorem place2 (t : Fin cfg0.N) (j : Fin 1024) : (win0_2.blk t).view.emb (ix2 0 j) = ix2 0 (column t j) := by
  have h := (blocks t).2.2.1
  funext d
  apply Fin.ext
  fin_cases d <;> blk_simp [h] <;> simp [column]

theorem place3 (t : Fin cfg0.N) (i : Fin 8) (j : Fin 1024) : (win0_3.blk t).view.emb (ix2 i j) = ix2 i (column t j) := by
  have h := (blocks t).2.2.2
  funext d
  apply Fin.ext
  fin_cases d <;> blk_simp [h] <;> simp [column]

theorem V_rows : V m c main_v4 = written (m ((c : Thread nD τ).loc main_arg0)) (m ((c : Thread nD τ).loc main_arg1)) := by
  simp only [V, List.flatten_cons, List.flatten_nil, List.append_nil, StableHlo.after_append]
  after_results
  rfl

theorem V_bias : V m c main_v5 = shapeCast S1x12288 (m ((c : Thread nD τ).loc main_arg3)) shapeCasts_S12288_S1x12288 := by
  simp only [V, List.flatten_cons, List.flatten_nil, List.append_nil, StableHlo.after_append]
  after_results
  rfl

theorem line_apply (x : Vec Ideal S12288 .f32) (j : Fin 12288) : (shapeCast S1x12288 x shapeCasts_S12288_S1x12288 (ix2 0 j) : EReal) = (x (ix1 j) : EReal) := by
  pointwise []

/-- The table of the program's arguments. -/
def kerTable : Vec Ideal S8x12288 .f32 := fun y =>
  table (fun b k => m ((c : Thread nD τ).loc main_arg0) (ix2 b k)) (fun k => m ((c : Thread nD τ).loc main_arg1) (ix1 k))
    (fun k j => m ((c : Thread nD τ).loc main_arg2) (ix2 k j)) (fun j => m ((c : Thread nD τ).loc main_arg3) (ix1 j)) (y 0) (y 1)

theorem rows_block (t : Fin cfg0.N) (i : Fin 8) (k : Fin 2048) : (iblk m c 0 t (ix2 i k) : EReal)
    = conditions (fun b k => m ((c : Thread nD τ).loc main_arg0) (ix2 b k)) (fun k => m ((c : Thread nD τ).loc main_arg1) (ix1 k)) i k := by
  refine (congrArg (V m c main_v4) (place0 t i k)).trans ?_
  rw [V_rows]
  exact written_apply _ _ i k

theorem weights_block (t : Fin cfg0.N) (k : Fin 2048) (j : Fin 1024) : (iblk m c 1 t (ix2 k j) : EReal)
    = m ((c : Thread nD τ).loc main_arg2) (ix2 k (column t j)) := by
  refine (congrArg (V m c main_arg2) (place1 t k j)).trans ?_
  rw [V_main_arg2]

theorem bias_block (t : Fin cfg0.N) (j : Fin 1024) : (iblk m c 2 t (ix2 0 j) : EReal)
    = m ((c : Thread nD τ).loc main_arg3) (ix1 (column t j)) := by
  refine (congrArg (V m c main_v5) (place2 t j)).trans ?_
  rw [V_bias]
  exact line_apply _ _

/-- The kernel's array is the table. -/
theorem kernel_result : (dats m 0 c).arrAt 3 cfg0.N = kerTable m c := by
  refine (dats m 0 c).arrAt_eq_of_covers 3 _ (by decide +kernel) fun t hf y => ?_
  blk_simp
  rw [after0_3]
  obtain ⟨i, j, rfl⟩ : ∃ i j, y = ix2 i j := ⟨y 0, y 1, by funext d; fin_cases d <;> rfl⟩
  refine (out_apply _ _ _ i j).trans ?_
  refine Eq.trans ?_ (congrArg (kerTable m c) (place3 t i j)).symm
  refine Eq.trans ?_ (table_eq _ _ _ _ i (column t j))
  unfold modulation
  refine congrArg₂ (fun a b : EReal => a + b) (Finset.sum_congr rfl fun k _ => ?_) (bias_block m c t j)
  exact congrArg₂ (fun a b : EReal => a * b) (congrArg silu (rows_block m c t i k)) (weights_block m c t k j)

end Cert.Mod

end
-- ==== Proof.ModulationRef.lean ====
/- The modulation rows of the reference. -/
module

public import proofs.«01_k».proof.Proof.Gen.Reference3Ideal.Run
public import proofs.«01_k».proof.Proof.Modulation

@[expose] public section

set_option maxRecDepth 16384

noncomputable section

namespace Cert.Mod

open Cert.Reference3Ideal Cert.Reference3Ideal.Gen Cert.Reference3Ideal.Value Idealize.ShloMosaic Idealize.ShloMosaic.TcCoe Idealize.SL.Sem

/-- The array that the reference leaves, of any four arguments, is the table. -/
theorem ref_table (x0 : FVec Ideal S2x2048 .f32) (x1 : FVec Ideal S2048 .f32) (x2 : FVec Ideal S2048x12288 .f32) (x3 : FVec Ideal S12288 .f32) :
    ((concatenate S8x12288 0 [⟨S2x12288, ((addf (Host.dotGeneral (φ₁ := .f32) (φ₂ := .f32) dot_S2x2048_S2048x12288_S2x12288_1_0_0_1_n_n none (mulf x0 (Host.divf (broadcastInDim S2x2048 ![] bcast_S_S2x2048 (constant S_ .f32 0x3F800000#32)) (addf (broadcastInDim S2x2048 ![] bcast_S_S2x2048 (constant S_ .f32 0x3F800000#32)) (Host.exp (Host.negf x0))))) x2) (broadcastInDim S2x12288 ![0, 1] bcast_S1x12288_S2x12288_0_1 (broadcastInDim S1x12288 ![1] bcast_S12288_S1x12288_1 x3))) : FVec Ideal S2x12288 .f32)⟩, ⟨S1x12288, ((broadcastInDim S1x12288 ![1] bcast_S12288_S1x12288_1 (addf (Host.dotGeneral (φ₁ := .f32) (φ₂ := .f32) dot_S2048_S2048x12288_S12288_0_0_n_1_n_n none (mulf x1 (Host.divf (broadcastInDim S2048 ![] bcast_S_S2048 (constant S_ .f32 0x3F800000#32)) (addf (broadcastInDim S2048 ![] bcast_S_S2048 (constant S_ .f32 0x3F800000#32)) (Host.exp (Host.negf x1))))) x2) x3)) : FVec Ideal S1x12288 .f32)⟩, ⟨S5x12288, ((broadcastInDim S5x12288 ![1] bcast_S12288_S5x12288_1 x3) : FVec Ideal S5x12288 .f32)⟩] concatenates_S2x12288_S1x12288_S5x12288_S8x12288_d0 : FVec Ideal S8x12288 .f32))
      = fun y => table (fun b k => x0 (ix2 b k)) (fun k => x1 (ix1 k)) (fun k j => x2 (ix2 k j)) (fun j => x3 (ix1 j)) (y 0) (y 1) := by
  funext y
  obtain ⟨i, j, rfl⟩ : ∃ i j, y = ix2 i j := ⟨y 0, y 1, by funext d; fin_cases d <;> rfl⟩
  change _ = table (fun b k => x0 (ix2 b k)) (fun k => x1 (ix1 k)) (fun k j => x2 (ix2 k j)) (fun j => x3 (ix1 j)) i j
  unfold table modulation silu
  pointwise []
  split
  · rfl
  · split
    · rw [if_pos (by omega)]
      rfl
    · rw [if_neg (by omega)]

end Cert.Mod

end
-- ==== Proof.Latents.lean ====
/- The values of the attention as a function of their latents, the norm's gains and the up-projection. -/
module

public import Idealize.ShloMosaic.Lib.Pointwise
public import Idealize.ShloMosaic.Lib.Claim

@[expose] public section

noncomputable section

namespace Cert.Lat

open Idealize.ShloMosaic

/-- A row `x` of latents, normed by its mean square and scaled by `g`. -/
def normed (x g : Fin 256 → EReal) (k : Fin 256) : EReal :=
  x k * Ideal.rsqrt (Ideal.div (∑ l, x l * x l) (Ideal.ofBits .f32 0x43800000#32) + Ideal.ofBits .f32 0x358637BD#32) * g k

/-- The value of head `h` in row `d` of 144, the last sixteen being ones, of a token's latents `x`. -/
def value (x g : Fin 256 → EReal) (w : Fin 256 → Fin 2048 → EReal) (h : Fin 8) (d : Fin 144) : EReal :=
  if hd : d.val < 128 then ∑ k, normed x g k * w k ⟨h.val * 256 + (128 + d.val), by omega⟩ else 1

end Cert.Lat

end
-- ==== Proof.LatentBlock.lean ====
/- A point's block of the values that the call `mla_prep` computes. -/
module

public import proofs.«01_k».proof.Proof.Gen.Kernel4Ideal.Value
public import proofs.«01_k».proof.Proof.Latents
public import Idealize.ShloMosaic.Lib.Pointwise
public import Idealize.ShloMosaic.Lib.Pipeline.ValueKit
public import Idealize.ShloMosaic.Lib.Writes

@[expose] public section

set_option maxRecDepth 16384

noncomputable section

namespace Cert.Lat

open Cert.Kernel4Ideal Cert.Kernel4Ideal.Gen Idealize.ShloMosaic Idealize.ShloMosaic.TcCoe Idealize.SL.Sem

/-! ## The pieces that a point stores -/

/-- A block of the values, of the product's rows. -/
def block (n : FVec Ideal S256x256 .bf16) (w : Vec Ideal S1024x256 .bf16) : Vec Ideal S1x8x144x256 .bf16 := fun y =>
  if hd : (y 2).val < 128 then k0_pay32 n w (ix2 ⟨(y 1).val * 128 + (y 2).val, by
    have h1 : (y 1).val < 8 := (y 1).isLt
    omega⟩ (y 3)) else (1 : EReal)

theorem block_head (n : FVec Ideal S256x256 .bf16) (w : Vec Ideal S1024x256 .bf16) (h : ℕ) (hh : h < 8) (d : Fin 128) (q : Fin 256)
    (y : S1x8x144x256.Idx) (h1 : (y 1).val = h) (h2 : (y 2).val = d.val) (h3 : (y 3).val = q.val) :
    (block n w y : EReal) = k0_pay32 n w (ix2 ⟨h * 128 + d.val, by omega⟩ q) := by
  unfold block
  rw [dif_pos (by omega)]
  refine congrArg (k0_pay32 n w) ?_
  funext a
  apply Fin.ext
  fin_cases a
  · change (y 1).val * 128 + (y 2).val = h * 128 + d.val
    rw [h1, h2]
  · exact h3

theorem block_ones (n : FVec Ideal S256x256 .bf16) (w : Vec Ideal S1024x256 .bf16) (y : S1x8x144x256.Idx) (h2 : 128 ≤ (y 2).val) :
    (block n w y : EReal) = 1 := by
  unfold block
  rw [dif_neg (by omega)]

theorem head_piece (n : FVec Ideal S256x256 .bf16) (w : Vec Ideal S1024x256 .bf16) (h : ℕ) (hh : h < 8) (p : FVec Ideal S1x1x128x256 .bf16)
    (hp : ∀ (d : Fin 128) (q : Fin 256), (p (ix4 0 0 d q) : EReal) = k0_pay32 n w (ix2 ⟨h * 128 + d.val, by omega⟩ q))
    (inb : ∀ a, ![0, h, 0, 0] a + ![1, 1, 128, 256] a ≤ S1x8x144x256.size a) (z : S1x1x128x256.Idx) :
    p z = block n w ((Rect.unit (s := S1x8x144x256) ![0, h, 0, 0] ![1, 1, 128, 256] inb).emb z) := by
  obtain ⟨d, q, rfl⟩ : ∃ (d : Fin 128) (q : Fin 256), z = ix4 0 0 d q := by
    refine ⟨z 2, z 3, ?_⟩
    funext a
    fin_cases a <;> first | rfl | exact Subsingleton.elim (α := Fin 1) _ _
  refine (hp d q).trans (block_head n w h hh d q _ ?_ ?_ ?_).symm
  · change h + 1 * 0 = h
    omega
  · change 0 + 1 * d.val = d.val
    omega
  · change 0 + 1 * q.val = q.val
    omega

theorem ones_piece (n : FVec Ideal S256x256 .bf16) (w : Vec Ideal S1024x256 .bf16) (h : ℕ) (p : FVec Ideal S1x1x16x256 .bf16)
    (hp : ∀ (d : Fin 16) (q : Fin 256), (p (ix4 0 0 d q) : EReal) = 1)
    (inb : ∀ a, ![0, h, 128, 0] a + ![1, 1, 16, 256] a ≤ S1x8x144x256.size a) (z : S1x1x16x256.Idx) :
    p z = block n w ((Rect.unit (s := S1x8x144x256) ![0, h, 128, 0] ![1, 1, 16, 256] inb).emb z) := by
  obtain ⟨d, q, rfl⟩ : ∃ (d : Fin 16) (q : Fin 256), z = ix4 0 0 d q := by
    refine ⟨z 2, z 3, ?_⟩
    funext a
    fin_cases a <;> first | rfl | exact Subsingleton.elim (α := Fin 1) _ _
  refine (hp d q).trans (block_ones n w _ ?_).symm
  change 128 ≤ 128 + 1 * d.val
  omega

/-- The columns of a point's input that hold its latents. -/
def latents (x : Vec Ideal S256x1024 .f32) : Vec Ideal S256x256 .f32 := fun y => x (ix2 (y 0) ⟨512 + (y 1).val, by
  have h1 : (y 1).val < 256 := (y 1).isLt
  omega⟩)

variable (c : Dev nD) (i : grid0.Coords) (arg1 : Memref sig .tc .vmem S256x1024 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x512 .f32) (harg6 : arg6.IsWhole) (arg7 : Memref sig .tc .vmem S1x256 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S256x1024 .bf16) (harg10 : arg10.IsWhole) (arg11 : Memref sig .tc .vmem S1024x256 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x8x144x256 .bf16) (harg14 : arg14.IsWhole) (x0 : Vec Ideal S256x1024 .f32) (x1 : Vec Ideal S256x128 .f32) (x2 : Vec Ideal S256x128 .f32) (x3 : Vec Ideal S256x256 .f32) (x4 : Vec Ideal S256x256 .f32) (x5 : Vec Ideal S1x512 .f32) (x6 : Vec Ideal S1x256 .f32) (x7 : Vec Ideal S512x2048 .bf16) (x8 : Vec Ideal S512x2048 .bf16) (x9 : Vec Ideal S256x1024 .bf16) (x10 : Vec Ideal S1024x256 .bf16)

theorem run_latents : kernelRun0_A.sl.r_1 (F := Ideal) c arg1 harg1 arg7 harg7 x0 x6 = k0_pay7 (latents x0) x6 := by
  unfold kernelRun0_A.sl.r_1
  rw [View.readAt_eq_ld, View.readAt_eq_ld, harg1.read_unread, harg7.read_unread, View.ld_unit_lit]
  · refine congrArg (fun x => k0_pay7 x x6) ?_
    funext y
    obtain ⟨q, k, rfl⟩ : ∃ q k, y = ix2 q k := ⟨y 0, y 1, by funext d; fin_cases d <;> rfl⟩
    refine congrArg x0 ?_
    funext a
    apply Fin.ext
    fin_cases a
    · change 0 + 1 * q.val = q.val
      omega
    · change 512 + 1 * k.val = 512 + k.val
      omega
  · intro a
    fin_cases a <;> rfl

theorem run_weights : kernelRun0_A.sl.r_12 (F := Ideal) c arg11 harg11 x10 = x10 := by
  unfold kernelRun0_A.sl.r_12
  rw [View.readAt_eq_ld, harg11.read_unread, View.ld_unit_lit]
  intro a
  fin_cases a <;> rfl

theorem run_product : kernelRun0_A.sl.r_13 (F := Ideal) c arg1 harg1 arg7 harg7 arg11 harg11 x0 x6 x10 = k0_pay32 (k0_pay7 (latents x0) x6) x10 := by
  unfold kernelRun0_A.sl.r_13
  rw [run_latents, run_weights]

theorem out_eq : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = block (k0_pay7 (latents x0) x6) x10 := by
  funext y
  unfold out0_A_13
  refine View.read_writes_apply_of_pieces _ _ _ _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y)
  unfold kernelRun0_A
  dsimp only
  rw [run_product, run_latents, run_weights]
  simp only [List.forall_mem_cons]
  refine ⟨?_, ?_, ?_, ?_, ?_, ?_, ?_, ?_, ?_, ?_, ?_, ?_, ?_, ?_, ?_, ?_, fun _ h => absurd h List.not_mem_nil⟩
  · exact ones_piece _ _ 7 _ (fun d q => by pointwise [k0_pay5]) _
  · exact head_piece _ _ 7 (by omega) _ (fun d q => by pointwise [k0_pay4]) _
  · exact ones_piece _ _ 6 _ (fun d q => by pointwise [k0_pay3]) _
  · exact head_piece _ _ 6 (by omega) _ (fun d q => by pointwise [k0_pay2]) _
  · exact ones_piece _ _ 5 _ (fun d q => by pointwise [k0_pay1, k0_pay45]) _
  · exact head_piece _ _ 5 (by omega) _ (fun d q => by pointwise [k0_pay44]) _
  · exact ones_piece _ _ 4 _ (fun d q => by pointwise [k0_pay43]) _
  · exact head_piece _ _ 4 (by omega) _ (fun d q => by pointwise [k0_pay42]) _
  · exact ones_piece _ _ 3 _ (fun d q => by pointwise [k0_pay41]) _
  · exact head_piece _ _ 3 (by omega) _ (fun d q => by pointwise [k0_pay40]) _
  · exact ones_piece _ _ 2 _ (fun d q => by pointwise [k0_pay39, k0_pay38]) _
  · exact head_piece _ _ 2 (by omega) _ (fun d q => by pointwise [k0_pay37]) _
  · exact ones_piece _ _ 1 _ (fun d q => by pointwise [k0_pay36]) _
  · exact head_piece _ _ 1 (by omega) _ (fun d q => by pointwise [k0_pay35]) _
  · exact ones_piece _ _ 0 _ (fun d q => by pointwise [k0_pay34]) _
  · exact head_piece _ _ 0 (by omega) _ (fun d q => by pointwise [k0_pay33]) _

end Cert.Lat

end
-- ==== Proof.LatentKernel.lean ====
/- The values that the call `mla_prep` computes, of its arguments. -/
module

public import proofs.«01_k».proof.Proof.Gen.Kernel4Ideal.Value
public import proofs.«01_k».proof.Proof.LatentBlock
public import Idealize.ShloMosaic.Lib.Pointwise
public import Idealize.ShloMosaic.Lib.Pipeline.ValueKit
public import Idealize.ShloMosaic.Lib.Writes

@[expose] public section

set_option maxRecDepth 16384

noncomputable section

namespace Cert.Lat

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-! ## The arrays that the host writes -/

/-- The call's input: its first columns are the argument's. -/
theorem V_input : ∃ a b : FVec Ideal S16896x128 .f32, V m c main_v10 = concatenate S16896x1024 1
    [⟨S16896x768, ((extractStridedSlice S16896x768 ![0, 0] (m ((c : Thread nD τ).loc main_arg0)) slices_S16896x832_S16896x768_0_0) : FVec Ideal S16896x768 .f32)⟩,
      ⟨S16896x128, a⟩, ⟨S16896x128, b⟩] concatenates_S16896x768_S16896x128_S16896x128_S16896x1024_d1 := by
  simp only [V, List.flatten_cons, List.flatten_nil, List.append_nil, StableHlo.after_append]
  after_results
  exact ⟨_, _, rfl⟩

theorem input_apply (x : FVec Ideal S16896x832 .f32) (a b : FVec Ideal S16896x128 .f32) (i : Fin 16896) (k : Fin 256) :
    (concatenate S16896x1024 1
      [⟨S16896x768, ((extractStridedSlice S16896x768 ![0, 0] x slices_S16896x832_S16896x768_0_0) : FVec Ideal S16896x768 .f32)⟩,
        ⟨S16896x128, a⟩, ⟨S16896x128, b⟩] concatenates_S16896x768_S16896x128_S16896x128_S16896x1024_d1 (ix2 i ⟨512 + k.val, by omega⟩) : EReal)
      = (x (ix2 i ⟨512 + k.val, by omega⟩) : EReal) := by
  pointwise []
  rw [dif_pos (by omega)]

theorem V_gain : V m c main_v58 = shapeCast S1x256 (m ((c : Thread nD τ).loc main_arg3)) shapeCasts_S256_S1x256 := by
  simp only [V, List.flatten_cons, List.flatten_nil, List.append_nil, StableHlo.after_append]
  after_results
  rfl

theorem gain_apply (g : FVec Ideal S256 .f32) (k : Fin 256) : (shapeCast S1x256 g shapeCasts_S256_S1x256 (ix2 0 k) : EReal) = (g (ix1 k) : EReal) := by
  pointwise []

/-- The heads' value weights, transposed. -/
def valueWeights (w : FVec Ideal S256x2048 .f32) : FVec Ideal S1024x256 .bf16 :=
  truncf .bf16 (transpose S1024x256 [1, 0] (shapeCast S256x1024 (extractStridedSlice S256x8x128 ![0, 0, 128]
    (shapeCast S256x8x256 w shapeCasts_S256x2048_S256x8x256) slices_S256x8x256_S256x8x128_0_0_128) shapeCasts_S256x8x128_S256x1024)
    transposes_S256x1024_S1024x256_1_0) bitsLt_bf16_f32

theorem V_weights : V m c main_v56 = valueWeights (m ((c : Thread nD τ).loc main_arg4)) := by
  simp only [V, List.flatten_cons, List.flatten_nil, List.append_nil, StableHlo.after_append]
  after_results
  rfl

theorem weights_apply (w : FVec Ideal S256x2048 .f32) (h : Fin 8) (d : Fin 128) (k : Fin 256) :
    (valueWeights w (ix2 ⟨h.val * 128 + d.val, by omega⟩ k) : EReal) = (w (ix2 k ⟨h.val * 256 + (128 + d.val), by omega⟩) : EReal) := by
  pointwise [valueWeights]

/-! ## A point's arithmetic -/

/-- The normed latents of a point's tokens. -/
theorem normed_apply (x : Vec Ideal S256x256 .f32) (g : Vec Ideal S1x256 .f32) (q k : Fin 256) :
    (k0_pay7 x g (ix2 q k) : EReal) = normed (fun k => (x (ix2 q k) : EReal)) (fun k => (g (ix2 0 k) : EReal)) k := by
  unfold normed
  pointwise [k0_pay7]

/-- A row of the product. -/
theorem product_apply (n : FVec Ideal S256x256 .bf16) (w : Vec Ideal S1024x256 .bf16) (r : Fin 1024) (q : Fin 256) :
    (k0_pay32 n w (ix2 r q) : EReal) = ∑ k : Fin 256, (w (ix2 r k) : EReal) * (n (ix2 q k) : EReal) := by
  pointwise [k0_pay32]

/-! ## The windows -/

def point (t : Fin cfg0.N) : Fin 66 := (grid0.coords t) 0

theorem blocks (t : Fin cfg0.N) : win0_0.index t = ![(point t).val, 0] ∧ win0_6.index t = ![0, 0] ∧ win0_10.index t = ![0, 0]
    ∧ win0_13.index t = ![(point t).val / 33, 0, 0, (point t).val % 33] := by
  revert t
  change ∀ t : Fin grid0.N, _
  decide +kernel

def token (t : Fin cfg0.N) (q : Fin 256) : Fin 16896 := ⟨(point t).val * 256 + q.val, by omega⟩

theorem place0 (t : Fin cfg0.N) (q : Fin 256) (j : Fin 1024) : (win0_0.blk t).view.emb (ix2 q j) = ix2 (token t q) j := by
  have h := (blocks t).1
  funext d
  apply Fin.ext
  fin_cases d <;> blk_simp [h] <;> simp [token]

theorem place6 (t : Fin cfg0.N) (k : Fin 256) : (win0_6.blk t).view.emb (ix2 0 k) = ix2 0 k := by
  have h := (blocks t).2.1
  funext d
  apply Fin.ext
  fin_cases d <;> blk_simp [h] <;> simp

theorem place10 (t : Fin cfg0.N) (r : Fin 1024) (k : Fin 256) : (win0_10.blk t).view.emb (ix2 r k) = ix2 r k := by
  have h := (blocks t).2.2.1
  funext d
  apply Fin.ext
  fin_cases d <;> blk_simp [h] <;> simp

theorem input_block (t : Fin cfg0.N) (q k : Fin 256) : (iblk m c 0 t (ix2 q ⟨512 + k.val, by omega⟩) : EReal)
    = m ((c : Thread nD τ).loc main_arg0) (ix2 (token t q) ⟨512 + k.val, by omega⟩) := by
  refine (congrArg (V m c main_v10) (place0 t q ⟨512 + k.val, by omega⟩)).trans ?_
  obtain ⟨a, b, e⟩ := V_input m c
  rw [e]
  exact input_apply _ a b (token t q) k

theorem gain_block (t : Fin cfg0.N) (k : Fin 256) : (iblk m c 6 t (ix2 0 k) : EReal) = m ((c : Thread nD τ).loc main_arg3) (ix1 k) := by
  refine (congrArg (V m c main_v58) (place6 t k)).trans ?_
  rw [V_gain]
  exact gain_apply _ _

theorem weights_block (t : Fin cfg0.N) (h : Fin 8) (d : Fin 128) (k : Fin 256) : (iblk m c 10 t (ix2 ⟨h.val * 128 + d.val, by omega⟩ k) : EReal)
    = m ((c : Thread nD τ).loc main_arg4) (ix2 k ⟨h.val * 256 + (128 + d.val), by omega⟩) := by
  refine (congrArg (V m c main_v56) (place10 t _ k)).trans ?_
  rw [V_weights]
  exact weights_apply _ h d k

/-- The values of the program's arguments. -/
def kerValues : Vec Ideal S2x8x144x8448 .bf16 := fun y =>
  value (fun k => m ((c : Thread nD τ).loc main_arg0) (ix2 ⟨(y 0).val * 8448 + (y 3).val, by
      have h0 : (y 0).val < 2 := (y 0).isLt
      have h3 : (y 3).val < 8448 := (y 3).isLt
      omega⟩ ⟨512 + k.val, by omega⟩))
    (fun k => m ((c : Thread nD τ).loc main_arg3) (ix1 k)) (fun k j => m ((c : Thread nD τ).loc main_arg4) (ix2 k j)) (y 1) (y 2)

theorem place13 (t : Fin cfg0.N) (y : S1x8x144x256.Idx) : (((win0_13.blk t).view.emb y) 0).val = (point t).val / 33
    ∧ ((win0_13.blk t).view.emb y) 1 = y 1 ∧ ((win0_13.blk t).view.emb y) 2 = y 2
    ∧ (((win0_13.blk t).view.emb y) 3).val = (point t).val % 33 * 256 + (y 3).val := by
  have h := (blocks t).2.2.2
  refine ⟨?_, Fin.ext ?_, Fin.ext ?_, ?_⟩ <;> blk_simp [h]

/-- The kernel's array holds the values. -/
theorem kernel_result : (dats m 0 c).arrAt 13 cfg0.N = kerValues m c := by
  refine (dats m 0 c).arrAt_eq_of_covers 13 _ (by decide +kernel) fun t hf y => ?_
  blk_simp
  obtain ⟨p0, p1, p2, p3⟩ := place13 t y
  have h2 : (y 2).val < 144 := (y 2).isLt
  have h3 : (y 3).val < 256 := (y 3).isLt
  have ht : (point t).val < 66 := (point t).isLt
  have e : (dats m 0 c).after 13 t y = block (k0_pay7 (latents (iblk m c 0 t)) (iblk m c 6 t)) (iblk m c 10 t) y := by
    rw [after0_13]
    unfold outsAt0
    exact congrFun (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t)) y
  refine e.trans ?_
  have row : ∀ (q : Fin 256) (i : Fin 16896), i.val = (point t).val * 256 + q.val → i = token t q := fun q i h => Fin.ext h
  have ei : (⟨(((win0_13.blk t).view.emb y) 0).val * 8448 + (((win0_13.blk t).view.emb y) 3).val, by omega⟩ : Fin 16896) = token t (y 3) :=
    row _ _ (by
      change (((win0_13.blk t).view.emb y) 0).val * 8448 + (((win0_13.blk t).view.emb y) 3).val = (point t).val * 256 + (y 3).val
      omega)
  unfold kerValues
  rw [ei, p1, p2]
  unfold block value
  split
  · rename_i hd
    refine (product_apply _ _ _ _).trans (Finset.sum_congr rfl fun k _ => ?_)
    refine (mul_comm _ _).trans (congrArg₂ (fun a b : EReal => a * b) ?_ (weights_block m c t (y 1) ⟨(y 2).val, hd⟩ k))
    refine (normed_apply _ _ _ _).trans ?_
    refine congrArg₂ (fun a b => normed a b k) (funext fun k => input_block m c t (y 3) k) (funext fun k => gain_block m c t k)
  · rfl

end Cert.Lat

end
-- ==== Proof.LatentRef.lean ====
/- The values of the reference. -/
module

public import proofs.«01_k».proof.Proof.Latents
public import proofs.«01_k».proof.Proof.Gen.Reference4Ideal.Run

@[expose] public section

set_option maxRecDepth 16384

noncomputable section

namespace Cert.Lat

open Cert.Reference4Ideal Cert.Reference4Ideal.Gen Cert.Reference4Ideal.Value Idealize.ShloMosaic Idealize.ShloMosaic.TcCoe Idealize.SL.Sem

/-- The up-projection of the normed latents, a head's keys and values in a row. -/
def refUp (x : FVec Ideal S16896x832 .f32) (g : FVec Ideal S256 .f32) (w : FVec Ideal S256x2048 .f32) : FVec Ideal S2x8448x8x256 .f32 :=
  shapeCast S2x8448x8x256 (Host.dotGeneral (φ₁ := .f32) (φ₂ := .f32) dot_S2x8448x256_S256x2048_S2x8448x2048_2_0_01_1_n_n none (mulf (mulf (extractStridedSlice S2x8448x256 ![0, 0, 512] (shapeCast S2x8448x832 x shapeCasts_S16896x832_S2x8448x832) slices_S2x8448x832_S2x8448x256_0_0_512) (broadcastInDim S2x8448x256 ![0, 1, 2] bcast_S2x8448x1_S2x8448x256_0_1_2 (Host.rsqrt (addf (Host.divf (broadcastInDim S2x8448x1 ![0, 1] bcast_S2x8448_S2x8448x1_0_1 (Host.reduceAdd (mulf (extractStridedSlice S2x8448x256 ![0, 0, 512] (shapeCast S2x8448x832 x shapeCasts_S16896x832_S2x8448x832) slices_S2x8448x832_S2x8448x256_0_0_512) (extractStridedSlice S2x8448x256 ![0, 0, 512] (shapeCast S2x8448x832 x shapeCasts_S16896x832_S2x8448x832) slices_S2x8448x832_S2x8448x256_0_0_512)) (constant S_ .f32 0x00000000#32) reducesTo_S2x8448x256_S2x8448_d2 h_S_)) (broadcastInDim S2x8448x1 ![] bcast_S_S2x8448x1 (constant S_ .f32 0x43800000#32))) (broadcastInDim S2x8448x1 ![] bcast_S_S2x8448x1 (constant S_ .f32 0x358637BD#32)))))) (broadcastInDim S2x8448x256 ![0, 1, 2] bcast_S1x1x256_S2x8448x256_0_1_2 (broadcastInDim S1x1x256 ![2] bcast_S256_S1x1x256_2 g))) w) shapeCasts_S2x8448x2048_S2x8448x8x256

/-- Its values, transposed over rows of ones. -/
def refValues (kv : FVec Ideal S2x8448x8x256 .f32) : FVec Ideal S2x8x144x8448 .bf16 :=
  truncf .bf16 (transpose S2x8x144x8448 [0, 2, 3, 1] (concatenate S2x8448x8x144 3 [⟨S2x8448x8x128, ((extractStridedSlice S2x8448x8x128 ![0, 0, 0, 128] kv slices_S2x8448x8x256_S2x8448x8x128_0_0_0_128) : FVec Ideal S2x8448x8x128 .f32)⟩, ⟨S2x8448x8x16, ((broadcastInDim S2x8448x8x16 ![] bcast_S_S2x8448x8x16 (constant S_ .f32 0x3F800000#32)) : FVec Ideal S2x8448x8x16 .f32)⟩] concatenates_S2x8448x8x128_S2x8448x8x16_S2x8448x8x144_d3) transposes_S2x8448x8x144_S2x8x144x8448_0_2_3_1) bitsLt_bf16_f32

theorem refUp_apply (x : FVec Ideal S16896x832 .f32) (g : FVec Ideal S256 .f32) (w : FVec Ideal S256x2048 .f32)
    (b : Fin 2) (s : Fin 8448) (h : Fin 8) (e : Fin 256) :
    (refUp x g w (ix4 b s h e) : EReal)
      = ∑ k : Fin 256, normed (fun k => (x (ix2 ⟨b.val * 8448 + s.val, by omega⟩ ⟨512 + k.val, by omega⟩) : EReal))
          (fun k => (g (ix1 k) : EReal)) k * (w (ix2 k ⟨h.val * 256 + e.val, by omega⟩) : EReal) := by
  unfold normed
  pointwise [refUp]

theorem refValues_apply (kv : FVec Ideal S2x8448x8x256 .f32) (b : Fin 2) (h : Fin 8) (d : Fin 144) (s : Fin 8448) :
    (refValues kv (ix4 b h d s) : EReal) = if hd : d.val < 128 then (kv (ix4 b s h ⟨128 + d.val, by omega⟩) : EReal) else 1 := by
  pointwise [refValues]

/-- What the reference leaves, of any arguments, at an element. -/
theorem ref_value (x : FVec Ideal S16896x832 .f32) (g : FVec Ideal S256 .f32) (w : FVec Ideal S256x2048 .f32)
    (b : Fin 2) (h : Fin 8) (d : Fin 144) (s : Fin 8448) :
    (refValues (refUp x g w) (ix4 b h d s) : EReal)
      = value (fun k => (x (ix2 ⟨b.val * 8448 + s.val, by omega⟩ ⟨512 + k.val, by omega⟩) : EReal)) (fun k => (g (ix1 k) : EReal))
          (fun k j => (w (ix2 k j) : EReal)) h d := by
  rw [refValues_apply]
  unfold value
  split
  · exact refUp_apply x g w b s h _
  · rfl

/-- The array that the reference leaves, of any arguments. -/
theorem ref_values (x : FVec Ideal S16896x832 .f32) (g : FVec Ideal S256 .f32) (w : FVec Ideal S256x2048 .f32) :
    refValues (refUp x g w) = fun y =>
      value (fun k => (x (ix2 ⟨(y 0).val * 8448 + (y 3).val, by
          have h0 : (y 0).val < 2 := (y 0).isLt
          have h3 : (y 3).val < 8448 := (y 3).isLt
          omega⟩ ⟨512 + k.val, by omega⟩) : EReal)) (fun k => (g (ix1 k) : EReal))
        (fun k j => (w (ix2 k j) : EReal)) (y 1) (y 2) := by
  funext y
  obtain ⟨b, h, d, s, rfl⟩ : ∃ b h d s, y = ix4 b h d s := ⟨y 0, y 1, y 2, y 3, by funext a; fin_cases a <;> rfl⟩
  exact ref_value x g w b h d s

end Cert.Lat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Finite
public import proofs.«01_k».proof.Proof.Blocks
public import proofs.«01_k».proof.Proof.RefValue
public import proofs.«01_k».proof.Proof.ProjectFrameWords
public import proofs.«01_k».proof.Proof.ProjectResult
public import proofs.«01_k».proof.Proof.ProjectRef
public import proofs.«01_k».proof.Proof.ModulationRef
public import proofs.«01_k».proof.Proof.LatentKernel
public import proofs.«01_k».proof.Proof.LatentRef
public import Idealize.ShloMosaic.Adequacy
public import Idealize.ShloMosaic.Init

@[expose] public section

noncomputable section

namespace Cert.Proof

open Idealize.ShloMosaic Idealize.SL.Sem Cert.Kernel

/-- The reference's arguments are unchanged, and it has no counter. -/
theorem reference_frame : quiescent_ReferenceIdeal := fun m g _ =>
  (θ_run _ _ _).mono
    (fun r h => And.intro (fun c => (h c).2) (Idealize.ShloMosaic.sem_eq_zero_of_no_sems (by decide) r.2))
    (Cert.ReferenceIdeal.Value.run (F := Ideal) m g)

/-- From the precondition, the kernel and the reference both end with the attention of their arguments. -/
theorem algebraic : algebraic_KernelIdeal_ReferenceIdeal_pre_finite := by
  intro m g m' g' hpre hargs
  refine ⟨fun c => Cert.Attn.attention m c, ?_, ?_⟩
  · refine (θ_run _ _ _).mono (fun r h c => ?_) (Cert.KernelIdeal.Value.run_blocks (F := Ideal) m g)
    obtain ⟨f0, f1, f2, f3, f4, f5⟩ := Cert.Attn.finite_args _ _ _ _ _ _ _ _ (hpre c)
    exact ⟨(h c).1.trans (Cert.Attn.kernel_result m c f0 f1 f2 f3 f4 f5), (h c).2⟩
  · refine (θ_run _ _ _).mono (fun r h c => ?_) (Cert.ReferenceIdeal.Value.run (F := Ideal) m' g')
    obtain ⟨f0, f1, f2, f3, f4, f5⟩ := Cert.Attn.finite_args _ _ _ _ _ _ _ _ (hpre c)
    obtain ⟨e0, e1, e2, e3, e4, e5, e6, e7⟩ := hargs c
    refine ⟨(h c).1.trans ?_, (h c).2⟩
    rw [Cert.Attn.ref_eq, e0, e1, e2, e3, e4, e5, e6, e7]
    exact Cert.Attn.ref_result _ _ _ _ _ _ _ _ f0 f1 f2 f3 f4 f5

/-- The second reference's arguments are unchanged, and it has no counter. -/
theorem reference2_frame : quiescent_Reference2Ideal := fun m g _ =>
  (θ_run _ _ _).mono
    (fun r h => And.intro (fun c => (h c).2.2.2.2.2.2.2) (Idealize.ShloMosaic.sem_eq_zero_of_no_sems (by decide) r.2))
    (Cert.Proj.reference_run m g)

/-- The projections: both end with those of their arguments. -/
theorem algebraic_project : algebraic_Kernel2Ideal_Reference2Ideal := by
  intro m g m' g' _ hargs
  refine ⟨fun c => Cert.Proj.rows (Cert.Proj.mla (Cert.Proj.kerArgs m c)), fun c => Cert.Proj.rows (Cert.Proj.rkv (Cert.Proj.kerArgs m c) 0),
    fun c => Cert.Proj.rows (Cert.Proj.rkv (Cert.Proj.kerArgs m c) 1), fun c => Cert.Proj.rows (Cert.Proj.rkv (Cert.Proj.kerArgs m c) 2),
    fun c => Cert.Proj.rows (Cert.Proj.decay (Cert.Proj.kerArgs m c)), fun c => Cert.Proj.rows (Cert.Proj.rate (Cert.Proj.kerArgs m c)),
    fun c => Cert.Proj.rows (Cert.Proj.gate (Cert.Proj.kerArgs m c)), ?_, ?_⟩
  · refine (θ_run _ _ _).mono (fun r h c => ?_) (Cert.Proj.run_blocks (F := Ideal) m g)
    obtain ⟨h0, h1, h2, h3, h4, h5, h6, h7⟩ := h c
    exact ⟨h0.trans (Cert.Proj.result15 m c), h1.trans (Cert.Proj.result16 m c), h2.trans (Cert.Proj.result17 m c),
      h3.trans (Cert.Proj.result18 m c), h4.trans (Cert.Proj.result19 m c), h5.trans (Cert.Proj.result20 m c),
      h6.trans (Cert.Proj.result21 m c), h7⟩
  · refine (θ_run _ _ _).mono (fun r h c => ?_) (Cert.Proj.reference_run m' g')
    have e : Cert.Proj.refArgs (StableHlo.launchContents m' c) = Cert.Proj.kerArgs m c := by
      obtain ⟨e0, e1, e2, e3, e4, e5, e6, e7, e8, e9, e10, e11⟩ := hargs c
      unfold Cert.Proj.kerArgs
      rw [← e0, ← e1, ← e2, ← e3, ← e4, ← e5, ← e6, ← e7, ← e8, ← e9, ← e10, ← e11]
      rfl
    have hc := h c
    rw [e] at hc
    exact hc

/-- The third reference's arguments are unchanged, and it has no counter. -/
theorem reference3_frame : quiescent_Reference3Ideal := fun m g _ =>
  (θ_run _ _ _).mono
    (fun r h => And.intro (fun c => (h c).2) (Idealize.ShloMosaic.sem_eq_zero_of_no_sems (by decide) r.2))
    (Cert.Reference3Ideal.Value.run (F := Ideal) m g)

/-- The modulation: both end with the table of their arguments. -/
theorem algebraic_modulation : algebraic_Kernel3Ideal_Reference3Ideal := by
  intro m g m' g' _ hargs
  refine ⟨fun c => Cert.Mod.kerTable m c, ?_, ?_⟩
  · refine (θ_run _ _ _).mono (fun r h c => ?_) (Cert.Kernel3Ideal.Value.run_blocks (F := Ideal) m g)
    exact ⟨(h c).1.trans (Cert.Mod.kernel_result m c), (h c).2⟩
  · refine (θ_run _ _ _).mono (fun r h c => ?_) (Cert.Reference3Ideal.Value.run (F := Ideal) m' g')
    obtain ⟨e0, e1, e2, e3⟩ := hargs c
    refine ⟨(h c).1.trans ?_, (h c).2⟩
    rw [e0, e1, e2, e3]
    exact Cert.Mod.ref_table _ _ _ _

/-- The fourth reference's arguments are unchanged, and it has no counter. -/
theorem reference4_frame : quiescent_Reference4Ideal := fun m g _ =>
  (θ_run _ _ _).mono
    (fun r h => And.intro (fun c => (h c).2) (Idealize.ShloMosaic.sem_eq_zero_of_no_sems (by decide) r.2))
    (Cert.Reference4Ideal.Value.run (F := Ideal) m g)

/-- The values: both end with those of their arguments. -/
theorem algebraic_values : algebraic_Kernel4Ideal_Reference4Ideal := by
  intro m g m' g' _ hargs
  refine ⟨fun c => Cert.Lat.kerValues m c, ?_, ?_⟩
  · refine (θ_run _ _ _).mono (fun r h c => ?_) (Cert.Kernel4Ideal.Value.run_blocks (F := Ideal) m g)
    exact ⟨(h c).2.2.1.trans (Cert.Lat.kernel_result m c), (h c).2.2.2⟩
  · refine (θ_run _ _ _).mono (fun r h c => ?_) (Cert.Reference4Ideal.Value.run (F := Ideal) m' g')
    obtain ⟨e0, -, -, e3, e4, -⟩ := hargs c
    refine ⟨(h c).1.trans ?_, (h c).2⟩
    rw [e0, e3, e4]
    exact Cert.Lat.ref_values _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ True.intro,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  trivial,
  algebraic,
  trivial,
  algebraic_project,
  trivial,
  algebraic_modulation,
  trivial,
  algebraic_values⟩

end Cert.Proof

end
